-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x1024 : Shape := ⟨2, ![1024, 1024]⟩
abbrev S1x2048x128x128 : Shape := ⟨4, ![1, 2048, 128, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x128x128 : S_.BroadcastsInDim S1x2048x128x128 (![] : Fin 0 → Fin S1x2048x128x128.rank)
  reducesTo_S1x2048x128x128_S_d0_1_2_3 : S1x2048x128x128.ReducesTo [0, 1, 2, 3] S_

variable [Facts]

def fn {F : FTy → Type} [FloatOps F] (main_arg0 : FVec F S1x2048x1024 .bf16) (main_arg1 : FVec F S1024x1024 .bf16) (main_arg2 : FVec F S1x2048x128x128 .bf16) (main_arg3 : FVec F S1x2048x128x128 .bf16) (main_arg4 : FVec F S1024x1024 .bf16) : IVec S_ 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x128x128 .bf16 := Host.absf main_arg2
  let main_cst_2 : FVec F S_ .bf16 := constant S_ .bf16 0x7F80#16
  let main_v10 : FVec F S1x2048x128x128 .bf16 := broadcastInDim S1x2048x128x128 ![] bcast_S_S1x2048x128x128 main_cst_2
  let main_v11 : IVec S1x2048x128x128 1 := cmpf .olt main_v9 main_v10
  let main_c_3 : IVec S_ 1 := constantI S_ 1 1#1
  let main_v12 : IVec S_ 1 := (fun x v => Host.reduce IntOp.andi x v reducesTo_S1x2048x128x128_S_d0_1_2_3 h_S_) main_v11 main_c_3
  let main_v13 : IVec S_ 1 := andi main_v8 main_v12
  main_v13
-- ==== Pre_finite_scores_ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x2048x128x128 : S_.BroadcastsInDim S1x2048x128x128 (![] : Fin 0 → Fin S1x2048x128x128.rank)
  reducesTo_S1x2048x128x128_S_d0_1_2_3 : S1x2048x128x128.ReducesTo [0, 1, 2, 3] S_

variable [Facts]

def fn {F : FTy → Type} [FloatOps F] (main_arg0 : FVec F S1x2048x1024 .bf16) (main_arg1 : FVec F S1024x16384 .bf16) (main_arg2 : FVec F S1x2048x128x128 .bf16) (main_arg3 : FVec F S1x2048x128x128 .bf16) (main_arg4 : FVec F S16384x1024 .bf16) : IVec S_ 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x16384 .bf16 := Host.absf main_arg1
  let main_cst_0 : FVec F S_ .bf16 := constant S_ .bf16 0x7F80#16
  let main_v5 : FVec F S1024x16384 .bf16 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x2048x128x128 .bf16 := Host.absf main_arg2
  let main_cst_2 : FVec F S_ .bf16 := constant S_ .bf16 0x7F80#16
  let main_v10 : FVec F S1x2048x128x128 .bf16 := broadcastInDim S1x2048x128x128 ![] bcast_S_S1x2048x128x128 main_cst_2
  let main_v11 : IVec S1x2048x128x128 1 := cmpf .olt main_v9 main_v10
  let main_c_3 : IVec S_ 1 := constantI S_ 1 1#1
  let main_v12 : IVec S_ 1 := (fun x v => Host.reduce IntOp.andi x v reducesTo_S1x2048x128x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x128x128 : Shape := ⟨4, ![1, 2048, 128, 128]⟩
abbrev S_ : Shape := ⟨0, ![]⟩
abbrev S2048x128x128 : Shape := ⟨3, ![2048, 128, 128]⟩
abbrev S2048x8x128 : Shape := ⟨3, ![2048, 8, 128]⟩
abbrev S8x2048x128 : Shape := ⟨3, ![8, 2048, 128]⟩
abbrev S2048x1024 : Shape := ⟨2, ![2048, 1024]⟩
abbrev S16x128x1024 : Shape := ⟨3, ![16, 128, 1024]⟩
abbrev S2x128x1024 : Shape := ⟨3, ![2, 128, 1024]⟩
abbrev S128x1024 : Shape := ⟨2, ![128, 1024]⟩
abbrev S2 : Shape := ⟨1, ![2]⟩
abbrev S128x2048 : Shape := ⟨2, ![128, 2048]⟩
abbrev S128x128 : Shape := ⟨2, ![128, 128]⟩
abbrev S1x2048x128 : Shape := ⟨3, ![1, 2048, 128]⟩
abbrev S2048x128 : Shape := ⟨2, ![2048, 128]⟩
abbrev S128 : Shape := ⟨1, ![128]⟩
abbrev S128x1 : Shape := ⟨2, ![128, 1]⟩
abbrev S1x128x1024 : Shape := ⟨3, ![1, 128, 1024]⟩
abbrev S1 : Shape := ⟨1, ![1]⟩

abbrev nBuf : Space → Nat
  | .hbm => 38
  | .vmem => 12
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x128x128, .bf16⟩
  | .hbm, ⟨3, _⟩ => ⟨S1x2048x128x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x128x128, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2048x8x128, .bf16⟩
  | .hbm, ⟨22, _⟩ => ⟨S2048x128x128, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2048x8x128, .bf16⟩
  | .hbm, ⟨33, _⟩ => ⟨S8x2048x128, .bf16⟩
  | .hbm, ⟨34, _⟩ => ⟨S8x2048x128, .bf16⟩
  | .hbm, ⟨35, _⟩ => ⟨S2048x1024, .bf16⟩
  | .hbm, ⟨36, _⟩ => ⟨S16x128x1024, .f32⟩
  | .hbm, ⟨37, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S8x2048x128, .bf16⟩
  | .local _ .vmem, ⟨3, _⟩ => ⟨S8x2048x128, .bf16⟩
  | .local _ .vmem, ⟨4, _⟩ => ⟨S1024x1024, .bf16⟩
  | .local _ .vmem, ⟨5, _⟩ => ⟨S16x128x1024, .f32⟩
  | .local _ .vmem, ⟨6, _⟩ => ⟨S2x128x1024, .bf16⟩
  | .local _ .vmem, ⟨7, _⟩ => ⟨S2x128x1024, .bf16⟩
  | .local _ .vmem, ⟨8, _⟩ => ⟨S2x128x1024, .bf16⟩
  | .local _ .vmem, ⟨9, _⟩ => ⟨S2x128x1024, .bf16⟩
  | .local _ .vmem, ⟨10, _⟩ => ⟨S128x1024, .bf16⟩
  | .local _ .vmem, ⟨11, _⟩ => ⟨S2048x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_c_9 : Ref sig .tc := ⟨.hbm, 30, rfl⟩
abbrev main_c_10 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_31 : BitVec 32 := 0#32
  let c8_i32 : BitVec 32 := 8#32
  let v87 : BitVec 32 := Scalar.addi c0_i32_31 c8_i32
  let c1_i32_32 : BitVec 32 := 1#32
  ⟨c0_i32_31, v87, c1_i32_32⟩
def k0_off1 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1870 : BitVec 32 := 128#32
  let v2172 : BitVec 32 := Scalar.muli v2 c128_i32_1870
  let v2174 : Index := Scalar.indexCast v2172
  let c0_i32_31 : BitVec 32 := 0#32
  let c1_i32_32 : BitVec 32 := 1#32
  let arg18 : BitVec 32 := Scf.iv c0_i32_31 c1_i32_32 k0_t1
  let c128_i32_1871 : BitVec 32 := 128#32
  let v2173 : BitVec 32 := Scalar.muli arg18 c128_i32_1871
  let v2175 : Index := Scalar.indexCast v2173
  ![v2174.toNat, v2175.toNat]
def k0_off2 (k0_t1 : Fin k0_t1_loop.trips) : Fin 3 → Nat :=
  let c0_i32_31 : BitVec 32 := 0#32
  let c1_i32_32 : BitVec 32 := 1#32
  let arg18 : BitVec 32 := Scf.iv c0_i32_31 c1_i32_32 k0_t1
  let v2177 : Index := Scalar.indexCast arg18
  let c0_1872 : Index := 0#32
  let c0_1873 : Index := 0#32
  ![v2177.toNat, 0, 0]
def k0_off3 (k0_t1 : Fin k0_t1_loop.trips) : Fin 2 → Nat :=
  let c0_1881 : Index := 0#32
  let c0_i32_31 : BitVec 32 := 0#32
  let c1_i32_32 : BitVec 32 := 1#32
  let arg18 : BitVec 32 := Scf.iv c0_i32_31 c1_i32_32 k0_t1
  let c128_i32_1880 : BitVec 32 := 128#32
  let v2194 : BitVec 32 := Scalar.muli arg18 c128_i32_1880
  let v2195 : Index := Scalar.indexCast v2194
  ![0, v2195.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v92 : Index := Scalar.indexCast v2
  let c0_39 : Index := 0#32
  let c0_40 : Index := 0#32
  ![v92.toNat, 0, 0]
def k0_off5 (d0 : Dev nD) (c0_i32_41 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v96 : BitVec 32 := Scalar.subi v2 c0_i32_41
  let c32_i32 : BitVec 32 := 32#32
  let v97 : BitVec 32 := Scalar.addi v96 c32_i32
  let c16_i32_42 : BitVec 32 := 16#32
  let v98 : BitVec 32 := Scalar.remsi v97 c16_i32_42
  let v103 : Index := Scalar.indexCast v98
  let c0_47 : Index := 0#32
  let c0_48 : Index := 0#32
  ![v103.toNat, 0, 0]
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_56 : BitVec 32 := 1#32
  let v110 : BitVec 32 := Scalar.muli v7 c1_i32_56
  let v111 : BitVec 32 := Scalar.addi c0_i32_57 v110
  v111.toNat
@[reducible] def k0_t2_loop : Scf.Loop 32 :=
  let c0_i32_73 : BitVec 32 := 0#32
  let c8_i32_74 : BitVec 32 := 8#32
  let v157 : BitVec 32 := Scalar.addi c0_i32_73 c8_i32_74
  let c1_i32_75 : BitVec 32 := 1#32
  ⟨c0_i32_73, v157, c1_i32_75⟩
def k0_off6 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let v99 : BitVec 32 := Scalar.subi v2 c0_i32_43
  let c1_i32_44 : BitVec 32 := 1#32
  let v100 : BitVec 32 := Scalar.subi v99 c1_i32_44
  let c32_i32_45 : BitVec 32 := 32#32
  let v101 : BitVec 32 := Scalar.addi v100 c32_i32_45
  let c16_i32_46 : BitVec 32 := 16#32
  let v102 : BitVec 32 := Scalar.remsi v101 c16_i32_46
  let c128_i32_1870 : BitVec 32 := 128#32
  let v2172 : BitVec 32 := Scalar.muli v102 c128_i32_1870
  let v2174 : Index := Scalar.indexCast v2172
  let c0_i32_73 : BitVec 32 := 0#32
  let c1_i32_75 : BitVec 32 := 1#32
  let arg18 : BitVec 32 := Scf.iv c0_i32_73 c1_i32_75 k0_t2
  let c128_i32_1871 : BitVec 32 := 128#32
  let v2173 : BitVec 32 := Scalar.muli arg18 c128_i32_1871
  let v2175 : Index := Scalar.indexCast v2173
  ![v2174.toNat, v2175.toNat]
def k0_off7 (k0_t2 : Fin k0_t2_loop.trips) : Fin 3 → Nat :=
  let c0_i32_73 : BitVec 32 := 0#32
  let c1_i32_75 : BitVec 32 := 1#32
  let arg18 : BitVec 32 := Scf.iv c0_i32_73 c1_i32_75 k0_t2
  let v2177 : Index := Scalar.indexCast arg18
  let c0_1872 : Index := 0#32
  let c0_1873 : Index := 0#32
  ![v2177.toNat, 0, 0]
def k0_off8 (k0_t2 : Fin k0_t2_loop.trips) : Fin 2 → Nat :=
  let c0_1881 : Index := 0#32
  let c0_i32_73 : BitVec 32 := 0#32
  let c1_i32_75 : BitVec 32 := 1#32
  let arg18 : BitVec 32 := Scf.iv c0_i32_73 c1_i32_75 k0_t2
  let c128_i32_1880 : BitVec 32 := 128#32
  let v2194 : BitVec 32 := Scalar.muli arg18 c128_i32_1880
  let v2195 : Index := Scalar.indexCast v2194
  ![0, v2195.toNat]
def k0_off9 (d0 : Dev nD) (c0_i32_43 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v99 : BitVec 32 := Scalar.subi v2 c0_i32_43
  let c1_i32_44 : BitVec 32 := 1#32
  let v100 : BitVec 32 := Scalar.subi v99 c1_i32_44
  let c32_i32_45 : BitVec 32 := 32#32
  let v101 : BitVec 32 := Scalar.addi v100 c32_i32_45
  let c16_i32_46 : BitVec 32 := 16#32
  let v102 : BitVec 32 := Scalar.remsi v101 c16_i32_46
  let v162 : Index := Scalar.indexCast v102
  let c0_82 : Index := 0#32
  let c0_83 : Index := 0#32
  ![v162.toNat, 0, 0]
def k0_dev4 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_111 : BitVec 32 := 1#32
  let v191 : BitVec 32 := Scalar.muli v5 c1_i32_111
  let v192 : BitVec 32 := Scalar.addi c0_i32_112 v191
  v192.toNat
def k0_dev5 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_128 : BitVec 32 := 1#32
  let v207 : BitVec 32 := Scalar.muli v7 c1_i32_128
  let v208 : BitVec 32 := Scalar.addi c0_i32_129 v207
  v208.toNat
@[reducible] def k0_t3_loop : Scf.Loop 32 :=
  let c0_i32_145 : BitVec 32 := 0#32
  let c8_i32_146 : BitVec 32 := 8#32
  let v254 : BitVec 32 := Scalar.addi c0_i32_145 c8_i32_146
  let c1_i32_147 : BitVec 32 := 1#32
  ⟨c0_i32_145, v254, c1_i32_147⟩
def k0_off10 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_116 : BitVec 32 := 1#32
  let v196 : BitVec 32 := Scalar.subi v2 c1_i32_116
  let c1_i32_117 : BitVec 32 := 1#32
  let v197 : BitVec 32 := Scalar.subi v196 c1_i32_117
  let c32_i32_118 : BitVec 32 := 32#32
  let v198 : BitVec 32 := Scalar.addi v197 c32_i32_118
  let c16_i32_119 : BitVec 32 := 16#32
  let v199 : BitVec 32 := Scalar.remsi v198 c16_i32_119
  let c128_i32_1870 : BitVec 32 := 128#32
  let v2172 : BitVec 32 := Scalar.muli v199 c128_i32_1870
  let v2174 : Index := Scalar.indexCast v2172
  let c0_i32_145 : BitVec 32 := 0#32
  let c1_i32_147 : BitVec 32 := 1#32
  let arg18 : BitVec 32 := Scf.iv c0_i32_145 c1_i32_147 k0_t3
  let c128_i32_1871 : BitVec 32 := 128#32
  let v2173 : BitVec 32 := Scalar.muli arg18 c128_i32_1871
  let v2175 : Index := Scalar.indexCast v2173
  ![v2174.toNat, v2175.toNat]
def k0_off11 (k0_t3 : Fin k0_t3_loop.trips) : Fin 3 → Nat :=
  let c0_i32_145 : BitVec 32 := 0#32
  let c1_i32_147 : BitVec 32 := 1#32
  let arg18 : BitVec 32 := Scf.iv c0_i32_145 c1_i32_147 k0_t3
  let v2177 : Index := Scalar.indexCast arg18
  let c0_1872 : Index := 0#32
  let c0_1873 : Index := 0#32
  ![v2177.toNat, 0, 0]
def k0_off12 (k0_t3 : Fin k0_t3_loop.trips) : Fin 2 → Nat :=
  let c0_1881 : Index := 0#32
  let c0_i32_145 : BitVec 32 := 0#32
  let c1_i32_147 : BitVec 32 := 1#32
  let arg18 : BitVec 32 := Scf.iv c0_i32_145 c1_i32_147 k0_t3
  let c128_i32_1880 : BitVec 32 := 128#32
  let v2194 : BitVec 32 := Scalar.muli arg18 c128_i32_1880
  let v2195 : Index := Scalar.indexCast v2194
  ![0, v2195.toNat]
def k0_dev6 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_183 : BitVec 32 := 1#32
  let v288 : BitVec 32 := Scalar.muli v5 c1_i32_183
  let v289 : BitVec 32 := Scalar.addi c0_i32_184 v288
  v289.toNat
def k0_dev7 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_203 : BitVec 32 := 1#32
  let v304 : BitVec 32 := Scalar.muli v7 c1_i32_203
  let v305 : BitVec 32 := Scalar.addi c0_i32_204 v304
  v305.toNat
@[reducible] def k0_t4_loop : Scf.Loop 32 :=
  let c0_i32_220 : BitVec 32 := 0#32
  let c8_i32_221 : BitVec 32 := 8#32
  let v351 : BitVec 32 := Scalar.addi c0_i32_220 c8_i32_221
  let c1_i32_222 : BitVec 32 := 1#32
  ⟨c0_i32_220, v351, c1_i32_222⟩
def k0_off13 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_188 : BitVec 32 := 2#32
  let v293 : BitVec 32 := Scalar.subi v2 c2_i32_188
  let c1_i32_189 : BitVec 32 := 1#32
  let v294 : BitVec 32 := Scalar.subi v293 c1_i32_189
  let c32_i32_190 : BitVec 32 := 32#32
  let v295 : BitVec 32 := Scalar.addi v294 c32_i32_190
  let c16_i32_191 : BitVec 32 := 16#32
  let v296 : BitVec 32 := Scalar.remsi v295 c16_i32_191
  let c128_i32_1870 : BitVec 32 := 128#32
  let v2172 : BitVec 32 := Scalar.muli v296 c128_i32_1870
  let v2174 : Index := Scalar.indexCast v2172
  let c0_i32_220 : BitVec 32 := 0#32
  let c1_i32_222 : BitVec 32 := 1#32
  let arg18 : BitVec 32 := Scf.iv c0_i32_220 c1_i32_222 k0_t4
  let c128_i32_1871 : BitVec 32 := 128#32
  let v2173 : BitVec 32 := Scalar.muli arg18 c128_i32_1871
  let v2175 : Index := Scalar.indexCast v2173
  ![v2174.toNat, v2175.toNat]
def k0_off14 (k0_t4 : Fin k0_t4_loop.trips) : Fin 3 → Nat :=
  let c0_i32_220 : BitVec 32 := 0#32
  let c1_i32_222 : BitVec 32 := 1#32
  let arg18 : BitVec 32 := Scf.iv c0_i32_220 c1_i32_222 k0_t4
  let v2177 : Index := Scalar.indexCast arg18
  let c0_1872 : Index := 0#32
  let c0_1873 : Index := 0#32
  ![v2177.toNat, 0, 0]
def k0_off15 (k0_t4 : Fin k0_t4_loop.trips) : Fin 2 → Nat :=
  let c0_1881 : Index := 0#32
  let c0_i32_220 : BitVec 32 := 0#32
  let c1_i32_222 : BitVec 32 := 1#32
  let arg18 : BitVec 32 := Scf.iv c0_i32_220 c1_i32_222 k0_t4
  let c128_i32_1880 : BitVec 32 := 128#32
  let v2194 : BitVec 32 := Scalar.muli arg18 c128_i32_1880
  let v2195 : Index := Scalar.indexCast v2194
  ![0, v2195.toNat]
def k0_dev8 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_258 : BitVec 32 := 1#32
  let v385 : BitVec 32 := Scalar.muli v5 c1_i32_258
  let v386 : BitVec 32 := Scalar.addi c0_i32_259 v385
  v386.toNat
def k0_dev9 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_278 : BitVec 32 := 1#32
  let v401 : BitVec 32 := Scalar.muli v7 c1_i32_278
  let v402 : BitVec 32 := Scalar.addi c0_i32_279 v401
  v402.toNat
@[reducible] def k0_t5_loop : Scf.Loop 32 :=
  let c0_i32_295 : BitVec 32 := 0#32
  let c8_i32_296 : BitVec 32 := 8#32
  let v448 : BitVec 32 := Scalar.addi c0_i32_295 c8_i32_296
  let c1_i32_297 : BitVec 32 := 1#32
  ⟨c0_i32_295, v448, c1_i32_297⟩
def k0_off16 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_263 : BitVec 32 := 3#32
  let v390 : BitVec 32 := Scalar.subi v2 c3_i32_263
  let c1_i32_264 : BitVec 32 := 1#32
  let v391 : BitVec 32 := Scalar.subi v390 c1_i32_264
  let c32_i32_265 : BitVec 32 := 32#32
  let v392 : BitVec 32 := Scalar.addi v391 c32_i32_265
  let c16_i32_266 : BitVec 32 := 16#32
  let v393 : BitVec 32 := Scalar.remsi v392 c16_i32_266
  let c128_i32_1870 : BitVec 32 := 128#32
  let v2172 : BitVec 32 := Scalar.muli v393 c128_i32_1870
  let v2174 : Index := Scalar.indexCast v2172
  let c0_i32_295 : BitVec 32 := 0#32
  let c1_i32_297 : BitVec 32 := 1#32
  let arg18 : BitVec 32 := Scf.iv c0_i32_295 c1_i32_297 k0_t5
  let c128_i32_1871 : BitVec 32 := 128#32
  let v2173 : BitVec 32 := Scalar.muli arg18 c128_i32_1871
  let v2175 : Index := Scalar.indexCast v2173
  ![v2174.toNat, v2175.toNat]
def k0_off17 (k0_t5 : Fin k0_t5_loop.trips) : Fin 3 → Nat :=
  let c0_i32_295 : BitVec 32 := 0#32
  let c1_i32_297 : BitVec 32 := 1#32
  let arg18 : BitVec 32 := Scf.iv c0_i32_295 c1_i32_297 k0_t5
  let v2177 : Index := Scalar.indexCast arg18
  let c0_1872 : Index := 0#32
  let c0_1873 : Index := 0#32
  ![v2177.toNat, 0, 0]
def k0_off18 (k0_t5 : Fin k0_t5_loop.trips) : Fin 2 → Nat :=
  let c0_1881 : Index := 0#32
  let c0_i32_295 : BitVec 32 := 0#32
  let c1_i32_297 : BitVec 32 := 1#32
  let arg18 : BitVec 32 := Scf.iv c0_i32_295 c1_i32_297 k0_t5
  let c128_i32_1880 : BitVec 32 := 128#32
  let v2194 : BitVec 32 := Scalar.muli arg18 c128_i32_1880
  let v2195 : Index := Scalar.indexCast v2194
  ![0, v2195.toNat]
def k0_dev10 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_333 : BitVec 32 := 1#32
  let v482 : BitVec 32 := Scalar.muli v5 c1_i32_333
  let v483 : BitVec 32 := Scalar.addi c0_i32_334 v482
  v483.toNat
def k0_dev11 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_352 : BitVec 32 := 1#32
  let v498 : BitVec 32 := Scalar.muli v7 c1_i32_352
  let v499 : BitVec 32 := Scalar.addi c0_i32_353 v498
  v499.toNat
@[reducible] def k0_t6_loop : Scf.Loop 32 :=
  let c0_i32_369 : BitVec 32 := 0#32
  let c8_i32_370 : BitVec 32 := 8#32
  let v545 : BitVec 32 := Scalar.addi c0_i32_369 c8_i32_370
  let c1_i32_371 : BitVec 32 := 1#32
  ⟨c0_i32_369, v545, c1_i32_371⟩
def k0_off19 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_337 : BitVec 32 := 4#32
  let v487 : BitVec 32 := Scalar.subi v2 c4_i32_337
  let c1_i32_338 : BitVec 32 := 1#32
  let v488 : BitVec 32 := Scalar.subi v487 c1_i32_338
  let c32_i32_339 : BitVec 32 := 32#32
  let v489 : BitVec 32 := Scalar.addi v488 c32_i32_339
  let c16_i32_340 : BitVec 32 := 16#32
  let v490 : BitVec 32 := Scalar.remsi v489 c16_i32_340
  let c128_i32_1870 : BitVec 32 := 128#32
  let v2172 : BitVec 32 := Scalar.muli v490 c128_i32_1870
  let v2174 : Index := Scalar.indexCast v2172
  let c0_i32_369 : BitVec 32 := 0#32
  let c1_i32_371 : BitVec 32 := 1#32
  let arg18 : BitVec 32 := Scf.iv c0_i32_369 c1_i32_371 k0_t6
  let c128_i32_1871 : BitVec 32 := 128#32
  let v2173 : BitVec 32 := Scalar.muli arg18 c128_i32_1871
  let v2175 : Index := Scalar.indexCast v2173
  ![v2174.toNat, v2175.toNat]
def k0_off20 (k0_t6 : Fin k0_t6_loop.trips) : Fin 3 → Nat :=
  let c0_i32_369 : BitVec 32 := 0#32
  let c1_i32_371 : BitVec 32 := 1#32
  let arg18 : BitVec 32 := Scf.iv c0_i32_369 c1_i32_371 k0_t6
  let v2177 : Index := Scalar.indexCast arg18
  let c0_1872 : Index := 0#32
  let c0_1873 : Index := 0#32
  ![v2177.toNat, 0, 0]
def k0_off21 (k0_t6 : Fin k0_t6_loop.trips) : Fin 2 → Nat :=
  let c0_1881 : Index := 0#32
  let c0_i32_369 : BitVec 32 := 0#32
  let c1_i32_371 : BitVec 32 := 1#32
  let arg18 : BitVec 32 := Scf.iv c0_i32_369 c1_i32_371 k0_t6
  let c128_i32_1880 : BitVec 32 := 128#32
  let v2194 : BitVec 32 := Scalar.muli arg18 c128_i32_1880
  let v2195 : Index := Scalar.indexCast v2194
  ![0, v2195.toNat]
def k0_dev12 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_407 : BitVec 32 := 1#32
  let v579 : BitVec 32 := Scalar.muli v5 c1_i32_407
  let v580 : BitVec 32 := Scalar.addi c0_i32_408 v579
  v580.toNat
def k0_dev13 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_426 : BitVec 32 := 1#32
  let v595 : BitVec 32 := Scalar.muli v7 c1_i32_426
  let v596 : BitVec 32 := Scalar.addi c0_i32_427 v595
  v596.toNat
@[reducible] def k0_t7_loop : Scf.Loop 32 :=
  let c0_i32_443 : BitVec 32 := 0#32
  let c8_i32_444 : BitVec 32 := 8#32
  let v642 : BitVec 32 := Scalar.addi c0_i32_443 c8_i32_444
  let c1_i32_445 : BitVec 32 := 1#32
  ⟨c0_i32_443, v642, c1_i32_445⟩
def k0_off22 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_411 : BitVec 32 := 5#32
  let v584 : BitVec 32 := Scalar.subi v2 c5_i32_411
  let c1_i32_412 : BitVec 32 := 1#32
  let v585 : BitVec 32 := Scalar.subi v584 c1_i32_412
  let c32_i32_413 : BitVec 32 := 32#32
  let v586 : BitVec 32 := Scalar.addi v585 c32_i32_413
  let c16_i32_414 : BitVec 32 := 16#32
  let v587 : BitVec 32 := Scalar.remsi v586 c16_i32_414
  let c128_i32_1870 : BitVec 32 := 128#32
  let v2172 : BitVec 32 := Scalar.muli v587 c128_i32_1870
  let v2174 : Index := Scalar.indexCast v2172
  let c0_i32_443 : BitVec 32 := 0#32
  let c1_i32_445 : BitVec 32 := 1#32
  let arg18 : BitVec 32 := Scf.iv c0_i32_443 c1_i32_445 k0_t7
  let c128_i32_1871 : BitVec 32 := 128#32
  let v2173 : BitVec 32 := Scalar.muli arg18 c128_i32_1871
  let v2175 : Index := Scalar.indexCast v2173
  ![v2174.toNat, v2175.toNat]
def k0_off23 (k0_t7 : Fin k0_t7_loop.trips) : Fin 3 → Nat :=
  let c0_i32_443 : BitVec 32 := 0#32
  let c1_i32_445 : BitVec 32 := 1#32
  let arg18 : BitVec 32 := Scf.iv c0_i32_443 c1_i32_445 k0_t7
  let v2177 : Index := Scalar.indexCast arg18
  let c0_1872 : Index := 0#32
  let c0_1873 : Index := 0#32
  ![v2177.toNat, 0, 0]
def k0_off24 (k0_t7 : Fin k0_t7_loop.trips) : Fin 2 → Nat :=
  let c0_1881 : Index := 0#32
  let c0_i32_443 : BitVec 32 := 0#32
  let c1_i32_445 : BitVec 32 := 1#32
  let arg18 : BitVec 32 := Scf.iv c0_i32_443 c1_i32_445 k0_t7
  let c128_i32_1880 : BitVec 32 := 128#32
  let v2194 : BitVec 32 := Scalar.muli arg18 c128_i32_1880
  let v2195 : Index := Scalar.indexCast v2194
  ![0, v2195.toNat]
def k0_dev14 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_481 : BitVec 32 := 1#32
  let v676 : BitVec 32 := Scalar.muli v5 c1_i32_481
  let v677 : BitVec 32 := Scalar.addi c0_i32_482 v676
  v677.toNat
def k0_dev15 (d0 : Dev nD) : Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_500 : BitVec 32 := 1#32
  let v692 : BitVec 32 := Scalar.muli v7 c1_i32_500
  let v693 : BitVec 32 := Scalar.addi c0_i32_501 v692
  v693.toNat
@[reducible] def k0_t8_loop : Scf.Loop 32 :=
  let c0_i32_517 : BitVec 32 := 0#32
  let c8_i32_518 : BitVec 32 := 8#32
  let v739 : BitVec 32 := Scalar.addi c0_i32_517 c8_i32_518
  let c1_i32_519 : BitVec 32 := 1#32
  ⟨c0_i32_517, v739, c1_i32_519⟩
def k0_off25 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_485 : BitVec 32 := 6#32
  let v681 : BitVec 32 := Scalar.subi v2 c6_i32_485
  let c1_i32_486 : BitVec 32 := 1#32
  let v682 : BitVec 32 := Scalar.subi v681 c1_i32_486
  let c32_i32_487 : BitVec 32 := 32#32
  let v683 : BitVec 32 := Scalar.addi v682 c32_i32_487
  let c16_i32_488 : BitVec 32 := 16#32
  let v684 : BitVec 32 := Scalar.remsi v683 c16_i32_488
  let c128_i32_1870 : BitVec 32 := 128#32
  let v2172 : BitVec 32 := Scalar.muli v684 c128_i32_1870
  let v2174 : Index := Scalar.indexCast v2172
  let c0_i32_517 : BitVec 32 := 0#32
  let c1_i32_519 : BitVec 32 := 1#32
  let arg18 : BitVec 32 := Scf.iv c0_i32_517 c1_i32_519 k0_t8
  let c128_i32_1871 : BitVec 32 := 128#32
  let v2173 : BitVec 32 := Scalar.muli arg18 c128_i32_1871
  let v2175 : Index := Scalar.indexCast v2173
  ![v2174.toNat, v2175.toNat]
def k0_off26 (k0_t8 : Fin k0_t8_loop.trips) : Fin 3 → Nat :=
  let c0_i32_517 : BitVec 32 := 0#32
  let c1_i32_519 : BitVec 32 := 1#32
  let arg18 : BitVec 32 := Scf.iv c0_i32_517 c1_i32_519 k0_t8
  let v2177 : Index := Scalar.indexCast arg18
  let c0_1872 : Index := 0#32
  let c0_1873 : Index := 0#32
  ![v2177.toNat, 0, 0]
def k0_off27 (k0_t8 : Fin k0_t8_loop.trips) : Fin 2 → Nat :=
  let c0_1881 : Index := 0#32
  let c0_i32_517 : BitVec 32 := 0#32
  let c1_i32_519 : BitVec 32 := 1#32
  let arg18 : BitVec 32 := Scf.iv c0_i32_517 c1_i32_519 k0_t8
  let c128_i32_1880 : BitVec 32 := 128#32
  let v2194 : BitVec 32 := Scalar.muli arg18 c128_i32_1880
  let v2195 : Index := Scalar.indexCast v2194
  ![0, v2195.toNat]
def k0_dev16 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_555 : BitVec 32 := 1#32
  let v773 : BitVec 32 := Scalar.muli v5 c1_i32_555
  let v774 : BitVec 32 := Scalar.addi c0_i32_556 v773
  v774.toNat
def k0_dev17 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_574 : BitVec 32 := 1#32
  let v789 : BitVec 32 := Scalar.muli v7 c1_i32_574
  let v790 : BitVec 32 := Scalar.addi c0_i32_575 v789
  v790.toNat
@[reducible] def k0_t9_loop : Scf.Loop 32 :=
  let c0_i32_591 : BitVec 32 := 0#32
  let c8_i32_592 : BitVec 32 := 8#32
  let v836 : BitVec 32 := Scalar.addi c0_i32_591 c8_i32_592
  let c1_i32_593 : BitVec 32 := 1#32
  ⟨c0_i32_591, v836, c1_i32_593⟩
def k0_off28 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_559 : BitVec 32 := 7#32
  let v778 : BitVec 32 := Scalar.subi v2 c7_i32_559
  let c1_i32_560 : BitVec 32 := 1#32
  let v779 : BitVec 32 := Scalar.subi v778 c1_i32_560
  let c32_i32_561 : BitVec 32 := 32#32
  let v780 : BitVec 32 := Scalar.addi v779 c32_i32_561
  let c16_i32_562 : BitVec 32 := 16#32
  let v781 : BitVec 32 := Scalar.remsi v780 c16_i32_562
  let c128_i32_1870 : BitVec 32 := 128#32
  let v2172 : BitVec 32 := Scalar.muli v781 c128_i32_1870
  let v2174 : Index := Scalar.indexCast v2172
  let c0_i32_591 : BitVec 32 := 0#32
  let c1_i32_593 : BitVec 32 := 1#32
  let arg18 : BitVec 32 := Scf.iv c0_i32_591 c1_i32_593 k0_t9
  let c128_i32_1871 : BitVec 32 := 128#32
  let v2173 : BitVec 32 := Scalar.muli arg18 c128_i32_1871
  let v2175 : Index := Scalar.indexCast v2173
  ![v2174.toNat, v2175.toNat]
def k0_off29 (k0_t9 : Fin k0_t9_loop.trips) : Fin 3 → Nat :=
  let c0_i32_591 : BitVec 32 := 0#32
  let c1_i32_593 : BitVec 32 := 1#32
  let arg18 : BitVec 32 := Scf.iv c0_i32_591 c1_i32_593 k0_t9
  let v2177 : Index := Scalar.indexCast arg18
  let c0_1872 : Index := 0#32
  let c0_1873 : Index := 0#32
  ![v2177.toNat, 0, 0]
def k0_off30 (k0_t9 : Fin k0_t9_loop.trips) : Fin 2 → Nat :=
  let c0_1881 : Index := 0#32
  let c0_i32_591 : BitVec 32 := 0#32
  let c1_i32_593 : BitVec 32 := 1#32
  let arg18 : BitVec 32 := Scf.iv c0_i32_591 c1_i32_593 k0_t9
  let c128_i32_1880 : BitVec 32 := 128#32
  let v2194 : BitVec 32 := Scalar.muli arg18 c128_i32_1880
  let v2195 : Index := Scalar.indexCast v2194
  ![0, v2195.toNat]
def k0_dev18 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_629 : BitVec 32 := 1#32
  let v870 : BitVec 32 := Scalar.muli v5 c1_i32_629
  let v871 : BitVec 32 := Scalar.addi c0_i32_630 v870
  v871.toNat
def k0_dev19 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_649 : BitVec 32 := 1#32
  let v886 : BitVec 32 := Scalar.muli v7 c1_i32_649
  let v887 : BitVec 32 := Scalar.addi c0_i32_650 v886
  v887.toNat
@[reducible] def k0_t10_loop : Scf.Loop 32 :=
  let c0_i32_666 : BitVec 32 := 0#32
  let c8_i32_667 : BitVec 32 := 8#32
  let v933 : BitVec 32 := Scalar.addi c0_i32_666 c8_i32_667
  let c1_i32_668 : BitVec 32 := 1#32
  ⟨c0_i32_666, v933, c1_i32_668⟩
def k0_off31 (d0 : Dev nD) (k0_t10 : Fin k0_t10_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_634 : BitVec 32 := 8#32
  let v875 : BitVec 32 := Scalar.subi v2 c8_i32_634
  let c1_i32_635 : BitVec 32 := 1#32
  let v876 : BitVec 32 := Scalar.subi v875 c1_i32_635
  let c32_i32_636 : BitVec 32 := 32#32
  let v877 : BitVec 32 := Scalar.addi v876 c32_i32_636
  let c16_i32_637 : BitVec 32 := 16#32
  let v878 : BitVec 32 := Scalar.remsi v877 c16_i32_637
  let c128_i32_1870 : BitVec 32 := 128#32
  let v2172 : BitVec 32 := Scalar.muli v878 c128_i32_1870
  let v2174 : Index := Scalar.indexCast v2172
  let c0_i32_666 : BitVec 32 := 0#32
  let c1_i32_668 : BitVec 32 := 1#32
  let arg18 : BitVec 32 := Scf.iv c0_i32_666 c1_i32_668 k0_t10
  let c128_i32_1871 : BitVec 32 := 128#32
  let v2173 : BitVec 32 := Scalar.muli arg18 c128_i32_1871
  let v2175 : Index := Scalar.indexCast v2173
  ![v2174.toNat, v2175.toNat]
def k0_off32 (k0_t10 : Fin k0_t10_loop.trips) : Fin 3 → Nat :=
  let c0_i32_666 : BitVec 32 := 0#32
  let c1_i32_668 : BitVec 32 := 1#32
  let arg18 : BitVec 32 := Scf.iv c0_i32_666 c1_i32_668 k0_t10
  let v2177 : Index := Scalar.indexCast arg18
  let c0_1872 : Index := 0#32
  let c0_1873 : Index := 0#32
  ![v2177.toNat, 0, 0]
def k0_off33 (k0_t10 : Fin k0_t10_loop.trips) : Fin 2 → Nat :=
  let c0_1881 : Index := 0#32
  let c0_i32_666 : BitVec 32 := 0#32
  let c1_i32_668 : BitVec 32 := 1#32
  let arg18 : BitVec 32 := Scf.iv c0_i32_666 c1_i32_668 k0_t10
  let c128_i32_1880 : BitVec 32 := 128#32
  let v2194 : BitVec 32 := Scalar.muli arg18 c128_i32_1880
  let v2195 : Index := Scalar.indexCast v2194
  ![0, v2195.toNat]
def k0_dev20 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_704 : BitVec 32 := 1#32
  let v967 : BitVec 32 := Scalar.muli v5 c1_i32_704
  let v968 : BitVec 32 := Scalar.addi c0_i32_705 v967
  v968.toNat
def k0_dev21 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_723 : BitVec 32 := 1#32
  let v983 : BitVec 32 := Scalar.muli v7 c1_i32_723
  let v984 : BitVec 32 := Scalar.addi c0_i32_724 v983
  v984.toNat
@[reducible] def k0_t11_loop : Scf.Loop 32 :=
  let c0_i32_740 : BitVec 32 := 0#32
  let c8_i32_741 : BitVec 32 := 8#32
  let v1030 : BitVec 32 := Scalar.addi c0_i32_740 c8_i32_741
  let c1_i32_742 : BitVec 32 := 1#32
  ⟨c0_i32_740, v1030, c1_i32_742⟩
def k0_off34 (d0 : Dev nD) (k0_t11 : Fin k0_t11_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_708 : BitVec 32 := 9#32
  let v972 : BitVec 32 := Scalar.subi v2 c9_i32_708
  let c1_i32_709 : BitVec 32 := 1#32
  let v973 : BitVec 32 := Scalar.subi v972 c1_i32_709
  let c32_i32_710 : BitVec 32 := 32#32
  let v974 : BitVec 32 := Scalar.addi v973 c32_i32_710
  let c16_i32_711 : BitVec 32 := 16#32
  let v975 : BitVec 32 := Scalar.remsi v974 c16_i32_711
  let c128_i32_1870 : BitVec 32 := 128#32
  let v2172 : BitVec 32 := Scalar.muli v975 c128_i32_1870
  let v2174 : Index := Scalar.indexCast v2172
  let c0_i32_740 : BitVec 32 := 0#32
  let c1_i32_742 : BitVec 32 := 1#32
  let arg18 : BitVec 32 := Scf.iv c0_i32_740 c1_i32_742 k0_t11
  let c128_i32_1871 : BitVec 32 := 128#32
  let v2173 : BitVec 32 := Scalar.muli arg18 c128_i32_1871
  let v2175 : Index := Scalar.indexCast v2173
  ![v2174.toNat, v2175.toNat]
def k0_off35 (k0_t11 : Fin k0_t11_loop.trips) : Fin 3 → Nat :=
  let c0_i32_740 : BitVec 32 := 0#32
  let c1_i32_742 : BitVec 32 := 1#32
  let arg18 : BitVec 32 := Scf.iv c0_i32_740 c1_i32_742 k0_t11
  let v2177 : Index := Scalar.indexCast arg18
  let c0_1872 : Index := 0#32
  let c0_1873 : Index := 0#32
  ![v2177.toNat, 0, 0]
def k0_off36 (k0_t11 : Fin k0_t11_loop.trips) : Fin 2 → Nat :=
  let c0_1881 : Index := 0#32
  let c0_i32_740 : BitVec 32 := 0#32
  let c1_i32_742 : BitVec 32 := 1#32
  let arg18 : BitVec 32 := Scf.iv c0_i32_740 c1_i32_742 k0_t11
  let c128_i32_1880 : BitVec 32 := 128#32
  let v2194 : BitVec 32 := Scalar.muli arg18 c128_i32_1880
  let v2195 : Index := Scalar.indexCast v2194
  ![0, v2195.toNat]
def k0_dev22 (d0 : Dev nD) : Nat :=
  let c0_i32_779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_778 : BitVec 32 := 1#32
  let v1064 : BitVec 32 := Scalar.muli v5 c1_i32_778
  let v1065 : BitVec 32 := Scalar.addi c0_i32_779 v1064
  v1065.toNat
def k0_dev23 (d0 : Dev nD) : Nat :=
  let c0_i32_798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_797 : BitVec 32 := 1#32
  let v1080 : BitVec 32 := Scalar.muli v7 c1_i32_797
  let v1081 : BitVec 32 := Scalar.addi c0_i32_798 v1080
  v1081.toNat
@[reducible] def k0_t12_loop : Scf.Loop 32 :=
  let c0_i32_814 : BitVec 32 := 0#32
  let c8_i32_815 : BitVec 32 := 8#32
  let v1127 : BitVec 32 := Scalar.addi c0_i32_814 c8_i32_815
  let c1_i32_816 : BitVec 32 := 1#32
  ⟨c0_i32_814, v1127, c1_i32_816⟩
def k0_off37 (d0 : Dev nD) (k0_t12 : Fin k0_t12_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_782 : BitVec 32 := 10#32
  let v1069 : BitVec 32 := Scalar.subi v2 c10_i32_782
  let c1_i32_783 : BitVec 32 := 1#32
  let v1070 : BitVec 32 := Scalar.subi v1069 c1_i32_783
  let c32_i32_784 : BitVec 32 := 32#32
  let v1071 : BitVec 32 := Scalar.addi v1070 c32_i32_784
  let c16_i32_785 : BitVec 32 := 16#32
  let v1072 : BitVec 32 := Scalar.remsi v1071 c16_i32_785
  let c128_i32_1870 : BitVec 32 := 128#32
  let v2172 : BitVec 32 := Scalar.muli v1072 c128_i32_1870
  let v2174 : Index := Scalar.indexCast v2172
  let c0_i32_814 : BitVec 32 := 0#32
  let c1_i32_816 : BitVec 32 := 1#32
  let arg18 : BitVec 32 := Scf.iv c0_i32_814 c1_i32_816 k0_t12
  let c128_i32_1871 : BitVec 32 := 128#32
  let v2173 : BitVec 32 := Scalar.muli arg18 c128_i32_1871
  let v2175 : Index := Scalar.indexCast v2173
  ![v2174.toNat, v2175.toNat]
def k0_off38 (k0_t12 : Fin k0_t12_loop.trips) : Fin 3 → Nat :=
  let c0_i32_814 : BitVec 32 := 0#32
  let c1_i32_816 : BitVec 32 := 1#32
  let arg18 : BitVec 32 := Scf.iv c0_i32_814 c1_i32_816 k0_t12
  let v2177 : Index := Scalar.indexCast arg18
  let c0_1872 : Index := 0#32
  let c0_1873 : Index := 0#32
  ![v2177.toNat, 0, 0]
def k0_off39 (k0_t12 : Fin k0_t12_loop.trips) : Fin 2 → Nat :=
  let c0_1881 : Index := 0#32
  let c0_i32_814 : BitVec 32 := 0#32
  let c1_i32_816 : BitVec 32 := 1#32
  let arg18 : BitVec 32 := Scf.iv c0_i32_814 c1_i32_816 k0_t12
  let c128_i32_1880 : BitVec 32 := 128#32
  let v2194 : BitVec 32 := Scalar.muli arg18 c128_i32_1880
  let v2195 : Index := Scalar.indexCast v2194
  ![0, v2195.toNat]
def k0_dev24 (d0 : Dev nD) : Nat :=
  let c0_i32_853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_852 : BitVec 32 := 1#32
  let v1161 : BitVec 32 := Scalar.muli v5 c1_i32_852
  let v1162 : BitVec 32 := Scalar.addi c0_i32_853 v1161
  v1162.toNat
def k0_dev25 (d0 : Dev nD) : Nat :=
  let c0_i32_872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_871 : BitVec 32 := 1#32
  let v1177 : BitVec 32 := Scalar.muli v7 c1_i32_871
  let v1178 : BitVec 32 := Scalar.addi c0_i32_872 v1177
  v1178.toNat
@[reducible] def k0_t13_loop : Scf.Loop 32 :=
  let c0_i32_888 : BitVec 32 := 0#32
  let c8_i32_889 : BitVec 32 := 8#32
  let v1224 : BitVec 32 := Scalar.addi c0_i32_888 c8_i32_889
  let c1_i32_890 : BitVec 32 := 1#32
  ⟨c0_i32_888, v1224, c1_i32_890⟩
def k0_off40 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_856 : BitVec 32 := 11#32
  let v1166 : BitVec 32 := Scalar.subi v2 c11_i32_856
  let c1_i32_857 : BitVec 32 := 1#32
  let v1167 : BitVec 32 := Scalar.subi v1166 c1_i32_857
  let c32_i32_858 : BitVec 32 := 32#32
  let v1168 : BitVec 32 := Scalar.addi v1167 c32_i32_858
  let c16_i32_859 : BitVec 32 := 16#32
  let v1169 : BitVec 32 := Scalar.remsi v1168 c16_i32_859
  let c128_i32_1870 : BitVec 32 := 128#32
  let v2172 : BitVec 32 := Scalar.muli v1169 c128_i32_1870
  let v2174 : Index := Scalar.indexCast v2172
  let c0_i32_888 : BitVec 32 := 0#32
  let c1_i32_890 : BitVec 32 := 1#32
  let arg18 : BitVec 32 := Scf.iv c0_i32_888 c1_i32_890 k0_t13
  let c128_i32_1871 : BitVec 32 := 128#32
  let v2173 : BitVec 32 := Scalar.muli arg18 c128_i32_1871
  let v2175 : Index := Scalar.indexCast v2173
  ![v2174.toNat, v2175.toNat]
def k0_off41 (k0_t13 : Fin k0_t13_loop.trips) : Fin 3 → Nat :=
  let c0_i32_888 : BitVec 32 := 0#32
  let c1_i32_890 : BitVec 32 := 1#32
  let arg18 : BitVec 32 := Scf.iv c0_i32_888 c1_i32_890 k0_t13
  let v2177 : Index := Scalar.indexCast arg18
  let c0_1872 : Index := 0#32
  let c0_1873 : Index := 0#32
  ![v2177.toNat, 0, 0]
def k0_off42 (k0_t13 : Fin k0_t13_loop.trips) : Fin 2 → Nat :=
  let c0_1881 : Index := 0#32
  let c0_i32_888 : BitVec 32 := 0#32
  let c1_i32_890 : BitVec 32 := 1#32
  let arg18 : BitVec 32 := Scf.iv c0_i32_888 c1_i32_890 k0_t13
  let c128_i32_1880 : BitVec 32 := 128#32
  let v2194 : BitVec 32 := Scalar.muli arg18 c128_i32_1880
  let v2195 : Index := Scalar.indexCast v2194
  ![0, v2195.toNat]
def k0_dev26 (d0 : Dev nD) : Nat :=
  let c0_i32_927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_926 : BitVec 32 := 1#32
  let v1258 : BitVec 32 := Scalar.muli v5 c1_i32_926
  let v1259 : BitVec 32 := Scalar.addi c0_i32_927 v1258
  v1259.toNat
def k0_dev27 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_945 : BitVec 32 := 1#32
  let v1274 : BitVec 32 := Scalar.muli v7 c1_i32_945
  let v1275 : BitVec 32 := Scalar.addi c0_i32_946 v1274
  v1275.toNat
@[reducible] def k0_t14_loop : Scf.Loop 32 :=
  let c0_i32_962 : BitVec 32 := 0#32
  let c8_i32_963 : BitVec 32 := 8#32
  let v1321 : BitVec 32 := Scalar.addi c0_i32_962 c8_i32_963
  let c1_i32_964 : BitVec 32 := 1#32
  ⟨c0_i32_962, v1321, c1_i32_964⟩
def k0_off43 (d0 : Dev nD) (k0_t14 : Fin k0_t14_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_930 : BitVec 32 := 12#32
  let v1263 : BitVec 32 := Scalar.subi v2 c12_i32_930
  let c1_i32_931 : BitVec 32 := 1#32
  let v1264 : BitVec 32 := Scalar.subi v1263 c1_i32_931
  let c32_i32_932 : BitVec 32 := 32#32
  let v1265 : BitVec 32 := Scalar.addi v1264 c32_i32_932
  let c16_i32_933 : BitVec 32 := 16#32
  let v1266 : BitVec 32 := Scalar.remsi v1265 c16_i32_933
  let c128_i32_1870 : BitVec 32 := 128#32
  let v2172 : BitVec 32 := Scalar.muli v1266 c128_i32_1870
  let v2174 : Index := Scalar.indexCast v2172
  let c0_i32_962 : BitVec 32 := 0#32
  let c1_i32_964 : BitVec 32 := 1#32
  let arg18 : BitVec 32 := Scf.iv c0_i32_962 c1_i32_964 k0_t14
  let c128_i32_1871 : BitVec 32 := 128#32
  let v2173 : BitVec 32 := Scalar.muli arg18 c128_i32_1871
  let v2175 : Index := Scalar.indexCast v2173
  ![v2174.toNat, v2175.toNat]
def k0_off44 (k0_t14 : Fin k0_t14_loop.trips) : Fin 3 → Nat :=
  let c0_i32_962 : BitVec 32 := 0#32
  let c1_i32_964 : BitVec 32 := 1#32
  let arg18 : BitVec 32 := Scf.iv c0_i32_962 c1_i32_964 k0_t14
  let v2177 : Index := Scalar.indexCast arg18
  let c0_1872 : Index := 0#32
  let c0_1873 : Index := 0#32
  ![v2177.toNat, 0, 0]
def k0_off45 (k0_t14 : Fin k0_t14_loop.trips) : Fin 2 → Nat :=
  let c0_1881 : Index := 0#32
  let c0_i32_962 : BitVec 32 := 0#32
  let c1_i32_964 : BitVec 32 := 1#32
  let arg18 : BitVec 32 := Scf.iv c0_i32_962 c1_i32_964 k0_t14
  let c128_i32_1880 : BitVec 32 := 128#32
  let v2194 : BitVec 32 := Scalar.muli arg18 c128_i32_1880
  let v2195 : Index := Scalar.indexCast v2194
  ![0, v2195.toNat]
def k0_dev28 (d0 : Dev nD) : Nat :=
  let c0_i32_1001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1000 : BitVec 32 := 1#32
  let v1355 : BitVec 32 := Scalar.muli v5 c1_i32_1000
  let v1356 : BitVec 32 := Scalar.addi c0_i32_1001 v1355
  v1356.toNat
def k0_dev29 (d0 : Dev nD) : Nat :=
  let c0_i32_1020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1019 : BitVec 32 := 1#32
  let v1371 : BitVec 32 := Scalar.muli v7 c1_i32_1019
  let v1372 : BitVec 32 := Scalar.addi c0_i32_1020 v1371
  v1372.toNat
@[reducible] def k0_t15_loop : Scf.Loop 32 :=
  let c0_i32_1036 : BitVec 32 := 0#32
  let c8_i32_1037 : BitVec 32 := 8#32
  let v1418 : BitVec 32 := Scalar.addi c0_i32_1036 c8_i32_1037
  let c1_i32_1038 : BitVec 32 := 1#32
  ⟨c0_i32_1036, v1418, c1_i32_1038⟩
def k0_off46 (d0 : Dev nD) (k0_t15 : Fin k0_t15_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1004 : BitVec 32 := 13#32
  let v1360 : BitVec 32 := Scalar.subi v2 c13_i32_1004
  let c1_i32_1005 : BitVec 32 := 1#32
  let v1361 : BitVec 32 := Scalar.subi v1360 c1_i32_1005
  let c32_i32_1006 : BitVec 32 := 32#32
  let v1362 : BitVec 32 := Scalar.addi v1361 c32_i32_1006
  let c16_i32_1007 : BitVec 32 := 16#32
  let v1363 : BitVec 32 := Scalar.remsi v1362 c16_i32_1007
  let c128_i32_1870 : BitVec 32 := 128#32
  let v2172 : BitVec 32 := Scalar.muli v1363 c128_i32_1870
  let v2174 : Index := Scalar.indexCast v2172
  let c0_i32_1036 : BitVec 32 := 0#32
  let c1_i32_1038 : BitVec 32 := 1#32
  let arg18 : BitVec 32 := Scf.iv c0_i32_1036 c1_i32_1038 k0_t15
  let c128_i32_1871 : BitVec 32 := 128#32
  let v2173 : BitVec 32 := Scalar.muli arg18 c128_i32_1871
  let v2175 : Index := Scalar.indexCast v2173
  ![v2174.toNat, v2175.toNat]
def k0_off47 (k0_t15 : Fin k0_t15_loop.trips) : Fin 3 → Nat :=
  let c0_i32_1036 : BitVec 32 := 0#32
  let c1_i32_1038 : BitVec 32 := 1#32
  let arg18 : BitVec 32 := Scf.iv c0_i32_1036 c1_i32_1038 k0_t15
  let v2177 : Index := Scalar.indexCast arg18
  let c0_1872 : Index := 0#32
  let c0_1873 : Index := 0#32
  ![v2177.toNat, 0, 0]
def k0_off48 (k0_t15 : Fin k0_t15_loop.trips) : Fin 2 → Nat :=
  let c0_1881 : Index := 0#32
  let c0_i32_1036 : BitVec 32 := 0#32
  let c1_i32_1038 : BitVec 32 := 1#32
  let arg18 : BitVec 32 := Scf.iv c0_i32_1036 c1_i32_1038 k0_t15
  let c128_i32_1880 : BitVec 32 := 128#32
  let v2194 : BitVec 32 := Scalar.muli arg18 c128_i32_1880
  let v2195 : Index := Scalar.indexCast v2194
  ![0, v2195.toNat]
def k0_dev30 (d0 : Dev nD) : Nat :=
  let c0_i32_1075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1074 : BitVec 32 := 1#32
  let v1452 : BitVec 32 := Scalar.muli v5 c1_i32_1074
  let v1453 : BitVec 32 := Scalar.addi c0_i32_1075 v1452
  v1453.toNat
def k0_dev31 (d0 : Dev nD) : Nat :=
  let c0_i32_1094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1093 : BitVec 32 := 1#32
  let v1468 : BitVec 32 := Scalar.muli v7 c1_i32_1093
  let v1469 : BitVec 32 := Scalar.addi c0_i32_1094 v1468
  v1469.toNat
@[reducible] def k0_t16_loop : Scf.Loop 32 :=
  let c0_i32_1110 : BitVec 32 := 0#32
  let c8_i32_1111 : BitVec 32 := 8#32
  let v1515 : BitVec 32 := Scalar.addi c0_i32_1110 c8_i32_1111
  let c1_i32_1112 : BitVec 32 := 1#32
  ⟨c0_i32_1110, v1515, c1_i32_1112⟩
def k0_off49 (d0 : Dev nD) (k0_t16 : Fin k0_t16_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1078 : BitVec 32 := 14#32
  let v1457 : BitVec 32 := Scalar.subi v2 c14_i32_1078
  let c1_i32_1079 : BitVec 32 := 1#32
  let v1458 : BitVec 32 := Scalar.subi v1457 c1_i32_1079
  let c32_i32_1080 : BitVec 32 := 32#32
  let v1459 : BitVec 32 := Scalar.addi v1458 c32_i32_1080
  let c16_i32_1081 : BitVec 32 := 16#32
  let v1460 : BitVec 32 := Scalar.remsi v1459 c16_i32_1081
  let c128_i32_1870 : BitVec 32 := 128#32
  let v2172 : BitVec 32 := Scalar.muli v1460 c128_i32_1870
  let v2174 : Index := Scalar.indexCast v2172
  let c0_i32_1110 : BitVec 32 := 0#32
  let c1_i32_1112 : BitVec 32 := 1#32
  let arg18 : BitVec 32 := Scf.iv c0_i32_1110 c1_i32_1112 k0_t16
  let c128_i32_1871 : BitVec 32 := 128#32
  let v2173 : BitVec 32 := Scalar.muli arg18 c128_i32_1871
  let v2175 : Index := Scalar.indexCast v2173
  ![v2174.toNat, v2175.toNat]
def k0_off50 (k0_t16 : Fin k0_t16_loop.trips) : Fin 3 → Nat :=
  let c0_i32_1110 : BitVec 32 := 0#32
  let c1_i32_1112 : BitVec 32 := 1#32
  let arg18 : BitVec 32 := Scf.iv c0_i32_1110 c1_i32_1112 k0_t16
  let v2177 : Index := Scalar.indexCast arg18
  let c0_1872 : Index := 0#32
  let c0_1873 : Index := 0#32
  ![v2177.toNat, 0, 0]
def k0_off51 (k0_t16 : Fin k0_t16_loop.trips) : Fin 2 → Nat :=
  let c0_1881 : Index := 0#32
  let c0_i32_1110 : BitVec 32 := 0#32
  let c1_i32_1112 : BitVec 32 := 1#32
  let arg18 : BitVec 32 := Scf.iv c0_i32_1110 c1_i32_1112 k0_t16
  let c128_i32_1880 : BitVec 32 := 128#32
  let v2194 : BitVec 32 := Scalar.muli arg18 c128_i32_1880
  let v2195 : Index := Scalar.indexCast v2194
  ![0, v2195.toNat]
def k0_dev32 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1148 : BitVec 32 := 1#32
  let v1549 : BitVec 32 := Scalar.muli v5 c1_i32_1148
  let v1550 : BitVec 32 := Scalar.addi c0_i32_1149 v1549
  v1550.toNat
def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1150 : BitVec 32 := 1#32
  let v1551 : BitVec 32 := Scalar.addi v2 c1_i32_1150
  let c16_i32_1151 : BitVec 32 := 16#32
  let v1552 : BitVec 32 := Scalar.remsi v1551 c16_i32_1151
  let v1553 : Index := Scalar.indexCast v1552
  let c0_1152 : Index := 0#32
  let c0_1153 : Index := 0#32
  ![v1553.toNat, 0, 0]
def k0_dev33 (d0 : Dev nD) : Nat :=
  let c0_i32_1175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1174 : BitVec 32 := 1#32
  let v1573 : BitVec 32 := Scalar.muli v7 c1_i32_1174
  let v1574 : BitVec 32 := Scalar.addi c0_i32_1175 v1573
  v1574.toNat
def k0_dev34 (d0 : Dev nD) : Nat :=
  let c0_i32_1185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1184 : BitVec 32 := 1#32
  let v1583 : BitVec 32 := Scalar.muli v5 c1_i32_1184
  let v1584 : BitVec 32 := Scalar.addi c0_i32_1185 v1583
  v1584.toNat
def k0_dev35 (d0 : Dev nD) : Nat :=
  let c0_i32_1222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1221 : BitVec 32 := 1#32
  let v1619 : BitVec 32 := Scalar.muli v5 c1_i32_1221
  let v1620 : BitVec 32 := Scalar.addi c0_i32_1222 v1619
  v1620.toNat
def k0_off53 (d0 : Dev nD) (c0_i32_1166 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1165 : BitVec 32 := 2#32
  let v1570 : BitVec 32 := Scalar.addi v2 c2_i32_1165
  let v1571 : BitVec 32 := Scalar.addi v1570 c0_i32_1166
  let c16_i32_1167 : BitVec 32 := 16#32
  let v1572 : BitVec 32 := Scalar.remsi v1571 c16_i32_1167
  let v1638 : Index := Scalar.indexCast v1572
  let c0_1245 : Index := 0#32
  let c0_1246 : Index := 0#32
  ![v1638.toNat, 0, 0]
def k0_dev36 (d0 : Dev nD) : Nat :=
  let c0_i32_1255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1254 : BitVec 32 := 1#32
  let v1647 : BitVec 32 := Scalar.muli v7 c1_i32_1254
  let v1648 : BitVec 32 := Scalar.addi c0_i32_1255 v1647
  v1648.toNat
def k0_dev37 (d0 : Dev nD) : Nat :=
  let c0_i32_1269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1268 : BitVec 32 := 1#32
  let v1655 : BitVec 32 := Scalar.muli v7 c1_i32_1268
  let v1656 : BitVec 32 := Scalar.addi c0_i32_1269 v1655
  v1656.toNat
def k0_dev38 (d0 : Dev nD) : Nat :=
  let c0_i32_1279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1278 : BitVec 32 := 1#32
  let v1665 : BitVec 32 := Scalar.muli v5 c1_i32_1278
  let v1666 : BitVec 32 := Scalar.addi c0_i32_1279 v1665
  v1666.toNat
def k0_dev39 (d0 : Dev nD) : Nat :=
  let c0_i32_1316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1315 : BitVec 32 := 1#32
  let v1701 : BitVec 32 := Scalar.muli v5 c1_i32_1315
  let v1702 : BitVec 32 := Scalar.addi c0_i32_1316 v1701
  v1702.toNat
def k0_dev40 (d0 : Dev nD) : Nat :=
  let c0_i32_1349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1348 : BitVec 32 := 1#32
  let v1729 : BitVec 32 := Scalar.muli v7 c1_i32_1348
  let v1730 : BitVec 32 := Scalar.addi c0_i32_1349 v1729
  v1730.toNat
def k0_dev41 (d0 : Dev nD) : Nat :=
  let c0_i32_1363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1362 : BitVec 32 := 1#32
  let v1737 : BitVec 32 := Scalar.muli v7 c1_i32_1362
  let v1738 : BitVec 32 := Scalar.addi c0_i32_1363 v1737
  v1738.toNat
def k0_dev42 (d0 : Dev nD) : Nat :=
  let c0_i32_1375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1374 : BitVec 32 := 1#32
  let v1747 : BitVec 32 := Scalar.muli v5 c1_i32_1374
  let v1748 : BitVec 32 := Scalar.addi c0_i32_1375 v1747
  v1748.toNat
def k0_dev43 (d0 : Dev nD) : Nat :=
  let c0_i32_1412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1411 : BitVec 32 := 1#32
  let v1783 : BitVec 32 := Scalar.muli v5 c1_i32_1411
  let v1784 : BitVec 32 := Scalar.addi c0_i32_1412 v1783
  v1784.toNat
def k0_dev44 (d0 : Dev nD) : Nat :=
  let c0_i32_1445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1444 : BitVec 32 := 1#32
  let v1811 : BitVec 32 := Scalar.muli v7 c1_i32_1444
  let v1812 : BitVec 32 := Scalar.addi c0_i32_1445 v1811
  v1812.toNat
def k0_dev45 (d0 : Dev nD) : Nat :=
  let c0_i32_1459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1458 : BitVec 32 := 1#32
  let v1819 : BitVec 32 := Scalar.muli v7 c1_i32_1458
  let v1820 : BitVec 32 := Scalar.addi c0_i32_1459 v1819
  v1820.toNat
def k0_dev46 (d0 : Dev nD) : Nat :=
  let c0_i32_1471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1470 : BitVec 32 := 1#32
  let v1829 : BitVec 32 := Scalar.muli v5 c1_i32_1470
  let v1830 : BitVec 32 := Scalar.addi c0_i32_1471 v1829
  v1830.toNat
def k0_dev47 (d0 : Dev nD) : Nat :=
  let c0_i32_1508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1507 : BitVec 32 := 1#32
  let v1865 : BitVec 32 := Scalar.muli v5 c1_i32_1507
  let v1866 : BitVec 32 := Scalar.addi c0_i32_1508 v1865
  v1866.toNat
def k0_dev48 (d0 : Dev nD) : Nat :=
  let c0_i32_1541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1540 : BitVec 32 := 1#32
  let v1893 : BitVec 32 := Scalar.muli v7 c1_i32_1540
  let v1894 : BitVec 32 := Scalar.addi c0_i32_1541 v1893
  v1894.toNat
def k0_dev49 (d0 : Dev nD) : Nat :=
  let c0_i32_1555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1554 : BitVec 32 := 1#32
  let v1901 : BitVec 32 := Scalar.muli v7 c1_i32_1554
  let v1902 : BitVec 32 := Scalar.addi c0_i32_1555 v1901
  v1902.toNat
def k0_dev50 (d0 : Dev nD) : Nat :=
  let c0_i32_1567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1566 : BitVec 32 := 1#32
  let v1911 : BitVec 32 := Scalar.muli v5 c1_i32_1566
  let v1912 : BitVec 32 := Scalar.addi c0_i32_1567 v1911
  v1912.toNat
def k0_dev51 (d0 : Dev nD) : Nat :=
  let c0_i32_1604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1603 : BitVec 32 := 1#32
  let v1947 : BitVec 32 := Scalar.muli v5 c1_i32_1603
  let v1948 : BitVec 32 := Scalar.addi c0_i32_1604 v1947
  v1948.toNat
def k0_dev52 (d0 : Dev nD) : Nat :=
  let c0_i32_1637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1636 : BitVec 32 := 1#32
  let v1975 : BitVec 32 := Scalar.muli v7 c1_i32_1636
  let v1976 : BitVec 32 := Scalar.addi c0_i32_1637 v1975
  v1976.toNat
def k0_dev53 (d0 : Dev nD) : Nat :=
  let c0_i32_1651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1650 : BitVec 32 := 1#32
  let v1983 : BitVec 32 := Scalar.muli v7 c1_i32_1650
  let v1984 : BitVec 32 := Scalar.addi c0_i32_1651 v1983
  v1984.toNat
def k0_dev54 (d0 : Dev nD) : Nat :=
  let c0_i32_1663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1662 : BitVec 32 := 1#32
  let v1993 : BitVec 32 := Scalar.muli v5 c1_i32_1662
  let v1994 : BitVec 32 := Scalar.addi c0_i32_1663 v1993
  v1994.toNat
def k0_dev55 (d0 : Dev nD) : Nat :=
  let c0_i32_1700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1699 : BitVec 32 := 1#32
  let v2029 : BitVec 32 := Scalar.muli v5 c1_i32_1699
  let v2030 : BitVec 32 := Scalar.addi c0_i32_1700 v2029
  v2030.toNat
def k0_dev56 (d0 : Dev nD) : Nat :=
  let c0_i32_1733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1732 : BitVec 32 := 1#32
  let v2057 : BitVec 32 := Scalar.muli v7 c1_i32_1732
  let v2058 : BitVec 32 := Scalar.addi c0_i32_1733 v2057
  v2058.toNat
def k0_dev57 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1746 : BitVec 32 := 1#32
  let v2065 : BitVec 32 := Scalar.muli v7 c1_i32_1746
  let v2066 : BitVec 32 := Scalar.addi c0_i32_1747 v2065
  v2066.toNat
def k0_dev58 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1758 : BitVec 32 := 1#32
  let v2075 : BitVec 32 := Scalar.muli v5 c1_i32_1758
  let v2076 : BitVec 32 := Scalar.addi c0_i32_1759 v2075
  v2076.toNat
def k0_dev59 (d0 : Dev nD) : Nat :=
  let c0_i32_1796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1795 : BitVec 32 := 1#32
  let v2111 : BitVec 32 := Scalar.muli v5 c1_i32_1795
  let v2112 : BitVec 32 := Scalar.addi c0_i32_1796 v2111
  v2112.toNat
def k0_dev60 (d0 : Dev nD) : Nat :=
  let c0_i32_1823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1822 : BitVec 32 := 1#32
  let v2134 : BitVec 32 := Scalar.muli v7 c1_i32_1822
  let v2135 : BitVec 32 := Scalar.addi c0_i32_1823 v2134
  v2135.toNat
def k0_dev61 (d0 : Dev nD) : Nat :=
  let c0_i32_1834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1833 : BitVec 32 := 1#32
  let v2139 : BitVec 32 := Scalar.muli v7 c1_i32_1833
  let v2140 : BitVec 32 := Scalar.addi c0_i32_1834 v2139
  v2140.toNat
def k0_dev62 (d0 : Dev nD) : Nat :=
  let c0_i32_1865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1864 : BitVec 32 := 1#32
  let v2170 : BitVec 32 := Scalar.muli v5 c1_i32_1864
  let v2171 : BitVec 32 := Scalar.addi c0_i32_1865 v2170
  v2171.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S1x2048x16384 : Shape := ⟨3, ![1, 2048, 16384]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x128x2048x2048 : Shape := ⟨4, ![1, 128, 2048, 2048]⟩
abbrev S1x1x2048x2048 : Shape := ⟨4, ![1, 1, 2048, 2048]⟩
abbrev S1x128x2048 : Shape := ⟨3, ![1, 128, 2048]⟩
abbrev S1x128x2048x1 : Shape := ⟨4, ![1, 128, 2048, 1]⟩
abbrev S1x1x2048x1 : Shape := ⟨4, ![1, 1, 2048, 1]⟩
abbrev S1x128x128x2048 : Shape := ⟨4, ![1, 128, 128, 2048]⟩

abbrev nBuf : Space → Nat
  | .hbm => 128
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x16384, .bf16⟩
  | .hbm, ⟨2, _⟩ => ⟨S1x2048x128x128, .bf16⟩
  | .hbm, ⟨3, _⟩ => ⟨S1x2048x128x128, .bf16⟩
  | .hbm, ⟨4, _⟩ => ⟨S16384x1024, .bf16⟩
  | .hbm, ⟨5, _⟩ => ⟨S1x2048x1024, .f32⟩
  | .hbm, ⟨6, _⟩ => ⟨S1024x16384, .f32⟩
  | .hbm, ⟨7, _⟩ => ⟨S1x2048x128x128, .f32⟩
  | .hbm, ⟨8, _⟩ => ⟨S1x2048x128x128, .f32⟩
  | .hbm, ⟨9, _⟩ => ⟨S16384x1024, .f32⟩
  | .hbm, ⟨10, _⟩ => ⟨S1x2048x16384, .f32⟩
  | .hbm, ⟨11, _⟩ => ⟨S1x2048x128x128, .f32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S2048x2048, .i32⟩
  | .hbm, ⟨53, _⟩ => ⟨S2048x2048, .i32⟩
  | .hbm, ⟨54, _⟩ => ⟨S2048x2048, .i1⟩
  | .hbm, ⟨55, _⟩ => ⟨S_, .i32⟩
  | .hbm, ⟨56, _⟩ => ⟨S1x2048, .i32⟩
  | .hbm, ⟨57, _⟩ => ⟨S1x2048, .i1⟩
  | .hbm, ⟨58, _⟩ => ⟨S2048x2048, .i1⟩
  | .hbm, ⟨59, _⟩ => ⟨S2048x2048, .i1⟩
  | .hbm, ⟨60, _⟩ => ⟨S2048x2048, .i32⟩
  | .hbm, ⟨61, _⟩ => ⟨S2048x2048, .i32⟩
  | .hbm, ⟨62, _⟩ => ⟨S2048x2048, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S2048x2048, .i32⟩
  | .hbm, ⟨70, _⟩ => ⟨S2048x2048, .i32⟩
  | .hbm, ⟨71, _⟩ => ⟨S_, .i32⟩
  | .hbm, ⟨72, _⟩ => ⟨S2048x2048, .i32⟩
  | .hbm, ⟨73, _⟩ => ⟨S2048x2048, .i1⟩
  | .hbm, ⟨74, _⟩ => ⟨S_, .i32⟩
  | .hbm, ⟨75, _⟩ => ⟨S2048x2048, .i32⟩
  | .hbm, ⟨76, _⟩ => ⟨S2048x2048, .i1⟩
  | .hbm, ⟨77, _⟩ => ⟨S_, .i32⟩
  | .hbm, ⟨78, _⟩ => ⟨S_, .i1⟩
  | .hbm, ⟨79, _⟩ => ⟨S2048x2048, .i1⟩
  | .hbm, ⟨80, _⟩ => ⟨S2048x2048, .i1⟩
  | .hbm, ⟨81, _⟩ => ⟨S2048x2048, .i1⟩
  | .hbm, ⟨82, _⟩ => ⟨S2048x2048, .i32⟩
  | .hbm, ⟨83, _⟩ => ⟨S2048x2048, .i32⟩
  | .hbm, ⟨84, _⟩ => ⟨S2048x2048, .i32⟩
  | .hbm, ⟨85, _⟩ => ⟨S_, .i32⟩
  | .hbm, ⟨86, _⟩ => ⟨S2048x2048, .i32⟩
  | .hbm, ⟨87, _⟩ => ⟨S2048x2048, .i1⟩
  | .hbm, ⟨88, _⟩ => ⟨S2048x2048, .i1⟩
  | .hbm, ⟨89, _⟩ => ⟨S1x128x2048x2048, .f32⟩
  | .hbm, ⟨90, _⟩ => ⟨S_, .f32⟩
  | .hbm, ⟨91, _⟩ => ⟨S1x128x2048x2048, .f32⟩
  | .hbm, ⟨92, _⟩ => ⟨S1x128x2048x2048, .f32⟩
  | .hbm, ⟨93, _⟩ => ⟨S1x1x2048x2048, .i1⟩
  | .hbm, ⟨94, _⟩ => ⟨S_, .f32⟩
  | .hbm, ⟨95, _⟩ => ⟨S_, .f32⟩
  | .hbm, ⟨96, _⟩ => ⟨S1x128x2048x2048, .i1⟩
  | .hbm, ⟨97, _⟩ => ⟨S1x128x2048x2048, .f32⟩
  | .hbm, ⟨98, _⟩ => ⟨S1x128x2048x2048, .f32⟩
  | .hbm, ⟨99, _⟩ => ⟨S_, .f32⟩
  | .hbm, ⟨100, _⟩ => ⟨S1x128x2048, .f32⟩
  | .hbm, ⟨101, _⟩ => ⟨S1x128x2048x1, .f32⟩
  | .hbm, ⟨102, _⟩ => ⟨S1x128x2048x2048, .f32⟩
  | .hbm, ⟨103, _⟩ => ⟨S1x128x2048x2048, .f32⟩
  | .hbm, ⟨104, _⟩ => ⟨S1x128x2048x2048, .f32⟩
  | .hbm, ⟨105, _⟩ => ⟨S_, .i1⟩
  | .hbm, ⟨106, _⟩ => ⟨S2048, .i1⟩
  | .hbm, ⟨107, _⟩ => ⟨S1x1x2048x1, .i1⟩
  | .hbm, ⟨108, _⟩ => ⟨S_, .f32⟩
  | .hbm, ⟨109, _⟩ => ⟨S1x128x2048, .f32⟩
  | .hbm, ⟨110, _⟩ => ⟨S1x128x2048x1, .f32⟩
  | .hbm, ⟨111, _⟩ => ⟨S_, .f32⟩
  | .hbm, ⟨112, _⟩ => ⟨S_, .f32⟩
  | .hbm, ⟨113, _⟩ => ⟨S1x128x2048x1, .i1⟩
  | .hbm, ⟨114, _⟩ => ⟨S1x128x2048x1, .f32⟩
  | .hbm, ⟨115, _⟩ => ⟨S1x128x2048x1, .f32⟩
  | .hbm, ⟨116, _⟩ => ⟨S1x128x2048x2048, .f32⟩
  | .hbm, ⟨117, _⟩ => ⟨S1x128x2048x2048, .f32⟩
  | .hbm, ⟨118, _⟩ => ⟨S1x1x2048x1, .i1⟩
  | .hbm, ⟨119, _⟩ => ⟨S_, .f32⟩
  | .hbm, ⟨120, _⟩ => ⟨S_, .f32⟩
  | .hbm, ⟨121, _⟩ => ⟨S1x128x2048x2048, .i1⟩
  | .hbm, ⟨122, _⟩ => ⟨S1x128x2048x2048, .f32⟩
  | .hbm, ⟨123, _⟩ => ⟨S1x128x2048x2048, .f32⟩
  | .hbm, ⟨124, _⟩ => ⟨S1x128x128x2048, .f32⟩
  | .hbm, ⟨125, _⟩ => ⟨S1x2048x128x128, .f32⟩
  | .hbm, ⟨126, _⟩ => ⟨S1x2048x16384, .f32⟩
  | .hbm, ⟨127, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.My.Body.lean ====
/- The body of the kernel written as a prologue, fifteen steps of the reduce-scatter, and eight steps of the
   all-gather, each step one definition used over and over; and that it is the printed body. -/
module

public import proofs.«01_k».proof.Proof.Gen.KernelIdeal.Skeleton
public import Idealize.ShloMosaic.Lib.Tactic.ProgEq

@[expose] public section

set_option maxRecDepth 10000

noncomputable section

namespace Cert.KernelIdeal.My

open Idealize.ShloMosaic Idealize.SL.Sem Cert.KernelIdeal Cert.KernelIdeal.Gen
open scoped Idealize.ShloMosaic.ProgEq

/-! ## The buffers -/

abbrev mX : Memref sig .tc .vmem S2048x1024 .bf16 := Memref.whole cc0_stg0_0
abbrev mWq : Memref sig .tc .vmem S1024x1024 .bf16 := Memref.whole cc0_stg1_0
abbrev mK : Memref sig .tc .vmem S8x2048x128 .bf16 := Memref.whole cc0_stg2_0
abbrev mV : Memref sig .tc .vmem S8x2048x128 .bf16 := Memref.whole cc0_stg3_0
abbrev mWo : Memref sig .tc .vmem S1024x1024 .bf16 := Memref.whole cc0_stg4_0
abbrev mO : Memref sig .tc .vmem S16x128x1024 .f32 := Memref.whole cc0_stg5_0
abbrev mC : Memref sig .tc .vmem S2x128x1024 .bf16 := Memref.whole cc0_scratch0
abbrev mS : Memref sig .tc .vmem S2x128x1024 .bf16 := Memref.whole cc0_scratch1
abbrev mCL : Memref sig .tc .vmem S2x128x1024 .bf16 := Memref.whole cc0_scratch2
abbrev mSL : Memref sig .tc .vmem S2x128x1024 .bf16 := Memref.whole cc0_scratch3
abbrev mX2 : Memref sig .tc .vmem S128x1024 .bf16 := Memref.whole cc0_scratch4
abbrev mQ : Memref sig .tc .vmem S2048x1024 .bf16 := Memref.whole cc0_scratch5

theorem slot_inb {b : ℕ} (hb : b < 2) : ∀ a, (![b, 0, 0] : Fin 3 → ℕ) a + S1x128x1024.size a ≤ S2x128x1024.size a := by
  rcases (show b = 0 ∨ b = 1 by omega) with rfl | rfl
  · exact inb_S2x128x1024_S1x128x1024_0_0_0
  · exact inb_S2x128x1024_S1x128x1024_1_0_0
theorem slot_packed {b : ℕ} (hb : b < 2) :
    (Rect.unit (s := S2x128x1024) ![b, 0, 0] S1x128x1024.size (slot_inb hb)).PackedRows (EltTy.packing .bf16) := by
  rcases (show b = 0 ∨ b = 1 by omega) with rfl | rfl
  · exact packedbf16_S2x128x1024_S1x128x1024_0_0_0
  · exact packedbf16_S2x128x1024_S1x128x1024_1_0_0
theorem slot_words {b : ℕ} (hb : b < 2) :
    (Rect.unit (s := S2x128x1024) ![b, 0, 0] S1x128x1024.size (slot_inb hb)).WholeWords (EltTy.packing .bf16) := by
  rcases (show b = 0 ∨ b = 1 by omega) with rfl | rfl
  · exact wordsbf16_S2x128x1024_S1x128x1024_0_0_0
  · exact wordsbf16_S2x128x1024_S1x128x1024_1_0_0
theorem sem_inb {b : ℕ} (hb : b < 2) : ∀ a, (![b] : Fin 1 → ℕ) a + S1.size a ≤ S2.size a := by
  rcases (show b = 0 ∨ b = 1 by omega) with rfl | rfl
  · exact inb_S2_S1_0
  · exact inb_S2_S1_1

/-- The rectangle of slot `b` of a two-slot buffer. -/
abbrev slotRect (b : ℕ) (hb : b < 2) : Rect S2x128x1024 := Rect.unit (s := S2x128x1024) ![b, 0, 0] S1x128x1024.size (slot_inb hb)
/-- Slot `b` of a two-slot buffer, as the matrix the copies move. -/
abbrev slotOf (M : Memref sig .tc .vmem S2x128x1024 .bf16) (b : ℕ) (hb : b < 2) : Memref sig .tc .vmem S128x1024 .bf16 :=
  (M.slice (Rect.unit (s := S2x128x1024) ![b, 0, 0] S1x128x1024.size (slot_inb hb)) (fun _ => rfl)).squeeze S128x1024 squeezes_S1x128x1024_S128x1024
/-- Semaphore `b` of an array of two. -/
abbrev semOf (A : DmaSems sig S2) (b : ℕ) (hb : b < 2) : DmaSem sig :=
  ((A.slice (Rect.unit (s := S2) ![b] S1.size (sem_inb hb))).squeeze S_ squeezes_S1_S_).sem

variable {F : FTy → Type} [FloatOps F]

/-- Programs of the tensor core. -/
abbrev PR (F : FTy → Type) [FloatOps F] := Prog (TpuEff nD τ sig (Elt F) Λ₀ .tc)

/-! ## One operation each -/

abbrev ldO (off : Fin 3 → ℕ) (inb : ∀ a, off a + S1x128x1024.size a ≤ S16x128x1024.size a) : PR F (Vec F S1x128x1024 .f32) :=
  Prog.lift (.load mO (Rect.unit (s := S16x128x1024) off S1x128x1024.size inb).toLoadRect (View.loadsAt_vmem h_S1x128x1024))
abbrev stO (off : Fin 3 → ℕ) (inb : ∀ a, off a + S1x128x1024.size a ≤ S16x128x1024.size a) (v : Vec F S1x128x1024 .f32) : PR F PUnit :=
  Prog.lift (.store mO (Rect.unit (s := S16x128x1024) off S1x128x1024.size inb) v Finset.univ (View.stores_vmem_bits_univ h_S1x128x1024 rfl) (.inl rfl))
abbrev ldS (M : Memref sig .tc .vmem S2x128x1024 .bf16) (b : ℕ) (hb : b < 2) : PR F (Vec F S1x128x1024 .bf16) :=
  Prog.lift (.load M (Rect.unit (s := S2x128x1024) ![b, 0, 0] S1x128x1024.size (slot_inb hb)).toLoadRect (View.loadsAt_vmem h_S1x128x1024))
abbrev stS (M : Memref sig .tc .vmem S2x128x1024 .bf16) (hM : M.IsWhole) (b : ℕ) (hb : b < 2) (v : Vec F S1x128x1024 .bf16) : PR F PUnit :=
  Prog.lift (.store M (Rect.unit (s := S2x128x1024) ![b, 0, 0] S1x128x1024.size (slot_inb hb)) v Finset.univ
    (View.stores_vmem h_S1x128x1024 (hM.storeExact_slice rfl _ (slot_packed hb)) (fun _ => rfl)) (.inl rfl))
abbrev sendS (Ms : Memref sig .tc .vmem S2x128x1024 .bf16) (hs : Ms.IsWhole) (Md : Memref sig .tc .vmem S2x128x1024 .bf16) (hd : Md.IsWhole)
    (As Ar : DmaSems sig S2) (b : ℕ) (hb : b < 2) (d : Dev nD) : PR F PUnit :=
  let vs : Memref sig .tc .vmem S1x128x1024 .bf16 := Ms.slice (Rect.unit (s := S2x128x1024) ![b, 0, 0] S1x128x1024.size (slot_inb hb)) (fun _ => rfl)
  let vsq : Memref sig .tc .vmem S128x1024 .bf16 := vs.squeeze S128x1024 squeezes_S1x128x1024_S128x1024
  let vd : Memref sig .tc .vmem S1x128x1024 .bf16 := Md.slice (Rect.unit (s := S2x128x1024) ![b, 0, 0] S1x128x1024.size (slot_inb hb)) (fun _ => rfl)
  let vdq : Memref sig .tc .vmem S128x1024 .bf16 := vd.squeeze S128x1024 squeezes_S1x128x1024_S128x1024
  let ss : DmaSems sig S1 := As.slice (Rect.unit (s := S2) ![b] S1.size (sem_inb hb))
  let ssq : DmaSems sig S_ := ss.squeeze S_ squeezes_S1_S_
  let sr : DmaSems sig S1 := Ar.slice (Rect.unit (s := S2) ![b] S1.size (sem_inb hb))
  let srq : DmaSems sig S_ := sr.squeeze S_ squeezes_S1_S_
  Prog.lift (.enqueueDma vsq (.remote (Dev.tc d) vdq (.dma ssq.sem)) (.dma srq.sem)
    ((hs.wordExact_slice rfl _ (slot_words hb)).reshape _ _) ((hd.wordExact_slice rfl _ (slot_words hb)).reshape _ _) ⟨⟨rfl, Or.inl rfl⟩, trivial⟩)
abbrev waitS (Ms : Memref sig .tc .vmem S2x128x1024 .bf16) (hs : Ms.IsWhole) (Md : Memref sig .tc .vmem S2x128x1024 .bf16) (hd : Md.IsWhole)
    (A : DmaSems sig S2) (b : ℕ) (hb : b < 2) : PR F PUnit :=
  let vs : Memref sig .tc .vmem S1x128x1024 .bf16 := Ms.slice (Rect.unit (s := S2x128x1024) ![b, 0, 0] S1x128x1024.size (slot_inb hb)) (fun _ => rfl)
  let vsq : Memref sig .tc .vmem S128x1024 .bf16 := vs.squeeze S128x1024 squeezes_S1x128x1024_S128x1024
  let vd : Memref sig .tc .vmem S1x128x1024 .bf16 := Md.slice (Rect.unit (s := S2x128x1024) ![b, 0, 0] S1x128x1024.size (slot_inb hb)) (fun _ => rfl)
  let vdq : Memref sig .tc .vmem S128x1024 .bf16 := vd.squeeze S128x1024 squeezes_S1x128x1024_S128x1024
  let sa : DmaSems sig S1 := A.slice (Rect.unit (s := S2) ![b] S1.size (sem_inb hb))
  let saq : DmaSems sig S_ := sa.squeeze S_ squeezes_S1_S_
  Prog.lift (.waitDma2 saq.sem vsq vdq
    ((hs.wordExact_slice rfl _ (slot_words hb)).reshape _ _) ((hd.wordExact_slice rfl _ (slot_words hb)).reshape _ _))
abbrev ldX2 : PR F (Vec F S128x1024 .bf16) :=
  Prog.lift (.load mX2 (Rect.unit (s := S128x1024) ![0, 0] S128x1024.size inb_S128x1024_S128x1024_0_0).toLoadRect (View.loadsAt_vmem h_S128x1024))
abbrev ldWo : PR F (Vec F S1024x1024 .bf16) :=
  Prog.lift (.load mWo (Rect.unit (s := S1024x1024) ![0, 0] S1024x1024.size inb_S1024x1024_S1024x1024_0_0).toLoadRect (View.loadsAt_vmem h_S1024x1024))

/-! ## The attention of one chunk of rows -/

/-- The block of columns of each column. -/
abbrev colBlk : IVec S128x2048 32 :=
  k0_pay4 (iota .tc S128x2048 32 [1] iota_S128x2048_d1_w32) 64#32 k0_pay2 k0_pay3
/-- One head of a chunk: the kept scores' exponentials, over their sum, times the values. -/
abbrev headOf (w : BitVec 32) (q : Vec F S128x128 .bf16) (k : Vec F S1x2048x128 .bf16) (v : Vec F S1x2048x128 .bf16) : FVec F S128x128 .bf16 :=
  k0_pay6 colBlk (k0_pay5 w) q k v
/-- The product of a chunk's heads with the output weights. -/
abbrev projOf (x : Vec F S128x1024 .bf16) (wo : Vec F S1024x1024 .bf16) : FVec F S1x128x1024 .f32 := k0_pay7 x wo
/-- What is stored into a slot for sending. -/
abbrev narrow (x : Vec F S1x128x1024 .f32) : FVec F S1x128x1024 .bf16 := k0_pay9 (k0_pay8 x)
/-- A chunk plus what has arrived. -/
abbrev addOf (x : Vec F S1x128x1024 .f32) (y : Vec F S1x128x1024 .bf16) : FVec F S1x128x1024 .f32 := k0_pay14 x y
/-- What has arrived, at the result's format. -/
abbrev widen (y : Vec F S1x128x1024 .bf16) : FVec F S1x128x1024 .f32 := k0_pay126 y
/-- What has arrived, to be sent on. -/
abbrev passOn (y : Vec F S1x128x1024 .bf16) : FVec F S1x128x1024 .bf16 := k0_pay127 y

/-- One trip of the loop over the heads. -/
def headBody (w : BitVec 32) (o1 : Fin 2 → ℕ) (i1 : ∀ a, o1 a + S128x128.size a ≤ S2048x1024.size a)
    (o2 : Fin 3 → ℕ) (i2 : ∀ a, o2 a + S1x2048x128.size a ≤ S8x2048x128.size a)
    (o3 : Fin 2 → ℕ) (i3 : ∀ a, o3 a + S128x128.size a ≤ S128x1024.size a)
    (p3 : (Rect.unit (s := S128x1024) o3 S128x128.size i3).PackedRows (EltTy.packing .bf16)) : PR F Unit := do
  let q : Vec F S128x128 .bf16 ← Prog.lift (.load mQ (Rect.unit (s := S2048x1024) o1 S128x128.size i1).toLoadRect (View.loadsAt_vmem h_S128x128))
  let k : Vec F S1x2048x128 .bf16 ← Prog.lift (.load mK (Rect.unit (s := S8x2048x128) o2 S1x2048x128.size i2).toLoadRect (View.loadsAt_vmem h_S1x2048x128))
  let v : Vec F S1x2048x128 .bf16 ← Prog.lift (.load mV (Rect.unit (s := S8x2048x128) o2 S1x2048x128.size i2).toLoadRect (View.loadsAt_vmem h_S1x2048x128))
  let _ : Vec F S128x128 .bf16 ← Prog.lift (.load mX2 (Rect.unit (s := S128x1024) o3 S128x128.size i3).toLoadRect (View.loadsAt_vmem h_S128x128))
  Prog.lift (.store mX2 (Rect.unit (s := S128x1024) o3 S128x128.size i3) (headOf w q k v) Finset.univ
    (View.stores_vmem h_S128x128 ((Memref.isWhole_whole cc0_scratch4).storeExact_slice rfl _ p3) (fun _ => rfl)) (.inl rfl))
  pure ⟨⟩

/-- The chunk's product stored into its place in the result. -/
def putChunk (loop : PR F Unit) (off : Fin 3 → ℕ) (inb : ∀ a, off a + S1x128x1024.size a ≤ S16x128x1024.size a) : PR F PUnit := do
  loop
  let x : Vec F S128x1024 .bf16 ← ldX2
  let wo : Vec F S1024x1024 .bf16 ← ldWo
  let _ : Vec F S1x128x1024 .f32 ← ldO off inb
  stO off inb (projOf x wo)

/-- One step of the reduce-scatter. -/
def rsStep (wait : PR F PUnit) (b : ℕ) (hb : b < 2) (o5 : Fin 3 → ℕ) (i5 : ∀ a, o5 a + S1x128x1024.size a ≤ S16x128x1024.size a)
    (o9 : Fin 3 → ℕ) (i9 : ∀ a, o9 a + S1x128x1024.size a ≤ S16x128x1024.size a) (dr dl : Dev nD) (loop : PR F Unit) : PR F PUnit := do
  let x : Vec F S1x128x1024 .f32 ← ldO o5 i5
  let _ : Vec F S1x128x1024 .bf16 ← ldS mS b hb
  stS mS (Memref.isWhole_whole _) b hb (narrow x)
  wait
  sendS mS (Memref.isWhole_whole _) mC (Memref.isWhole_whole _) cc0_scratch6 cc0_scratch7 b hb dr
  putChunk loop o9 i9
  waitS mC (Memref.isWhole_whole _) mS (Memref.isWhole_whole _) cc0_scratch6 b hb
  waitS mS (Memref.isWhole_whole _) mC (Memref.isWhole_whole _) cc0_scratch7 b hb
  let y : Vec F S1x128x1024 .f32 ← ldO o9 i9
  let z : Vec F S1x128x1024 .bf16 ← ldS mC b hb
  let _ : Vec F S1x128x1024 .f32 ← ldO o9 i9
  stO o9 i9 (addOf y z)
  semSignalWord dl cc0_scratch8.sem 1#32

/-- The device's own finished chunk put into the two slots that are sent first. -/
def middle (o : Fin 3 → ℕ) (inb : ∀ a, o a + S1x128x1024.size a ≤ S16x128x1024.size a) : PR F PUnit := do
  let x : Vec F S1x128x1024 .f32 ← ldO o inb
  let _ : Vec F S1x128x1024 .bf16 ← ldS mS 1 (by decide)
  stS mS (Memref.isWhole_whole _) 1 (by decide) (narrow x)
  let y : Vec F S1x128x1024 .f32 ← ldO o inb
  let _ : Vec F S1x128x1024 .bf16 ← ldS mSL 0 (by decide)
  stS mSL (Memref.isWhole_whole _) 0 (by decide) (narrow y)

/-- The copy to the right of one step of the all-gather, and what comes from the left put into the result. -/
def agRight (b : ℕ) (hb : b < 2) (o : Fin 3 → ℕ) (inb : ∀ a, o a + S1x128x1024.size a ≤ S16x128x1024.size a)
    (mid : PR F PUnit) (dr : Dev nD) : PR F PUnit := do
  semWaitWord cc0_scratch8.sem 1#32
  sendS mS (Memref.isWhole_whole _) mC (Memref.isWhole_whole _) cc0_scratch6 cc0_scratch7 b hb dr
  mid
  waitS mC (Memref.isWhole_whole _) mS (Memref.isWhole_whole _) cc0_scratch6 b hb
  waitS mS (Memref.isWhole_whole _) mC (Memref.isWhole_whole _) cc0_scratch7 b hb
  let z : Vec F S1x128x1024 .bf16 ← ldS mC b hb
  let _ : Vec F S1x128x1024 .f32 ← ldO o inb
  stO o inb (widen z)

/-- What has arrived in slot `b` put into the other slot to be sent on. -/
def forward (Mr : Memref sig .tc .vmem S2x128x1024 .bf16) (Ms : Memref sig .tc .vmem S2x128x1024 .bf16) (hs : Ms.IsWhole)
    (b b' : ℕ) (hb : b < 2) (hb' : b' < 2) : PR F PUnit := do
  let z : Vec F S1x128x1024 .bf16 ← ldS Mr b hb
  let _ : Vec F S1x128x1024 .bf16 ← ldS Ms b' hb'
  stS Ms hs b' hb' (passOn z)

/-- The rest of the copy to the left of one step of the all-gather. -/
def agLeft (b : ℕ) (hb : b < 2) (o : Fin 3 → ℕ) (inb : ∀ a, o a + S1x128x1024.size a ≤ S16x128x1024.size a)
    (fw : PR F PUnit) (d : Dev nD) : PR F PUnit := do
  waitS mCL (Memref.isWhole_whole _) mSL (Memref.isWhole_whole _) cc0_scratch9 b hb
  waitS mSL (Memref.isWhole_whole _) mCL (Memref.isWhole_whole _) cc0_scratch10 b hb
  let z : Vec F S1x128x1024 .bf16 ← ldS mCL b hb
  let _ : Vec F S1x128x1024 .f32 ← ldO o inb
  stO o inb (widen z)
  fw
  semSignalWord d cc0_scratch11.sem 1#32

/-- One step of the all-gather but the last. -/
def agStep (wait : PR F PUnit) (b bL : ℕ) (hb : b < 2) (hbL : bL < 2) (o5 : Fin 3 → ℕ) (i5 : ∀ a, o5 a + S1x128x1024.size a ≤ S16x128x1024.size a)
    (o6 : Fin 3 → ℕ) (i6 : ∀ a, o6 a + S1x128x1024.size a ≤ S16x128x1024.size a) (fwL : PR F PUnit)
    (d1 d2 d3 d4 : Dev nD) : PR F PUnit := do
  agRight b hb o5 i5 (do
    wait
    sendS mSL (Memref.isWhole_whole _) mCL (Memref.isWhole_whole _) cc0_scratch9 cc0_scratch10 bL hbL d2) d1
  forward mC mS (Memref.isWhole_whole _) b bL hb hbL
  semSignalWord d3 cc0_scratch8.sem 1#32
  agLeft bL hbL o6 i6 fwL d4

/-- The word of a device's place in the ring. -/
abbrev wMy (d0 : Dev nD) : BitVec 32 := Scalar.remsi (Scalar.divsi (Dev.word d0) 1#32) 16#32
/-- The word of the chunk that step `s` of the reduce-scatter computes. -/
abbrev wCh (d0 : Dev nD) (s : BitVec 32) : BitVec 32 :=
  Scalar.remsi (Scalar.addi (Scalar.subi (Scalar.subi (wMy d0) s) 1#32) 32#32) 16#32

/-- The barrier semaphore. -/
abbrev barS : Sems sig S_ := SemArray.scalar (sig.barrier 0 rfl)

/-- The barrier and the queries of all the rows. -/
def prologue (d1 d2 : Dev nD) : PR F PUnit := do
  semSignalWord d1 barS.sem 1#32
  semSignalWord d2 barS.sem 1#32
  semWaitWord barS.sem 2#32
  let x : Vec F S2048x1024 .bf16 ← Prog.lift (.load mX (Rect.unit (s := S2048x1024) ![0, 0] S2048x1024.size inb_S2048x1024_S2048x1024_0_0).toLoadRect (View.loadsAt_vmem h_S2048x1024))
  let w : Vec F S1024x1024 .bf16 ← Prog.lift (.load mWq (Rect.unit (s := S1024x1024) ![0, 0] S1024x1024.size inb_S1024x1024_S1024x1024_0_0).toLoadRect (View.loadsAt_vmem h_S1024x1024))
  let _ : Vec F S2048x1024 .bf16 ← Prog.lift (.load mQ (Rect.unit (s := S2048x1024) ![0, 0] S2048x1024.size inb_S2048x1024_S2048x1024_0_0).toLoadRect (View.loadsAt_vmem h_S2048x1024))
  Prog.lift (.store mQ (Rect.unit (s := S2048x1024) ![0, 0] S2048x1024.size inb_S2048x1024_S2048x1024_0_0) (k0_pay1 x w) Finset.univ
    (View.stores_vmem h_S2048x1024 ((Memref.isWhole_whole cc0_scratch5).storeExact_slice rfl _ packedbf16_S2048x1024_S2048x1024_0_0) (fun _ => rfl)) (.inl rfl))

/-- The reduce-scatter's steps. -/
def rsSteps (d0 : Dev nD) : PR F PUnit := do
  rsStep (pure ⟨⟩) 0 (by decide) (k0_off5 d0 0#32) (k0_off5_inb d0 0) (k0_off9 d0 0#32) (k0_off9_inb d0 0) ⟨k0_dev3 d0, k0_dev3_lt d0⟩ ⟨k0_dev4 d0, k0_dev4_lt d0⟩
    (Scf.Loop.for k0_t2_loop k0_t2_ok ⟨⟩ fun t _ => headBody (wCh d0 0#32) (k0_off6 d0 t) (k0_off6_inb d0 t) (k0_off7 t) (k0_off7_inb t) (k0_off8 t) (k0_off8_inb t) (k0_off8_packedbf16 t))
  rsStep (pure ⟨⟩) 1 (by decide) (k0_off5 d0 1#32) (k0_off5_inb d0 1) (k0_off9 d0 1#32) (k0_off9_inb d0 1) ⟨k0_dev5 d0, k0_dev5_lt d0⟩ ⟨k0_dev6 d0, k0_dev6_lt d0⟩
    (Scf.Loop.for k0_t3_loop k0_t3_ok ⟨⟩ fun t _ => headBody (wCh d0 1#32) (k0_off10 d0 t) (k0_off10_inb d0 t) (k0_off11 t) (k0_off11_inb t) (k0_off12 t) (k0_off12_inb t) (k0_off12_packedbf16 t))
  rsStep (semWaitWord cc0_scratch8.sem 1#32) 0 (by decide) (k0_off5 d0 2#32) (k0_off5_inb d0 2) (k0_off9 d0 2#32) (k0_off9_inb d0 2) ⟨k0_dev7 d0, k0_dev7_lt d0⟩ ⟨k0_dev8 d0, k0_dev8_lt d0⟩
    (Scf.Loop.for k0_t4_loop k0_t4_ok ⟨⟩ fun t _ => headBody (wCh d0 2#32) (k0_off13 d0 t) (k0_off13_inb d0 t) (k0_off14 t) (k0_off14_inb t) (k0_off15 t) (k0_off15_inb t) (k0_off15_packedbf16 t))
  rsStep (semWaitWord cc0_scratch8.sem 1#32) 1 (by decide) (k0_off5 d0 3#32) (k0_off5_inb d0 3) (k0_off9 d0 3#32) (k0_off9_inb d0 3) ⟨k0_dev9 d0, k0_dev9_lt d0⟩ ⟨k0_dev10 d0, k0_dev10_lt d0⟩
    (Scf.Loop.for k0_t5_loop k0_t5_ok ⟨⟩ fun t _ => headBody (wCh d0 3#32) (k0_off16 d0 t) (k0_off16_inb d0 t) (k0_off17 t) (k0_off17_inb t) (k0_off18 t) (k0_off18_inb t) (k0_off18_packedbf16 t))
  rsStep (semWaitWord cc0_scratch8.sem 1#32) 0 (by decide) (k0_off5 d0 4#32) (k0_off5_inb d0 4) (k0_off9 d0 4#32) (k0_off9_inb d0 4) ⟨k0_dev11 d0, k0_dev11_lt d0⟩ ⟨k0_dev12 d0, k0_dev12_lt d0⟩
    (Scf.Loop.for k0_t6_loop k0_t6_ok ⟨⟩ fun t _ => headBody (wCh d0 4#32) (k0_off19 d0 t) (k0_off19_inb d0 t) (k0_off20 t) (k0_off20_inb t) (k0_off21 t) (k0_off21_inb t) (k0_off21_packedbf16 t))
  rsStep (semWaitWord cc0_scratch8.sem 1#32) 1 (by decide) (k0_off5 d0 5#32) (k0_off5_inb d0 5) (k0_off9 d0 5#32) (k0_off9_inb d0 5) ⟨k0_dev13 d0, k0_dev13_lt d0⟩ ⟨k0_dev14 d0, k0_dev14_lt d0⟩
    (Scf.Loop.for k0_t7_loop k0_t7_ok ⟨⟩ fun t _ => headBody (wCh d0 5#32) (k0_off22 d0 t) (k0_off22_inb d0 t) (k0_off23 t) (k0_off23_inb t) (k0_off24 t) (k0_off24_inb t) (k0_off24_packedbf16 t))
  rsStep (semWaitWord cc0_scratch8.sem 1#32) 0 (by decide) (k0_off5 d0 6#32) (k0_off5_inb d0 6) (k0_off9 d0 6#32) (k0_off9_inb d0 6) ⟨k0_dev15 d0, k0_dev15_lt d0⟩ ⟨k0_dev16 d0, k0_dev16_lt d0⟩
    (Scf.Loop.for k0_t8_loop k0_t8_ok ⟨⟩ fun t _ => headBody (wCh d0 6#32) (k0_off25 d0 t) (k0_off25_inb d0 t) (k0_off26 t) (k0_off26_inb t) (k0_off27 t) (k0_off27_inb t) (k0_off27_packedbf16 t))
  rsStep (semWaitWord cc0_scratch8.sem 1#32) 1 (by decide) (k0_off5 d0 7#32) (k0_off5_inb d0 7) (k0_off9 d0 7#32) (k0_off9_inb d0 7) ⟨k0_dev17 d0, k0_dev17_lt d0⟩ ⟨k0_dev18 d0, k0_dev18_lt d0⟩
    (Scf.Loop.for k0_t9_loop k0_t9_ok ⟨⟩ fun t _ => headBody (wCh d0 7#32) (k0_off28 d0 t) (k0_off28_inb d0 t) (k0_off29 t) (k0_off29_inb t) (k0_off30 t) (k0_off30_inb t) (k0_off30_packedbf16 t))
  rsStep (semWaitWord cc0_scratch8.sem 1#32) 0 (by decide) (k0_off5 d0 8#32) (k0_off5_inb d0 8) (k0_off9 d0 8#32) (k0_off9_inb d0 8) ⟨k0_dev19 d0, k0_dev19_lt d0⟩ ⟨k0_dev20 d0, k0_dev20_lt d0⟩
    (Scf.Loop.for k0_t10_loop k0_t10_ok ⟨⟩ fun t _ => headBody (wCh d0 8#32) (k0_off31 d0 t) (k0_off31_inb d0 t) (k0_off32 t) (k0_off32_inb t) (k0_off33 t) (k0_off33_inb t) (k0_off33_packedbf16 t))
  rsStep (semWaitWord cc0_scratch8.sem 1#32) 1 (by decide) (k0_off5 d0 9#32) (k0_off5_inb d0 9) (k0_off9 d0 9#32) (k0_off9_inb d0 9) ⟨k0_dev21 d0, k0_dev21_lt d0⟩ ⟨k0_dev22 d0, k0_dev22_lt d0⟩
    (Scf.Loop.for k0_t11_loop k0_t11_ok ⟨⟩ fun t _ => headBody (wCh d0 9#32) (k0_off34 d0 t) (k0_off34_inb d0 t) (k0_off35 t) (k0_off35_inb t) (k0_off36 t) (k0_off36_inb t) (k0_off36_packedbf16 t))
  rsStep (semWaitWord cc0_scratch8.sem 1#32) 0 (by decide) (k0_off5 d0 10#32) (k0_off5_inb d0 10) (k0_off9 d0 10#32) (k0_off9_inb d0 10) ⟨k0_dev23 d0, k0_dev23_lt d0⟩ ⟨k0_dev24 d0, k0_dev24_lt d0⟩
    (Scf.Loop.for k0_t12_loop k0_t12_ok ⟨⟩ fun t _ => headBody (wCh d0 10#32) (k0_off37 d0 t) (k0_off37_inb d0 t) (k0_off38 t) (k0_off38_inb t) (k0_off39 t) (k0_off39_inb t) (k0_off39_packedbf16 t))
  rsStep (semWaitWord cc0_scratch8.sem 1#32) 1 (by decide) (k0_off5 d0 11#32) (k0_off5_inb d0 11) (k0_off9 d0 11#32) (k0_off9_inb d0 11) ⟨k0_dev25 d0, k0_dev25_lt d0⟩ ⟨k0_dev26 d0, k0_dev26_lt d0⟩
    (Scf.Loop.for k0_t13_loop k0_t13_ok ⟨⟩ fun t _ => headBody (wCh d0 11#32) (k0_off40 d0 t) (k0_off40_inb d0 t) (k0_off41 t) (k0_off41_inb t) (k0_off42 t) (k0_off42_inb t) (k0_off42_packedbf16 t))
  rsStep (semWaitWord cc0_scratch8.sem 1#32) 0 (by decide) (k0_off5 d0 12#32) (k0_off5_inb d0 12) (k0_off9 d0 12#32) (k0_off9_inb d0 12) ⟨k0_dev27 d0, k0_dev27_lt d0⟩ ⟨k0_dev28 d0, k0_dev28_lt d0⟩
    (Scf.Loop.for k0_t14_loop k0_t14_ok ⟨⟩ fun t _ => headBody (wCh d0 12#32) (k0_off43 d0 t) (k0_off43_inb d0 t) (k0_off44 t) (k0_off44_inb t) (k0_off45 t) (k0_off45_inb t) (k0_off45_packedbf16 t))
  rsStep (semWaitWord cc0_scratch8.sem 1#32) 1 (by decide) (k0_off5 d0 13#32) (k0_off5_inb d0 13) (k0_off9 d0 13#32) (k0_off9_inb d0 13) ⟨k0_dev29 d0, k0_dev29_lt d0⟩ ⟨k0_dev30 d0, k0_dev30_lt d0⟩
    (Scf.Loop.for k0_t15_loop k0_t15_ok ⟨⟩ fun t _ => headBody (wCh d0 13#32) (k0_off46 d0 t) (k0_off46_inb d0 t) (k0_off47 t) (k0_off47_inb t) (k0_off48 t) (k0_off48_inb t) (k0_off48_packedbf16 t))
  rsStep (semWaitWord cc0_scratch8.sem 1#32) 0 (by decide) (k0_off5 d0 14#32) (k0_off5_inb d0 14) (k0_off9 d0 14#32) (k0_off9_inb d0 14) ⟨k0_dev31 d0, k0_dev31_lt d0⟩ ⟨k0_dev32 d0, k0_dev32_lt d0⟩
    (Scf.Loop.for k0_t16_loop k0_t16_ok ⟨⟩ fun t _ => headBody (wCh d0 14#32) (k0_off49 d0 t) (k0_off49_inb d0 t) (k0_off50 t) (k0_off50_inb t) (k0_off51 t) (k0_off51_inb t) (k0_off51_packedbf16 t))

/-- The all-gather's steps. -/
def agSteps (d0 : Dev nD) : PR F PUnit := do
  agStep (pure ⟨⟩) 1 0 (by decide) (by decide) (k0_off5 d0 0#32) (k0_off5_inb d0 0) (k0_off53 d0 0#32) (k0_off53_inb d0 0)
    (forward mCL mSL (Memref.isWhole_whole _) 0 1 (by decide) (by decide)) ⟨k0_dev33 d0, k0_dev33_lt d0⟩ ⟨k0_dev34 d0, k0_dev34_lt d0⟩ ⟨k0_dev35 d0, k0_dev35_lt d0⟩ ⟨k0_dev36 d0, k0_dev36_lt d0⟩
  agStep (pure ⟨⟩) 0 1 (by decide) (by decide) (k0_off5 d0 1#32) (k0_off5_inb d0 1) (k0_off53 d0 1#32) (k0_off53_inb d0 1)
    (forward mCL mSL (Memref.isWhole_whole _) 1 0 (by decide) (by decide)) ⟨k0_dev37 d0, k0_dev37_lt d0⟩ ⟨k0_dev38 d0, k0_dev38_lt d0⟩ ⟨k0_dev39 d0, k0_dev39_lt d0⟩ ⟨k0_dev40 d0, k0_dev40_lt d0⟩
  agStep (semWaitWord cc0_scratch11.sem 1#32) 1 0 (by decide) (by decide) (k0_off5 d0 2#32) (k0_off5_inb d0 2) (k0_off53 d0 2#32) (k0_off53_inb d0 2)
    (forward mCL mSL (Memref.isWhole_whole _) 0 1 (by decide) (by decide)) ⟨k0_dev41 d0, k0_dev41_lt d0⟩ ⟨k0_dev42 d0, k0_dev42_lt d0⟩ ⟨k0_dev43 d0, k0_dev43_lt d0⟩ ⟨k0_dev44 d0, k0_dev44_lt d0⟩
  agStep (semWaitWord cc0_scratch11.sem 1#32) 0 1 (by decide) (by decide) (k0_off5 d0 3#32) (k0_off5_inb d0 3) (k0_off53 d0 3#32) (k0_off53_inb d0 3)
    (forward mCL mSL (Memref.isWhole_whole _) 1 0 (by decide) (by decide)) ⟨k0_dev45 d0, k0_dev45_lt d0⟩ ⟨k0_dev46 d0, k0_dev46_lt d0⟩ ⟨k0_dev47 d0, k0_dev47_lt d0⟩ ⟨k0_dev48 d0, k0_dev48_lt d0⟩
  agStep (semWaitWord cc0_scratch11.sem 1#32) 1 0 (by decide) (by decide) (k0_off5 d0 4#32) (k0_off5_inb d0 4) (k0_off53 d0 4#32) (k0_off53_inb d0 4)
    (forward mCL mSL (Memref.isWhole_whole _) 0 1 (by decide) (by decide)) ⟨k0_dev49 d0, k0_dev49_lt d0⟩ ⟨k0_dev50 d0, k0_dev50_lt d0⟩ ⟨k0_dev51 d0, k0_dev51_lt d0⟩ ⟨k0_dev52 d0, k0_dev52_lt d0⟩
  agStep (semWaitWord cc0_scratch11.sem 1#32) 0 1 (by decide) (by decide) (k0_off5 d0 5#32) (k0_off5_inb d0 5) (k0_off53 d0 5#32) (k0_off53_inb d0 5)
    (forward mCL mSL (Memref.isWhole_whole _) 1 0 (by decide) (by decide)) ⟨k0_dev53 d0, k0_dev53_lt d0⟩ ⟨k0_dev54 d0, k0_dev54_lt d0⟩ ⟨k0_dev55 d0, k0_dev55_lt d0⟩ ⟨k0_dev56 d0, k0_dev56_lt d0⟩
  agStep (semWaitWord cc0_scratch11.sem 1#32) 1 0 (by decide) (by decide) (k0_off5 d0 6#32) (k0_off5_inb d0 6) (k0_off53 d0 6#32) (k0_off53_inb d0 6)
    (pure ⟨⟩) ⟨k0_dev57 d0, k0_dev57_lt d0⟩ ⟨k0_dev58 d0, k0_dev58_lt d0⟩ ⟨k0_dev59 d0, k0_dev59_lt d0⟩ ⟨k0_dev60 d0, k0_dev60_lt d0⟩
  agRight 0 (by decide) (k0_off5 d0 7#32) (k0_off5_inb d0 7) (pure ⟨⟩) ⟨k0_dev61 d0, k0_dev61_lt d0⟩
  semSignalWord ⟨k0_dev62 d0, k0_dev62_lt d0⟩ cc0_scratch8.sem 1#32
  semWaitWord cc0_scratch8.sem 2#32
  semWaitWord cc0_scratch11.sem 2#32
  pure ⟨⟩

/-- The whole body at device `d0`. -/
def bodyAt (d0 : Dev nD) : PR F PUnit := do
  prologue ⟨k0_dev1 d0, k0_dev1_lt d0⟩ ⟨k0_dev2 d0, k0_dev2_lt d0⟩
  putChunk (Scf.Loop.for k0_t1_loop k0_t1_ok ⟨⟩ fun t _ => headBody (wMy d0) (k0_off1 d0 t) (k0_off1_inb d0 t) (k0_off2 t) (k0_off2_inb t) (k0_off3 t) (k0_off3_inb t) (k0_off3_packedbf16 t)) (k0_off4 d0) (k0_off4_inb d0)
  rsSteps d0
  middle (k0_off52 d0) (k0_off52_inb d0)
  agSteps d0

/-- The whole body. -/
def mine (W : Type) (_ : Inhabited W) (F : FTy → Type) [FloatOps F] : Prog (TpuEff nD τ sig (Elt F) Λ₀ .tc) PUnit := do
  let d0 : Dev nD ← Prog.lift .deviceId
  bodyAt (F := F) d0

/-- The printed body on the buffers it is called with. -/
def printed (W : Type) (_ : Inhabited W) (F : FTy → Type) [FloatOps F] : Prog (TpuEff nD τ sig (Elt F) Λ₀ .tc) PUnit :=
  cc0__body_skel mX (Memref.isWhole_whole _) mWq (Memref.isWhole_whole _) mK (Memref.isWhole_whole _) mV (Memref.isWhole_whole _)
    mWo (Memref.isWhole_whole _) mO (Memref.isWhole_whole _) mC (Memref.isWhole_whole _) mS (Memref.isWhole_whole _)
    mCL (Memref.isWhole_whole _) mSL (Memref.isWhole_whole _) mX2 (Memref.isWhole_whole _) mQ (Memref.isWhole_whole _)
    cc0_scratch6 cc0_scratch7 cc0_scratch8 cc0_scratch9 cc0_scratch10 cc0_scratch11

prog_eq Cert.KernelIdeal.My.printed_eq : Cert.KernelIdeal.My.printed Cert.KernelIdeal.My.mine from Cert.KernelIdeal to Cert.KernelIdeal at Unit inferInstance by
  intros; rfl

end Cert.KernelIdeal.My

end
-- ==== Proof.My.Sched.lean ====
/- The protocol of the kernel: which semaphore is waited for what, what each landing hands over, what each device owes. -/
module

public import proofs.«01_k».proof.Proof.My.Body
public import proofs.«01_k».proof.Proof.Gen.KernelIdeal.Launch
public import Idealize.ShloMosaic.Lib.Release
public import Idealize.ShloMosaic.Lib.Rounds
public import Idealize.ShloMosaic.Lib.Pipeline.Kit
public import Idealize.ShloMosaic.Lib.ViewIndex

@[expose] public section

set_option maxRecDepth 10000

noncomputable section

namespace Cert.KernelIdeal.My

open Idealize.ShloMosaic Idealize.SL Idealize.SL.RA Idealize.SL.BI Idealize.SL.Sem Idealize.SL.ProofMode Cert.KernelIdeal Cert.KernelIdeal.Gen
open Idealize.ShloMosaic.TcCoe
open Idealize.ShloMosaic.Rounds Idealize.ShloMosaic.Release
open scoped Idealize.SL.BI
open Idealize.SL.BI.BIBase Idealize.SL.BI.Laws

/-! ## The ring -/

/-- The right neighbour. -/
def rt (c : Dev nD) : Dev nD := ⟨(c.val + 1) % 16, Nat.mod_lt _ (by decide)⟩
/-- The left neighbour. -/
def lf (c : Dev nD) : Dev nD := ⟨(c.val + 15) % 16, Nat.mod_lt _ (by decide)⟩
/-- Where the copies of a lane go: lane `true` to the right, lane `false` to the left. -/
def toD (l : Bool) (c : Dev nD) : Dev nD := bif l then rt c else lf c
/-- Where the copies of a lane come from. -/
def ofD (l : Bool) (c : Dev nD) : Dev nD := toD (!l) c

theorem toD_ofD (l : Bool) (c : Dev nD) : toD l (ofD l c) = c := by revert l c; decide
theorem ofD_toD (l : Bool) (c : Dev nD) : ofD l (toD l c) = c := by revert l c; decide
/-- The ring as a bijection. -/
def ringE (l : Bool) : Dev nD ≃ Dev nD := ⟨toD l, ofD l, ofD_toD l, toD_ofD l⟩

/-- The copies of a lane. -/
def nSt (l : Bool) : ℕ := bif l then 23 else 7
theorem nSt_two (l : Bool) : 2 ≤ nSt l := by revert l; decide
/-- The buffer a lane's copies land in. -/
def cbM (l : Bool) : Memref sig .tc .vmem S2x128x1024 .bf16 := bif l then mC else mCL
/-- The buffer a lane's copies leave from. -/
def sbM (l : Bool) : Memref sig .tc .vmem S2x128x1024 .bf16 := bif l then mS else mSL
def ssA (l : Bool) : DmaSems sig S2 := bif l then cc0_scratch6 else cc0_scratch9
def rsA (l : Bool) : DmaSems sig S2 := bif l then cc0_scratch7 else cc0_scratch10
def crS (l : Bool) : Idealize.ShloMosaic.Sem sig := bif l then cc0_scratch8.sem else cc0_scratch11.sem

/-- The scoped semaphores of the kernel. -/
inductive Sc where
  | send (l : Bool) (b : Fin 2)
  | recv (l : Bool) (b : Fin 2)
  | cred (l : Bool)
deriving DecidableEq

instance : Fintype Sc where
  elems := {.send true 0, .send true 1, .send false 0, .send false 1, .recv true 0, .recv true 1, .recv false 0, .recv false 1, .cred true, .cred false}
  complete x := by rcases x with ⟨_ | _, b⟩ | ⟨_ | _, b⟩ | ⟨_ | _⟩ <;> first | (revert b; decide) | decide

def scLoc : Sc → SemLoc sig
  | .send l b => .dma (semOf (ssA l) b.1 b.2)
  | .recv l b => .dma (semOf (rsA l) b.1 b.2)
  | .cred l => .reg (crS l)

/-- What a semaphore is for: `some none` the barrier. -/
def kd : SemLoc sig → Option (Option Sc)
  | .reg n => match n.val with
    | 0 => some (some (.cred true)) | 1 => some (some (.cred false)) | 2 => some none | _ => none
  | .dma n => match n.val with
    | 6 => some (some (.send true 0)) | 7 => some (some (.send true 1)) | 8 => some (some (.recv true 0)) | 9 => some (some (.recv true 1))
    | 10 => some (some (.send false 0)) | 11 => some (some (.send false 1)) | 12 => some (some (.recv false 0)) | 13 => some (some (.recv false 1))
    | _ => none

theorem kd_sc (x : Sc) : kd (scLoc x) = some (some x) := by revert x; decide
theorem kd_bar : kd (.reg barS.sem) = some none := by decide
theorem scLoc_inj : Function.Injective scLoc := fun x y h => by
  have := congrArg kd h; rw [kd_sc, kd_sc] at this; exact Option.some.inj (Option.some.inj this)
theorem scLoc_ne_bar (x : Sc) : scLoc x ≠ .reg barS.sem := fun h => by
  have := congrArg kd h; rw [kd_sc, kd_bar] at this; simp at this

abbrev barCell (c : Dev nD) : GSem nD τ sig := ((c : Thread nD τ), .reg barS.sem)
abbrev scCell (c : Dev nD) (x : Sc) : GSem nD τ sig := ((c : Thread nD τ), scLoc x)

/-- What a cell is for. -/
def kindOf (g : GSem nD τ sig) : Option (Option Sc) := if g.1.2 = .tc then kd g.2 else none
theorem kindOf_sc (c : Dev nD) (x : Sc) : kindOf (scCell c x) = some (some x) := by unfold kindOf; rw [if_pos rfl]; exact kd_sc x
theorem kindOf_bar (c : Dev nD) : kindOf (barCell c) = some none := by unfold kindOf; rw [if_pos rfl]; exact kd_bar

/-! ## The resource algebra -/

abbrev Key : Type := Dev nD × Bool × Fin 2
abbrev UT : Type := URounds (GSem nD τ sig) ℕ × USlots Key
abbrev UU : Type := UR sig nD τ × UT
abbrev MM (F : FTy → Type) : Type := MT nD τ sig ℕ (Elt F) ℕ UU ℕ

variable (F : FTy → Type)
abbrev EP : Emb (UR sig nD τ) (MM F) := embL
abbrev ER : Emb (URounds (GSem nD τ sig) ℕ) (MM F) := (Emb.inl : Emb _ UT).trans embR
abbrev ES : Emb (USlots Key) (MM F) := (Emb.inr : Emb _ UT).trans embR
variable {F} [FloatOps F]

/-! ## Slots -/

/-- A slot at contents not chosen. -/
def slotAny (M : Memref sig .tc .vmem S2x128x1024 .bf16) (c : Dev nD) (b : Fin 2) : sProp (MM F) :=
  slot ((slotOf M b.1 b.2).view.loc (c : Thread nD τ)) (slotOf M b.1 b.2).view.set
/-- A slot that reads `X`. -/
def slotHas (M : Memref sig .tc .vmem S2x128x1024 .bf16) (c : Dev nD) (b : Fin 2) (X : Vec F S1x128x1024 .bf16) : sProp (MM F) :=
  iprop(∃ f, ⌜(M.access (slotRect b.1 b.2)).read (Elt F) f = X⌝
    ∗ ((slotOf M b.1 b.2).view.loc (c : Thread nD τ) ↦[(slotOf M b.1 b.2).view.set]{fullShare} f))

theorem slotHas_any (M : Memref sig .tc .vmem S2x128x1024 .bf16) (c : Dev nD) (b : Fin 2) (X : Vec F S1x128x1024 .bf16) :
    slotHas M c b X ⊢ slotAny M c b := by
  unfold slotHas slotAny slot
  iintro ⟨%f, -, H⟩; iexists f; iexact H

/-! ## The schedule -/

/-- The slot of step `s`. -/
def sb (s : ℕ) : Fin 2 := ⟨s % 2, Nat.mod_lt _ (by decide)⟩
/-- The steps before `s` on slot `b`. -/
def kb (b : Fin 2) (s : ℕ) : ℕ := (s + 1 - b.1) / 2
theorem kb_sb (s : ℕ) : kb (sb s) s = s / 2 := by unfold kb sb; dsimp only; omega
theorem kb_sb_succ (s : ℕ) : kb (sb s) (s + 1) = s / 2 + 1 := by unfold kb sb; dsimp only; omega
theorem kb_ne {b : Fin 2} {s : ℕ} (h : b ≠ sb s) : kb b (s + 1) = kb b s := by
  have : b.1 ≠ s % 2 := fun e => h (Fin.ext e)
  have := b.2
  unfold kb; omega
theorem kb_mono (b : Fin 2) {s s' : ℕ} (h : s ≤ s') : kb b s ≤ kb b s' := by unfold kb; omega
theorem kb_pred (s : ℕ) : kb (sb s) (s - 1) = s / 2 := by unfold kb sb; dsimp only; omega
theorem two_half_sb (s : ℕ) : 2 * (s / 2) + (sb s).1 = s := by unfold sb; dsimp only; omega

/-- Device `w` has released both slots of a lane for the steps up to `s + 1`, and its cells are ready for those landings. -/
def ready (l : Bool) (w : Dev nD) (s : ℕ) : sProp (MM F) :=
  bigSep Finset.univ fun b : Fin 2 => iprop(released (ES F) (w, l, b) (kb b s + 1) ∗ reached (ER F) (scCell w (.recv l b)) (kb b s))
instance ready_persistent (l : Bool) (w : Dev nD) (s : ℕ) : BI.Persistent (ready (F := F) l w s) := by unfold ready; infer_instance

/-- The credit a copy of one slot gives. -/
abbrev NN : ℕ := (slotOf mC 0 (by decide)).view.dmaCredit
theorem NN_pos : 0 < NN := View.dmaCredit_pos _ (by decide)

def dutyOf : Option (Option Sc) → ℕ → Finset ℕ
  | some none, r => if r = 0 then {0, 1} else ∅
  | some (some (.send l b)), r => if 2 * r + b.1 < nSt l then {0} else ∅
  | some (some (.recv l b)), r => if 2 * r + b.1 < nSt l then {0} else ∅
  | some (some (.cred l)), r => if r = 0 then Finset.range (nSt l) else ∅
  | none, _ => ∅
def amtOf : Option (Option Sc) → ℕ
  | some (some (.send _ _)) => NN
  | some (some (.recv _ _)) => NN
  | _ => 1

/-- What the barrier hands over from the device a lane's copies go to. -/
def barPay (l : Bool) (c : Dev nD) : sProp (MM F) :=
  iprop(ready l (toD l c) 0 ∗ reached (ER F) (scCell (toD l c) (.cred (!l))) 0)

variable (sent : Bool → Dev nD → ℕ → Vec F S1x128x1024 .bf16)

def payOf : Option (Option Sc) → Dev nD → ℕ → ℕ → sProp (MM F)
  | some none, c, _, d => barPay (if d = 0 then true else false) c
  | some (some (.send l b)), c, _, _ => slotAny (sbM l) c b
  | some (some (.recv l b)), c, r, _ => slotHas (cbM l) c b (sent l (ofD l c) (2 * r + b.1))
  | some (some (.cred l)), c, _, d => ready l (toD l c) (min (d + 1) (nSt l - 2))
  | none, _, _, _ => iprop(emp)

def Rd : Rounds.Schedule (GSem nD τ sig) ℕ (MM F) where
  duties g r := dutyOf (kindOf g) r
  amount g _ _ := amtOf (kindOf g)
  payload g r d := payOf sent (kindOf g) g.1.1 r d
  unitless _ := False
  amount_pos g r d h := by
    unfold amtOf; split <;> first | exact NN_pos | exact Nat.one_pos

instance slotAny_storable (M : Memref sig .tc .vmem S2x128x1024 .bf16) (c : Dev nD) (b : Fin 2) :
    BI.Storable (upEmb : UEmb _ (MM F)) (slotAny M c b) := by unfold slotAny; infer_instance
instance slotHas_storable (M : Memref sig .tc .vmem S2x128x1024 .bf16) (c : Dev nD) (b : Fin 2) (X : Vec F S1x128x1024 .bf16) :
    BI.Storable (upEmb : UEmb _ (MM F)) (slotHas M c b X) := by unfold slotHas; infer_instance
instance ready_storable (l : Bool) (w : Dev nD) (s : ℕ) : BI.Storable (upEmb : UEmb _ (MM F)) (ready l w s) := by unfold ready; infer_instance
instance barPay_storable (l : Bool) (w : Dev nD) : BI.Storable (upEmb : UEmb _ (MM F)) (barPay l w) := by unfold barPay; infer_instance
instance Rd_storable (g : GSem nD τ sig) (r : ℕ) (d : ℕ) : BI.Storable (upEmb : UEmb _ (MM F)) ((Rd sent).payload g r d) := by
  show BI.Storable upEmb (payOf sent (kindOf g) g.1.1 r d)
  unfold payOf; split <;> infer_instance

theorem Rd_duties_bar (c : Dev nD) : (Rd sent).duties (barCell c) 0 = {0, 1} := by
  show dutyOf (kindOf (barCell c)) 0 = _; rw [kindOf_bar]; rfl
theorem Rd_duties_send (c : Dev nD) (l : Bool) (b : Fin 2) (r : ℕ) :
    (Rd sent).duties (scCell c (.send l b)) r = if 2 * r + b.1 < nSt l then {0} else ∅ := by
  show dutyOf (kindOf (scCell c (.send l b))) r = _; rw [kindOf_sc]; rfl
theorem Rd_duties_recv (c : Dev nD) (l : Bool) (b : Fin 2) (r : ℕ) :
    (Rd sent).duties (scCell c (.recv l b)) r = if 2 * r + b.1 < nSt l then {0} else ∅ := by
  show dutyOf (kindOf (scCell c (.recv l b))) r = _; rw [kindOf_sc]; rfl
theorem Rd_duties_cred (c : Dev nD) (l : Bool) : (Rd sent).duties (scCell c (.cred l)) 0 = Finset.range (nSt l) := by
  show dutyOf (kindOf (scCell c (.cred l))) 0 = _; rw [kindOf_sc]; rfl
theorem Rd_amount_bar (c : Dev nD) (r d : ℕ) : (Rd sent).amount (barCell c) r d = 1 := by
  show amtOf (kindOf (barCell c)) = _; rw [kindOf_bar]; rfl
theorem Rd_amount_send (c : Dev nD) (l : Bool) (b : Fin 2) (r d : ℕ) : (Rd sent).amount (scCell c (.send l b)) r d = NN := by
  show amtOf (kindOf (scCell c (.send l b))) = _; rw [kindOf_sc]; rfl
theorem Rd_amount_recv (c : Dev nD) (l : Bool) (b : Fin 2) (r d : ℕ) : (Rd sent).amount (scCell c (.recv l b)) r d = NN := by
  show amtOf (kindOf (scCell c (.recv l b))) = _; rw [kindOf_sc]; rfl
theorem Rd_amount_cred (c : Dev nD) (l : Bool) (r d : ℕ) : (Rd sent).amount (scCell c (.cred l)) r d = 1 := by
  show amtOf (kindOf (scCell c (.cred l))) = _; rw [kindOf_sc]; rfl
theorem Rd_payload_bar (c : Dev nD) (r d : ℕ) : (Rd sent).payload (barCell c) r d = barPay (if d = 0 then true else false) c := by
  show payOf sent (kindOf (barCell c)) c r d = _; rw [kindOf_bar]; rfl
theorem Rd_payload_send (c : Dev nD) (l : Bool) (b : Fin 2) (r d : ℕ) : (Rd sent).payload (scCell c (.send l b)) r d = slotAny (sbM l) c b := by
  show payOf sent (kindOf (scCell c (.send l b))) c r d = _; rw [kindOf_sc]; rfl
theorem Rd_payload_recv (c : Dev nD) (l : Bool) (b : Fin 2) (r d : ℕ) :
    (Rd sent).payload (scCell c (.recv l b)) r d = slotHas (cbM l) c b (sent l (ofD l c) (2 * r + b.1)) := by
  show payOf sent (kindOf (scCell c (.recv l b))) c r d = _; rw [kindOf_sc]; rfl
theorem Rd_payload_cred (c : Dev nD) (l : Bool) (r d : ℕ) :
    (Rd sent).payload (scCell c (.cred l)) r d = ready l (toD l c) (min (d + 1) (nSt l - 2)) := by
  show payOf sent (kindOf (scCell c (.cred l))) c r d = _; rw [kindOf_sc]; rfl
theorem Rd_expect_bar (c : Dev nD) : (Rd sent).expect (barCell c) 0 = 2 := by
  unfold Schedule.expect Schedule.amountOf; rw [Rd_duties_bar, Finset.sum_congr rfl fun d _ => Rd_amount_bar sent c 0 d]; rfl
theorem Rd_expect_send (c : Dev nD) (l : Bool) (b : Fin 2) (r : ℕ) (h : 2 * r + b.1 < nSt l) : (Rd sent).expect (scCell c (.send l b)) r = NN := by
  unfold Schedule.expect Schedule.amountOf; rw [Rd_duties_send, if_pos h, Finset.sum_singleton, Rd_amount_send]
theorem Rd_expect_recv (c : Dev nD) (l : Bool) (b : Fin 2) (r : ℕ) (h : 2 * r + b.1 < nSt l) : (Rd sent).expect (scCell c (.recv l b)) r = NN := by
  unfold Schedule.expect Schedule.amountOf; rw [Rd_duties_recv, if_pos h, Finset.sum_singleton, Rd_amount_recv]
theorem Rd_expect_cred (c : Dev nD) (l : Bool) : (Rd sent).expect (scCell c (.cred l)) 0 = nSt l := by
  unfold Schedule.expect Schedule.amountOf; rw [Rd_duties_cred, Finset.sum_congr rfl fun d _ => Rd_amount_cred sent c l 0 d]; simp

theorem Rd_later_bar (c : Dev nD) (r : ℕ) (h : 1 ≤ r) : (Rd sent).duties (barCell c) r = ∅ := by
  show dutyOf (kindOf (barCell c)) r = _; rw [kindOf_bar]; exact if_neg (by omega)
theorem Rd_later_cred (c : Dev nD) (l : Bool) (r : ℕ) (h : 1 ≤ r) : (Rd sent).duties (scCell c (.cred l)) r = ∅ := by
  show dutyOf (kindOf (scCell c (.cred l))) r = _; rw [kindOf_sc]; exact if_neg (by omega)
theorem Rd_later_send (c : Dev nD) (l : Bool) (b : Fin 2) (r : ℕ) (h : kb b (nSt l) ≤ r) : (Rd sent).duties (scCell c (.send l b)) r = ∅ := by
  rw [Rd_duties_send, if_neg]; have := b.2; unfold kb at h; omega
theorem Rd_later_recv (c : Dev nD) (l : Bool) (b : Fin 2) (r : ℕ) (h : kb b (nSt l) ≤ r) : (Rd sent).duties (scCell c (.recv l b)) r = ∅ := by
  rw [Rd_duties_recv, if_neg]; have := b.2; unfold kb at h; omega

/-! ## Levels, and what is owed -/

def LL (g : GSem nD τ sig) : Finset ℕ := if g.1.2 = .tc then Finset.range 200 else ∅
def lvv (_ : GSem nD τ sig) (i : ℕ) : ℕ := i
theorem LL_of_ne (g : GSem nD τ sig) (h : g.1.2 ≠ .tc) : LL g = ∅ := if_neg h
theorem mem_LL (c : Dev nD) (sm : SemLoc sig) {i : ℕ} (h : i < 200) : i ∈ LL ((c : Thread nD τ), sm) := by
  unfold LL; rw [if_pos rfl]; exact Finset.mem_range.mpr h

/-- The index of the landing of step `s`. -/
def rIx (l : Bool) (s : ℕ) : ℕ := bif l then 4 * s + 2 else 4 * s + 63
/-- The index of the credit of step `s`. -/
def cIx (l : Bool) (s : ℕ) : ℕ := rIx l s + 2

abbrev OO : Type := CellTallies nD τ sig ℕ
/-- Everything owed has an index above `n`. -/
def Above (n : ℕ) (O : OO) : Prop := ∀ g i, 0 < O g i → i ∈ LL g ∧ n < i
theorem Above.zero (n : ℕ) : Above n 0 := fun g i h => absurd h (Nat.lt_irrefl 0)
theorem Above.add {n : ℕ} {O O' : OO} (h : Above n O) (h' : Above n O') : Above n (O + O') := fun g i hg => by
  rw [Pi.add_apply, Finsupp.add_apply] at hg
  rcases Nat.add_pos_iff_pos_or_pos.mp hg with e | e
  · exact h g i e
  · exact h' g i e
theorem Above.mono {n n' : ℕ} {O : OO} (h : Above n O) (hn : n' ≤ n) : Above n' O := fun g i hg => ⟨(h g i hg).1, lt_of_le_of_lt hn (h g i hg).2⟩
theorem Above.at {n : ℕ} (c : Dev nD) (sm : SemLoc sig) {i k : ℕ} (hi : i < 200) (hn : n < i) :
    Above n (tallyAt ((c : Thread nD τ), sm) i k) := fun g j hg => by
  rw [tallyAt_apply] at hg
  by_cases h : g = ((c : Thread nD τ), sm) ∧ j = i
  · rw [h.1, h.2]; exact ⟨mem_LL c sm hi, hn⟩
  · rw [if_neg h] at hg; exact absurd hg (Nat.lt_irrefl 0)

theorem mayWait_of (c : Dev nD) (sm : SemLoc sig) {i n : ℕ} {O : OO} (hi : i ≤ n) (hi' : i < 200) (h : Above n O) :
    (levAts LL lvv : sProp (MM F)) ⊢ MayWait (c : Thread nD τ) sm i O :=
  MayOwe.of_cut (L := LL) (lev := lvv) n (fun p hp => by rw [Finset.mem_singleton.mp hp]; exact mem_LL c sm hi')
    (fun g u hg => (h g u hg).1) (fun p hp => by rw [Finset.mem_singleton.mp hp]; exact hi)
    (fun g u hg => (h g u hg).2)

abbrev sCell (c : Dev nD) (l : Bool) (b : Fin 2) : GSem nD τ sig := scCell c (.send l b)
abbrev rCell (c : Dev nD) (l : Bool) (b : Fin 2) : GSem nD τ sig := scCell c (.recv l b)
abbrev cCell (c : Dev nD) (l : Bool) : GSem nD τ sig := scCell c (.cred l)

/-- The landing that step `s` owes the next device. -/
def dueR (l : Bool) (c : Dev nD) (s : ℕ) : OO := tallyAt (rCell (toD l c) l (sb s)) (rIx l s) NN
/-- The credit that step `s` owes the previous device. -/
def dueC (l : Bool) (c : Dev nD) (s : ℕ) : OO := tallyAt (cCell (ofD l c) l) (cIx l s) 1
/-- What a lane owes from step `s` on. -/
def dueFrom (l : Bool) (c : Dev nD) (s : ℕ) : OO := ∑ s' ∈ Finset.Ico s (nSt l), (dueR l c s' + dueC l c s')
theorem Ico_step {s n : ℕ} (h : s < n) : Finset.Ico s n = insert s (Finset.Ico (s + 1) n) := by
  ext x; simp only [Finset.mem_Ico, Finset.mem_insert]; omega
theorem dueFrom_succ (l : Bool) (c : Dev nD) {s : ℕ} (h : s < nSt l) :
    dueFrom l c s = dueR l c s + dueC l c s + dueFrom l c (s + 1) := by
  unfold dueFrom; rw [Ico_step h, Finset.sum_insert (by simp)]
theorem dueFrom_end (l : Bool) (c : Dev nD) : dueFrom l c (nSt l) = 0 := by unfold dueFrom; rw [Finset.Ico_self, Finset.sum_empty]

theorem cIx_lt {l : Bool} {s : ℕ} (h : s < nSt l) : cIx l s < 200 := by
  revert h; unfold cIx rIx nSt; cases l <;> simp <;> omega
theorem Above.dueR {l : Bool} (c : Dev nD) {s n : ℕ} (h : s < nSt l) (hn : n < rIx l s) : Above n (dueR l c s) :=
  Above.at _ _ (lt_trans (show rIx l s < cIx l s by unfold cIx; omega) (cIx_lt h)) hn
theorem Above.dueC {l : Bool} (c : Dev nD) {s n : ℕ} (h : s < nSt l) (hn : n < cIx l s) : Above n (dueC l c s) :=
  Above.at _ _ (cIx_lt h) hn
theorem rIx_succ (l : Bool) (s : ℕ) : rIx l (s + 1) = rIx l s + 4 := by unfold rIx; cases l <;> simp <;> omega
theorem rIx_mono (l : Bool) {s s' : ℕ} (h : s ≤ s') : rIx l s ≤ rIx l s' := by unfold rIx; cases l <;> simp <;> omega
theorem Above.sum {n : ℕ} {I : Type} (S : Finset I) (f : I → OO) (h : ∀ i ∈ S, Above n (f i)) : Above n (∑ i ∈ S, f i) := by
  classical
  induction S using Finset.induction_on with
  | empty => exact Above.zero n
  | insert a S ha ih =>
    rw [Finset.sum_insert ha]
    exact (h a (Finset.mem_insert_self a S)).add (ih fun i hi => h i (Finset.mem_insert_of_mem hi))
theorem Above.dueFrom {l : Bool} (c : Dev nD) {s n : ℕ} (hn : n < rIx l s) : Above n (dueFrom l c s) :=
  Above.sum _ _ fun s' h => by
    obtain ⟨h1, h2⟩ := Finset.mem_Ico.mp h
    have := rIx_mono l h1
    exact (Above.dueR c h2 (by omega)).add (Above.dueC c h2 (by unfold cIx; omega))

/-- What a device owes at the start. -/
def O₀ (c : Dev nD) : OO := tallyAt (barCell (lf c)) 1 1 + (tallyAt (barCell (rt c)) 1 1 + (dueFrom true c 0 + dueFrom false c 0))

end Cert.KernelIdeal.My

end
-- ==== Proof.My.Lane.lean ====
/- One step of one lane of the ring: the wait for room, the copy, the two waits, the credit. -/
module

public import proofs.«01_k».proof.Proof.My.Sched
public import Idealize.ShloMosaic.Lib.Tactic

@[expose] public section

set_option maxRecDepth 10000

noncomputable section

namespace Cert.KernelIdeal.My

open Idealize.ShloMosaic Idealize.SL Idealize.SL.RA Idealize.SL.BI Idealize.SL.Sem Idealize.SL.ProofMode Cert.KernelIdeal Cert.KernelIdeal.Gen
open Idealize.ShloMosaic.TcCoe
open Idealize.ShloMosaic.Rounds Idealize.ShloMosaic.Release
open scoped Idealize.SL.BI
open Idealize.SL.BI.BIBase Idealize.SL.BI.Laws

variable {F : FTy → Type} [FloatOps F]
variable (sent : Bool → Dev nD → ℕ → Vec F S1x128x1024 .bf16)

/-- A separating product over a set with one more element. -/
theorem bigSep_add {I : Type} [DecidableEq I] {i : I} {S : Finset I} (h : i ∉ S) {Φ : I → sProp (MM F)} :
    bigSep (insert i S) Φ = iprop(Φ i ∗ bigSep S Φ) := bigSep_insert h

abbrev 𝒱₀ : Variants := Variants.none

/-! ## What every device may consult -/

def barEmb : Dev nD ↪ GSem nD τ sig := ⟨fun c => barCell c, fun _ _ h => congrArg (fun g : GSem nD τ sig => g.1.1) h⟩
def scEmb : Dev nD × Sc ↪ GSem nD τ sig :=
  ⟨fun ck => scCell ck.1 ck.2, fun _ _ h =>
    Prod.ext (congrArg (fun g : GSem nD τ sig => g.1.1) h) (scLoc_inj (congrArg Prod.snd h))⟩
abbrev barCells : Finset (GSem nD τ sig) := Finset.univ.map barEmb
abbrev scCells : Finset (GSem nD τ sig) := Finset.univ.map scEmb
theorem bar_mem (c : Dev nD) : barCell c ∈ (barCells ∪ scCells : Finset (GSem nD τ sig)) :=
  Finset.mem_union_left _ (Finset.mem_map_of_mem barEmb (Finset.mem_univ c))
theorem sc_mem (c : Dev nD) (x : Sc) : scCell c x ∈ (barCells ∪ scCells : Finset (GSem nD τ sig)) :=
  Finset.mem_union_right _ (Finset.mem_map_of_mem scEmb (Finset.mem_univ (c, x)))

/-- The slot a key names. -/
def slotP (k : Key) : sProp (MM F) := slotAny (cbM k.2.1) k.1 k.2.2
instance slotP_storable (k : Key) : BI.Storable (upEmb : UEmb _ (MM F)) (slotP (F := F) k) := by unfold slotP; infer_instance

/-- Every cell's invariant, every slot's invariant, and the levels. -/
def Ctx (κ : GSem nD τ sig → ℕ) (ιs : Key → ℕ) : sProp (MM F) :=
  iprop((bigSep (barCells ∪ scCells) fun g => cellInv (ER F) (Rd sent) (κ g) g)
    ∗ (bigSep Finset.univ fun k : Key => slotInv (ES F) (ιs k) k (slotP k)) ∗ levAts LL lvv)
instance Ctx_persistent (κ : GSem nD τ sig → ℕ) (ιs : Key → ℕ) : BI.Persistent (Ctx (F := F) sent κ ιs) := by unfold Ctx; infer_instance

variable (κ : GSem nD τ sig → ℕ) (ιs : Key → ℕ)

theorem Ctx_bar (c : Dev nD) : Ctx sent κ ιs ⊢ cellInv (ER F) (Rd sent) (κ (barCell c)) (barCell c) := by
  unfold Ctx; iintro ⟨H, -⟩; iapply (show (bigSep (barCells ∪ scCells) fun g => (cellInv (ER F) (Rd sent) (κ g) g : sProp (MM F))) ⊢ cellInv (ER F) (Rd sent) (κ (barCell c)) (barCell c) from bigSep_elim (bar_mem c)) $$ H
theorem Ctx_sc (c : Dev nD) (x : Sc) : Ctx sent κ ιs ⊢ cellInv (ER F) (Rd sent) (κ (scCell c x)) (scCell c x) := by
  unfold Ctx; iintro ⟨H, -⟩; iapply (show (bigSep (barCells ∪ scCells) fun g => (cellInv (ER F) (Rd sent) (κ g) g : sProp (MM F))) ⊢ cellInv (ER F) (Rd sent) (κ (scCell c x)) (scCell c x) from bigSep_elim (sc_mem c x)) $$ H
theorem Ctx_slot (k : Key) : Ctx sent κ ιs ⊢ slotInv (ES F) (ιs k) k (slotP k) := by
  unfold Ctx; iintro ⟨-, H, -⟩; iapply (show (bigSep Finset.univ fun k : Key => (slotInv (ES F) (ιs k) k (slotP k) : sProp (MM F))) ⊢ slotInv (ES F) (ιs k) k (slotP k) from bigSep_elim (Finset.mem_univ k)) $$ H
theorem Ctx_lev : Ctx sent κ ιs ⊢ levAts LL lvv := by
  unfold Ctx; iintro ⟨-, -, H⟩; iexact H

/-! ## The state of a lane -/

/-- The device's place on a slot's two cells, `k` rounds done. -/
def posAt (l : Bool) (c : Dev nD) (b : Fin 2) (k : ℕ) : sProp (MM F) :=
  iprop(atPos (ER F) (sCell c l b) k ∅ 0 ∗ reached (ER F) (sCell c l b) k ∗ atPos (ER F) (rCell c l b) k ∅ 0)
def posn (l : Bool) (c : Dev nD) (s : ℕ) : sProp (MM F) := bigSep Finset.univ fun b : Fin 2 => posAt l c b (kb b s)
/-- What step `s` will pay with and wait with. -/
def tok (l : Bool) (c : Dev nD) (s : ℕ) : sProp (MM F) :=
  iprop(dutyTok (ER F) (sCell c l (sb s)) (s / 2) 0 ∗ dutyTok (ER F) (rCell (toD l c) l (sb s)) (s / 2) 0
    ∗ writeTok (ES F) (toD l c, l, sb s) (s / 2 + 1) ∗ dutyTok (ER F) (cCell (ofD l c) l) 0 s
    ∗ cred (tallyAt (rCell c l (sb s)) (rIx l s) NN))
def toks (l : Bool) (c : Dev nD) (s : ℕ) : sProp (MM F) := bigSep (Finset.Ico s (nSt l)) fun s' => tok l c s'
/-- What the credits heard of so far say. -/
abbrev said (l : Bool) (c : Dev nD) (d : ℕ) : sProp (MM F) := ready l (toD l c) (min (d + 1) (nSt l - 2))
def core (l : Bool) (c : Dev nD) (s : ℕ) : sProp (MM F) :=
  iprop((bigSep (Finset.Ico (s - 2) (nSt l)) fun j => cred (tallyAt (cCell c l) (cIx l j) 1))
    ∗ (∃ T, atPos (ER F) (cCell c l) 0 T (s - 2) ∗ heard (said l c) T)
    ∗ ready l (toD l c) 0 ∗ reached (ER F) (cCell (ofD l c) l) 0)
/-- The reader's side of a lane. -/
def rd (l : Bool) (c : Dev nD) (s : ℕ) : sProp (MM F) :=
  iprop((bigSep Finset.univ fun b : Fin 2 => readerAt (ES F) (c, l, b) (kb b (min s (nSt l - 2)) + 1))
    ∗ ready l c (min s (nSt l - 2))
    ∗ bigSep (Finset.Ico (nSt l - 2) s) fun s' => slotAny (cbM l) c (sb s'))

/-- A lane before step `s`. -/
def lane (l : Bool) (c : Dev nD) (s : ℕ) : sProp (MM F) := iprop(posn l c s ∗ toks l c s ∗ core l c s ∗ rd l c s)
/-- A lane free to copy at step `s`. -/
def armed (l : Bool) (c : Dev nD) (s : ℕ) : sProp (MM F) :=
  iprop(posn l c s ∗ toks l c s ∗ core l c (s + 1) ∗ rd l c s ∗ ready l (toD l c) (s - 1))
def posRest (l : Bool) (c : Dev nD) (s : ℕ) : sProp (MM F) := bigSep (Finset.univ.erase (sb s)) fun b : Fin 2 => posAt l c b (kb b s)
/-- A lane whose copy of step `s` is on its way. -/
def flight (l : Bool) (c : Dev nD) (s : ℕ) : sProp (MM F) :=
  iprop(posRest l c s ∗ atPos (ER F) (sCell c l (sb s)) (s / 2) ∅ 0 ∗ atPos (ER F) (rCell c l (sb s)) (s / 2) ∅ 0
    ∗ cred (tallyAt (sCell c l (sb s)) 0 NN) ∗ cred (tallyAt (rCell c l (sb s)) (rIx l s) NN)
    ∗ dutyTok (ER F) (cCell (ofD l c) l) 0 s ∗ toks l c (s + 1) ∗ core l c (s + 1) ∗ rd l c s)
/-- A lane whose copy of step `s` has left. -/
def half (l : Bool) (c : Dev nD) (s : ℕ) : sProp (MM F) :=
  iprop(posRest l c s ∗ atPos (ER F) (sCell c l (sb s)) (s / 2 + 1) ∅ 0 ∗ reached (ER F) (sCell c l (sb s)) (s / 2 + 1)
    ∗ atPos (ER F) (rCell c l (sb s)) (s / 2) ∅ 0 ∗ cred (tallyAt (rCell c l (sb s)) (rIx l s) NN)
    ∗ dutyTok (ER F) (cCell (ofD l c) l) 0 s ∗ toks l c (s + 1) ∗ core l c (s + 1) ∗ rd l c s)
/-- A lane that has received at step `s`. -/
def got (l : Bool) (c : Dev nD) (s : ℕ) : sProp (MM F) :=
  iprop(posn l c (s + 1) ∗ reached (ER F) (rCell c l (sb s)) (s / 2 + 1)
    ∗ dutyTok (ER F) (cCell (ofD l c) l) 0 s ∗ toks l c (s + 1) ∗ core l c (s + 1) ∗ rd l c s)

theorem posn_split (l : Bool) (c : Dev nD) (s : ℕ) :
    posn (F := F) l c s = iprop(posAt l c (sb s) (s / 2) ∗ posRest l c s) := by
  unfold posn posRest; rw [bigSep_univ_at _ (sb s), kb_sb]
theorem posn_join (l : Bool) (c : Dev nD) (s : ℕ) :
    posn (F := F) l c (s + 1) = iprop(posAt l c (sb s) (s / 2 + 1) ∗ posRest l c s) := by
  unfold posn posRest; rw [bigSep_univ_at _ (sb s), kb_sb_succ]
  rw [bigSep_congr (s := Finset.univ.erase (sb s)) (Ψ := fun b : Fin 2 => posAt l c b (kb b s)) fun b hb => by
    rw [kb_ne (Finset.ne_of_mem_erase hb)]]
theorem toks_split (l : Bool) (c : Dev nD) {s : ℕ} (h : s < nSt l) : toks (F := F) l c s = iprop(tok l c s ∗ toks l c (s + 1)) := by
  unfold toks; rw [Ico_step h, bigSep_add (by simp)]

theorem ready_at (l : Bool) (w : Dev nD) (s : ℕ) (b : Fin 2) :
    ready (F := F) l w s ⊢ iprop(released (ES F) (w, l, b) (kb b s + 1) ∗ reached (ER F) (rCell w l b) (kb b s)) := by
  unfold ready; exact bigSep_elim (Finset.mem_univ b)
theorem reached_le (g : GSem nD τ sig) {r r' : ℕ} (h : r' ≤ r) : reached (ER F) g r ⊢ reached (ER F) g r' := reached_mono (ER F) h
theorem ready_mono (l : Bool) (w : Dev nD) {s s' : ℕ} (h : s' ≤ s) : ready (F := F) l w s ⊢ ready l w s' := by
  have one (b : Fin 2) : (iprop(released (ES F) (w, l, b) (kb b s + 1) ∗ reached (ER F) (rCell w l b) (kb b s)) : sProp (MM F))
      ⊢ iprop(released (ES F) (w, l, b) (kb b s' + 1) ∗ reached (ER F) (rCell w l b) (kb b s')) := by
    iintro ⟨H1, H2⟩
    isplitl [H1]
    · iapply (released_mono (ES F) (show kb b s' + 1 ≤ kb b s + 1 by have := kb_mono b h; omega)) $$ H1
    · iapply (reached_le _ (kb_mono b h)) $$ H2
  unfold ready
  exact bigSep_mono fun b _ => one b

/-! ## The wait for room -/

theorem arm_first (l : Bool) (c : Dev nD) {s : ℕ} (h : s < 2) : lane (F := F) l c s ⊢ armed l c s := by
  unfold lane armed core
  rw [show s - 2 = 0 by omega, show s + 1 - 2 = 0 by omega, show s - 1 = 0 by omega]
  iintro ⟨Hp, Ht, ⟨H1, H2, #H3, H4⟩, Hr⟩
  isplitl [Hp]; · iexact Hp
  isplitl [Ht]; · iexact Ht
  isplitl [H1 H2 H4]
  · isplitl [H1]; · iexact H1
    isplitl [H2]; · iexact H2
    isplitr; · iexact H3
    iexact H4
  isplitl [Hr]; · iexact Hr
  iexact H3

theorem semWait_spec (c : Dev nD) (sm : Idealize.ShloMosaic.Sem sig) (k : ℕ) (x : BitVec 32) (hx : x.toInt = k) (Kt : PUnit → sProp (MM F))
    (H : sProp (MM F)) (h : H ⊢ wp frame (wpE (defs₀ (F := F)) 𝒱₀ c none) Set.univ (.op (.semWait sm k) fun _ => .ret ⟨⟩) Kt) :
    H ⊢ wp frame (wpE (defs₀ (F := F)) 𝒱₀ c none) Set.univ (semWaitWord sm x : PR F PUnit) Kt := by
  unfold semWaitWord; rw [hx]; exact h

theorem arm_wait (l : Bool) (c : Dev nD) {s : ℕ} (h2 : 2 ≤ s) (hs : s < nSt l) {O : OO} {W : Waits sig ℕ} (hO : Above (cIx l (s - 2)) O)
    (Kt : PUnit → sProp (MM F)) :
    iprop(Ctx sent κ ιs ∗ lane l c s ∗ owes (c : Thread nD τ) O W ∗ (∀ W', armed l c s ∗ owes (c : Thread nD τ) O W' -∗ Kt ⟨⟩))
      ⊢ wp frame (wpE (defs₀ (F := F)) 𝒱₀ c none) Set.univ (semWaitWord (crS l) 1#32 : PR F PUnit) Kt := by
  refine semWait_spec c _ 1 _ rfl Kt _ ?_
  unfold lane armed core
  rw [Ico_step (show s - 2 < nSt l by omega), bigSep_add (by simp), show s - 2 + 1 = s + 1 - 2 by omega]
  iintro ⟨#HC, ⟨Hp, Ht, ⟨⟨Hc, Hcs⟩, ⟨%T, Hat, #Hh⟩, #H3, H4⟩, Hr⟩, HO, Hk⟩
  iapply (Rounds.wp_wait 𝒱₀ (ER F) (Rd sent) (c : Thread nD τ) none (sm := .reg (crS l)) (κ := κ (cCell c l))
      (wpE_semWait_eq 𝒱₀ (c : Thread nD τ) none Set.univ) (Set.mem_univ _) (cr := Finsupp.single (cIx l (s - 2)) 1) {(.reg (crS l), cIx l (s - 2))}
      (R := 0) (m := s - 2) (T := T) (O := O) (W := W)
      (by rw [Util.total_single]) (image_single_subset _ _ _)) $$ [Hc HO Hat]
  · isplitr; · iapply (Ctx_sc sent κ ιs c (.cred l)); iexact HC
    isplitl [Hc]; · iexact Hc
    isplitl [HO]; · iexact HO
    isplitr
    · iapply (mayWait_of c (.reg (crS l)) (le_refl _) (cIx_lt (by omega)) hO); iapply (Ctx_lev sent κ ιs); iexact HC
    iexact Hat
  iintro %S ⟨%hS, HO, Hat, Hpay⟩
  obtain ⟨hTS, hSd, hcard⟩ := hS
  rw [wp_ret]; imodintro
  have hd : (Rd sent).duties (c, SemLoc.reg (crS l)) 0 = Finset.range (nSt l) := Rd_duties_cred sent c l
  have he : (Rd sent).expect (c, SemLoc.reg (crS l)) 0 = nSt l := Rd_expect_cred sent c l
  rw [hd] at hSd; rw [hd, he, Finset.card_sdiff_of_subset hSd, Finset.card_range] at hcard
  have hex : ∃ d ∈ S, s - 2 ≤ d := by
    by_contra hno
    have hsub : S ⊆ Finset.range (s - 2) := fun d hd => Finset.mem_range.mpr (by
      by_contra hlt; exact hno ⟨d, hd, by omega⟩)
    have := Finset.card_le_card hsub
    have := Finset.card_le_card hSd
    rw [Finset.card_range] at *
    omega
  obtain ⟨d, hdS, hds⟩ := hex
  ihave #Hpay' := (show bigSep (S \ T) (fun d => (Rd sent).payload (c, SemLoc.reg (crS l)) 0 d) ⊢ heard (said l c) (S \ T) from
    Entails.of_eq (bigSep_congr fun d _ => Rd_payload_cred sent c l 0 d)) $$ Hpay
  ihave #HS := (heard_union (said (F := F) l c) T (S \ T)) $$ [Hpay' Hh]
  · isplitr <;> iassumption
  rw [Finset.union_sdiff_of_subset hTS]
  iapply Hk $$ %_
  isplitr [HO]
  · isplitl [Hp]; · iexact Hp
    isplitl [Ht]; · iexact Ht
    isplitl [Hcs Hat H4]
    · isplitl [Hcs]; · iexact Hcs
      isplitl [Hat]
      · iexists S
        isplitl [Hat]
        · iapply (Entails.of_eq (congrArg (fun n => atPos (ER F) (cCell c l) 0 S n) (show s - 2 + 1 = s + 1 - 2 by omega))); iexact Hat
        · iexact HS
      isplitr; · iexact H3
      iexact H4
    isplitl [Hr]; · iexact Hr
    iapply (ready_mono l (toD l c) (show s - 1 ≤ min (d + 1) (nSt l - 2) by omega))
    iapply (heard_elim (said (F := F) l c) hdS); iexact HS
  · iexact HO

/-! ## The copy -/

theorem credit_c (l : Bool) (b : Fin 2) : (slotOf (cbM l) b.1 b.2).view.dmaCredit = NN := by cases l <;> rfl
theorem credit_s (l : Bool) (b : Fin 2) : (slotOf (sbM l) b.1 b.2).view.dmaCredit = NN := by cases l <;> rfl

theorem slot_moved (Ms Md : Memref sig .tc .vmem S2x128x1024 .bf16) (b : Fin 2) (c : Dev nD) (X : Vec F S1x128x1024 .bf16)
    (fs : (slotOf Ms b.1 b.2).view.ty.Contents (Elt F)) (fd : (slotOf Md b.1 b.2).view.ty.Contents (Elt F))
    (h : (Ms.access (slotRect b.1 b.2)).read (Elt F) fs = X) :
    (Md.access (slotRect b.1 b.2)).read (Elt F)
      ((slotOf Md b.1 b.2).view.write (Elt F) fd ((slotOf Ms b.1 b.2).view.read (Elt F) fs) Finset.univ) = X := by
  subst h
  funext y
  obtain ⟨x, rfl⟩ := (Shape.reshapeEquiv squeezes_S1x128x1024_S128x1024.numel_eq).surjective y
  exact View.read_write_reshape (v := Md.access (slotRect b.1 b.2)) squeezes_S1x128x1024_S128x1024.numel_eq fd _ x

theorem send_spec (l : Bool) (c : Dev nD) {s : ℕ} (hs : s < nSt l) (hM : (sbM l).IsWhole) (hM' : (cbM l).IsWhole) {O : OO} {W : Waits sig ℕ}
    (Kt : PUnit → sProp (MM F)) :
    iprop(Ctx sent κ ιs ∗ armed l c s ∗ slotHas (sbM l) c (sb s) (sent l c s) ∗ owes (c : Thread nD τ) (dueR l c s + O) W
        ∗ (flight l c s ∗ owes (c : Thread nD τ) O W -∗ Kt ⟨⟩))
      ⊢ wp frame (wpE (defs₀ (F := F)) 𝒱₀ c none) Set.univ
        (sendS (sbM l) hM (cbM l) hM' (ssA l) (rsA l) (sb s).1 (sb s).2 (toD l c) : PR F PUnit) Kt := by
  unfold armed flight
  rw [toks_split l c hs, posn_split]
  unfold tok posAt slotHas
  iintro ⟨#HC, ⟨⟨⟨HaS, #HrS, HaR⟩, Hpr⟩, ⟨⟨Ht1, Ht2, Hw, Ht3, Hcr⟩, Hts⟩, Hcore, Hrd, #Hrdy⟩, ⟨%fs, %hfs, Hsrc⟩, HO, Hk⟩
  ihave #Hrb := (ready_at (F := F) l (toD l c) (s - 1) (sb s)) $$ Hrdy
  rw [kb_pred]
  icases Hrb with ⟨#Hrel, #HrR⟩
  imod (slot_take (ES F) (Set.mem_univ (ιs (toD l c, l, sb s))) (s / 2 + 1)) $$ [Hw] with Hdst
  · isplitr; · iapply (Ctx_slot sent κ ιs (toD l c, l, sb s)); iexact HC
    isplitr; · iexact Hrel
    iexact Hw
  unfold slotP slotAny slot
  icases Hdst with ⟨%fd, Hdst⟩
  have hin : 2 * (s / 2) + (sb s).1 < nSt l := by rw [two_half_sb]; exact hs
  iapply (Rounds.wp_send_pointsTo 𝒱₀ (ER F) (Rd sent) (c : Thread nD τ) none (c' := (toD l c : Thread nD τ))
      (src := slotOf (sbM l) (sb s).1 (sb s).2) (dst := slotOf (cbM l) (sb s).1 (sb s).2)
      (sS := scLoc (.send l (sb s))) (sem := scLoc (.recv l (sb s))) (q := fullShare) (fs := fs) (fd := fd)
      (κ₁ := κ (sCell c l (sb s))) (κ₂ := κ (rCell (toD l c) l (sb s))) (r₁ := s / 2) (r₂ := s / 2) (d₁ := 0) (d₂ := 0)
      (by rw [Rd_duties_send, if_pos hin]; exact Finset.mem_singleton_self _)
      (by rw [Rd_duties_recv, if_pos hin]; exact Finset.mem_singleton_self _)
      (rIx l s) 0 NN (credit_c l (sb s)) (Rd_amount_send sent c l (sb s) _ _) (Rd_amount_recv sent (toD l c) l (sb s) _ _) O
      (add_comm _ _) (W := W)
      (by rw [Rd_payload_send]; unfold slotAny slot; iintro H; iexists fs; iexact H)
      (by
        rw [Rd_payload_recv, ofD_toD, two_half_sb]; unfold slotHas
        iintro H; iexists _
        isplitr; · ipureintro; exact slot_moved (sbM l) (cbM l) (sb s) c _ fs fd hfs
        iexact H)) $$ [Hsrc Hdst HO Ht1 Ht2]
  · isplitr; · iapply (Ctx_sc sent κ ιs c (.send l (sb s))); iexact HC
    isplitr; · iapply (Ctx_sc sent κ ιs (toD l c) (.recv l (sb s))); iexact HC
    isplitl [Hsrc]; · iexact Hsrc
    isplitl [Hdst]; · iexact Hdst
    isplitl [HO]; · iexact HO
    isplitl [Ht1]; · iexact Ht1
    isplitr; · iexact HrS
    isplitl [Ht2]; · iexact Ht2
    iexact HrR
  iintro ⟨HcS, HO⟩
  rw [wp_ret]; imodintro
  iapply Hk
  isplitr [HO]
  · isplitl [Hpr]; · iexact Hpr
    isplitl [HaS]; · iexact HaS
    isplitl [HaR]; · iexact HaR
    isplitl [HcS]; · iexact HcS
    isplitl [Hcr]; · iexact Hcr
    isplitl [Ht3]; · iexact Ht3
    isplitl [Hts]; · iexact Hts
    isplitl [Hcore]; · iexact Hcore
    iexact Hrd
  · iexact HO

/-! ## The waits -/

theorem waitSend_spec (l : Bool) (c : Dev nD) {s : ℕ} (hs : s < nSt l) (hM : (cbM l).IsWhole) (hM' : (sbM l).IsWhole) {O : OO} {W : Waits sig ℕ}
    (hO : Above 0 O) (Kt : PUnit → sProp (MM F)) :
    iprop(Ctx sent κ ιs ∗ flight l c s ∗ owes (c : Thread nD τ) O W
        ∗ (∀ W', half l c s ∗ slotAny (sbM l) c (sb s) ∗ owes (c : Thread nD τ) O W' -∗ Kt ⟨⟩))
      ⊢ wp frame (wpE (defs₀ (F := F)) 𝒱₀ c none) Set.univ
        (waitS (cbM l) hM (sbM l) hM' (ssA l) (sb s).1 (sb s).2 : PR F PUnit) Kt := by
  unfold flight half
  iintro ⟨#HC, ⟨Hpr, HaS, HaR, HcS, Hrest⟩, HO, Hk⟩
  have hin : 2 * (s / 2) + (sb s).1 < nSt l := by rw [two_half_sb]; exact hs
  iapply (Rounds.wp_wait_rest_token 𝒱₀ (ER F) (Rd sent) (c : Thread nD τ) none (sm := scLoc (.send l (sb s))) (κ := κ (sCell c l (sb s)))
      (k' := NN)
      (fun K => by
        rw [← credit_s l (sb s)]
        exact wpE_waitDma2_eq (src := slotOf (cbM l) (sb s).1 (sb s).2) (dst := slotOf (sbM l) (sb s).1 (sb s).2) 𝒱₀ (c : Thread nD τ) none Set.univ K)
      (Set.mem_univ _) 0 (O := O) (W := W) (R := s / 2) (m := 0) (T := ∅)
      ((Nat.zero_add _).trans (Rd_expect_send sent c l (sb s) _ hin).symm)) $$ [HcS HO HaS]
  · isplitr; · iapply (Ctx_sc sent κ ιs c (.send l (sb s))); iexact HC
    isplitl [HcS]; · iexact HcS
    isplitl [HO]; · iexact HO
    isplitr; · iapply (mayWait_of c _ (le_refl 0) (by decide) hO); iapply (Ctx_lev sent κ ιs); iexact HC
    iexact HaS
  iintro ⟨HO, HaS, #HrS, Hpay⟩
  rw [wp_ret]; imodintro
  ihave Hp := (show bigSep ((Rd sent).duties (c, scLoc (.send l (sb s))) (s / 2) \ ∅) (fun d => (Rd sent).payload (c, scLoc (.send l (sb s))) (s / 2) d)
      ⊢ slotAny (sbM l) c (sb s) from Entails.of_eq (by
    rw [Finset.sdiff_empty, show (Rd sent).duties (c, scLoc (.send l (sb s))) (s / 2) = {0} from (Rd_duties_send sent c l (sb s) _).trans (if_pos hin),
      bigSep_singleton]; exact Rd_payload_send sent c l (sb s) _ _)) $$ Hpay
  iapply Hk $$ %_
  isplitl [Hpr HaS HaR Hrest]
  · isplitl [Hpr]; · iexact Hpr
    isplitl [HaS]; · iexact HaS
    isplitr; · iexact HrS
    isplitl [HaR]; · iexact HaR
    iexact Hrest
  isplitl [Hp]; · iexact Hp
  iexact HO

theorem waitRecv_spec (l : Bool) (c : Dev nD) {s : ℕ} (hs : s < nSt l) (hM : (sbM l).IsWhole) (hM' : (cbM l).IsWhole) {O : OO} {W : Waits sig ℕ}
    (hO : Above (rIx l s) O) (Kt : PUnit → sProp (MM F)) :
    iprop(Ctx sent κ ιs ∗ half l c s ∗ owes (c : Thread nD τ) O W
        ∗ (∀ W', got l c s ∗ slotHas (cbM l) c (sb s) (sent l (ofD l c) s) ∗ owes (c : Thread nD τ) O W' -∗ Kt ⟨⟩))
      ⊢ wp frame (wpE (defs₀ (F := F)) 𝒱₀ c none) Set.univ
        (waitS (sbM l) hM (cbM l) hM' (rsA l) (sb s).1 (sb s).2 : PR F PUnit) Kt := by
  unfold half got
  rw [posn_join]; unfold posAt
  iintro ⟨#HC, ⟨Hpr, HaS, #HrS, HaR, HcR, Hrest⟩, HO, Hk⟩
  have hin : 2 * (s / 2) + (sb s).1 < nSt l := by rw [two_half_sb]; exact hs
  iapply (Rounds.wp_wait_rest_token 𝒱₀ (ER F) (Rd sent) (c : Thread nD τ) none (sm := scLoc (.recv l (sb s))) (κ := κ (rCell c l (sb s)))
      (k' := NN)
      (fun K => by
        rw [← credit_c l (sb s)]
        exact wpE_waitDma2_eq (src := slotOf (sbM l) (sb s).1 (sb s).2) (dst := slotOf (cbM l) (sb s).1 (sb s).2) 𝒱₀ (c : Thread nD τ) none Set.univ K)
      (Set.mem_univ _) (rIx l s) (O := O) (W := W) (R := s / 2) (m := 0) (T := ∅)
      ((Nat.zero_add _).trans (Rd_expect_recv sent c l (sb s) _ hin).symm)) $$ [HcR HO HaR]
  · isplitr; · iapply (Ctx_sc sent κ ιs c (.recv l (sb s))); iexact HC
    isplitl [HcR]; · iexact HcR
    isplitl [HO]; · iexact HO
    isplitr
    · iapply (mayWait_of c _ (le_refl _) (lt_trans (show rIx l s < cIx l s by unfold cIx; omega) (cIx_lt hs)) hO); iapply (Ctx_lev sent κ ιs); iexact HC
    iexact HaR
  iintro ⟨HO, HaR, #HrR, Hpay⟩
  rw [wp_ret]; imodintro
  ihave Hp := (show bigSep ((Rd sent).duties (c, scLoc (.recv l (sb s))) (s / 2) \ ∅) (fun d => (Rd sent).payload (c, scLoc (.recv l (sb s))) (s / 2) d)
      ⊢ slotHas (cbM l) c (sb s) (sent l (ofD l c) s) from Entails.of_eq (by
    rw [Finset.sdiff_empty, show (Rd sent).duties (c, scLoc (.recv l (sb s))) (s / 2) = {0} from (Rd_duties_recv sent c l (sb s) _).trans (if_pos hin),
      bigSep_singleton]
    refine (Rd_payload_recv sent c l (sb s) _ _).trans ?_
    rw [two_half_sb])) $$ Hpay
  iapply Hk $$ %_
  isplitl [Hpr HaS HaR Hrest]
  · isplitl [Hpr HaS HaR]
    · isplitr [Hpr]
      · isplitl [HaS]; · iexact HaS
        isplitr; · iexact HrS
        iexact HaR
      iexact Hpr
    isplitr; · iexact HrR
    iexact Hrest
  isplitl [Hp]; · iexact Hp
  iexact HO

/-! ## The credit -/

/-- The reader's side after step `s`: the slot given back, or kept if no later copy needs it. -/
theorem rd_step (l : Bool) (c : Dev nD) {s : ℕ} (hs : s < nSt l) :
    iprop(Ctx sent κ ιs ∗ rd l c s ∗ reached (ER F) (rCell c l (sb s)) (s / 2 + 1) ∗ slotAny (cbM l) c (sb s))
      ⊢ |={Set.univ}=> rd l c (s + 1) := by
  have h2 := nSt_two l
  by_cases h : s < nSt l - 2
  · unfold rd
    rw [show min s (nSt l - 2) = s by omega, show min (s + 1) (nSt l - 2) = s + 1 by omega,
      Finset.Ico_eq_empty (show ¬ nSt l - 2 < s by omega), Finset.Ico_eq_empty (show ¬ nSt l - 2 < s + 1 by omega)]
    unfold ready
    rw [bigSep_univ_at _ (sb s), bigSep_univ_at _ (sb s), bigSep_univ_at _ (sb s), bigSep_univ_at _ (sb s), kb_sb, kb_sb_succ]
    rw [bigSep_congr (s := Finset.univ.erase (sb s)) (Ψ := fun b : Fin 2 => readerAt (ES F) (c, l, b) (kb b s + 1)) (Φ := fun b : Fin 2 => readerAt (ES F) (c, l, b) (kb b (s + 1) + 1))
        fun b hb => by rw [kb_ne (Finset.ne_of_mem_erase hb)],
      bigSep_congr (s := Finset.univ.erase (sb s)) (Ψ := fun b : Fin 2 => iprop(released (ES F) (c, l, b) (kb b s + 1) ∗ reached (ER F) (scCell c (.recv l b)) (kb b s)))
        (Φ := fun b : Fin 2 => iprop(released (ES F) (c, l, b) (kb b (s + 1) + 1) ∗ reached (ER F) (scCell c (.recv l b)) (kb b (s + 1))))
        fun b hb => by rw [kb_ne (Finset.ne_of_mem_erase hb)]]
    iintro ⟨#HC, ⟨⟨Hrd, Hrds⟩, ⟨-, #Hrys⟩, He⟩, #Hr, Hs⟩
    imod (slot_release (ES F) (S := slotP (c, l, sb s)) (Set.mem_univ (ιs (c, l, sb s)))
      (by unfold slotP slotAny; exact slot_slot_false ⟨_, (slotOf (cbM l) (sb s).1 (sb s).2).view.emb_mem_set (fun a => ⟨0, by fin_cases a <;> decide⟩)⟩) (s / 2 + 1)) $$ [Hrd Hs] with ⟨Hrd, #Hrel⟩
    · isplitr; · iapply (Ctx_slot sent κ ιs (c, l, sb s)); iexact HC
      isplitl [Hrd]; · iexact Hrd
      unfold slotP; iexact Hs
    imodintro
    isplitl [Hrd Hrds]
    · isplitl [Hrd] <;> iassumption
    isplitr
    · isplitr
      · isplitr; · iexact Hrel
        iexact Hr
      iexact Hrys
    iexact He
  · unfold rd
    rw [show min s (nSt l - 2) = nSt l - 2 by omega, show min (s + 1) (nSt l - 2) = nSt l - 2 by omega,
      show Finset.Ico (nSt l - 2) (s + 1) = insert s (Finset.Ico (nSt l - 2) s) by ext x; simp only [Finset.mem_Ico, Finset.mem_insert]; omega,
      bigSep_add (by simp)]
    iintro ⟨-, ⟨H1, H2, H3⟩, -, Hs⟩
    imodintro
    isplitl [H1]; · iexact H1
    isplitl [H2]; · iexact H2
    isplitl [Hs] <;> iassumption

theorem signal_spec (l : Bool) (c : Dev nD) {s : ℕ} (hs : s < nSt l) {O : OO} {W : Waits sig ℕ} (Kt : PUnit → sProp (MM F)) :
    iprop(Ctx sent κ ιs ∗ got l c s ∗ slotAny (cbM l) c (sb s) ∗ owes (c : Thread nD τ) (dueC l c s + O) W
        ∗ (lane l c (s + 1) ∗ owes (c : Thread nD τ) O W -∗ Kt ⟨⟩))
      ⊢ wp frame (wpE (defs₀ (F := F)) 𝒱₀ c none) Set.univ (semSignalWord (ofD l c) (crS l) 1#32 : PR F PUnit) Kt := by
  unfold got lane
  iintro ⟨#HC, ⟨Hp, #Hr, Ht, Hts, Hcore, Hrd⟩, Hs, HO, Hk⟩
  imod (rd_step sent κ ιs l c hs) $$ [Hrd Hs] with Hrd
  · isplitr; · iexact HC
    isplitl [Hrd]; · iexact Hrd
    isplitr; · iexact Hr
    iexact Hs
  unfold rd core
  icases Hrd with ⟨Hrd1, #Hrd2, Hrd3⟩
  icases Hcore with ⟨Hc1, Hc2, Hc3, #Hc4⟩
  iapply (Rounds.wp_signal 𝒱₀ (ER F) (Rd sent) (c : Thread nD τ) none (dst := (ofD l c : Thread nD τ)) (sem := crS l) (r := 0) (d := s) (κ := κ (cCell (ofD l c) l))
      (show s ∈ (Rd sent).duties (cCell (ofD l c) l) 0 by rw [Rd_duties_cred]; exact Finset.mem_range.mpr hs)
      (Rd_amount_cred sent (ofD l c) l 0 s) (cIx l s) O (add_comm _ _)) $$ [HO Ht]
  · isplitr; · iapply (Ctx_sc sent κ ιs (ofD l c) (.cred l)); iexact HC
    isplitl [HO]; · iexact HO
    isplitl [Ht]; · iexact Ht
    isplitr
    · iapply (show ready l c (min s.succ (nSt l - 2)) ⊢ (Rd sent).payload ((ofD l c : Thread nD τ), SemLoc.reg (crS l)) 0 s from
        Entails.of_eq ((Rd_payload_cred sent (ofD l c) l 0 s).trans (by rw [toD_ofD])).symm)
      iexact Hrd2
    · iexact Hc4
  iintro HO
  rw [wp_ret]; imodintro
  iapply Hk
  isplitr [HO]
  · isplitl [Hp]; · iexact Hp
    isplitl [Hts]; · iexact Hts
    isplitl [Hc1 Hc2 Hc3]
    · isplitl [Hc1]; · iexact Hc1
      isplitl [Hc2]; · iexact Hc2
      isplitl [Hc3]; · iexact Hc3
      iexact Hc4
    isplitl [Hrd1]; · iexact Hrd1
    isplitr; · iexact Hrd2
    iexact Hrd3
  · iexact HO

end Cert.KernelIdeal.My

end
-- ==== Proof.My.Ops.lean ====
/- The single operations of the body on the buffers a device holds, the loop over the heads, and what they compute. -/
module

public import proofs.«01_k».proof.Proof.My.Lane
public import Idealize.ShloMosaic.Lib.ReshapeSlab
public import Idealize.ShloMosaic.Lib.Scf
public import Idealize.ShloMosaic.Lib.ValueIdxCore

@[expose] public section

set_option maxRecDepth 10000

noncomputable section

namespace Cert.KernelIdeal.My

open Idealize.ShloMosaic Idealize.SL Idealize.SL.RA Idealize.SL.BI Idealize.SL.Sem Idealize.SL.ProofMode Cert.KernelIdeal Cert.KernelIdeal.Gen
open Idealize.ShloMosaic.TcCoe
open Idealize.ShloMosaic.Rounds Idealize.ShloMosaic.Release
open Idealize.ShloMosaic.ValueIdx (ix2 ix3)
open scoped Idealize.SL.BI
open Idealize.SL.BI.BIBase Idealize.SL.BI.Laws

variable {F : FTy → Type} [FloatOps F]

/-- A whole buffer of a device. -/
abbrev pt (c : Dev nD) (b : Ref sig .tc) (f : b.ty.Contents (Elt F)) : sProp (MM F) := (c : Thread nD τ).loc b ↦{fullShare} f

/-- The running of a program on device `c`. -/
abbrev WP {α : Type} (c : Dev nD) (p : PR F α) (K : α → sProp (MM F)) : sProp (MM F) := wp frame (wpE (defs₀ (F := F)) 𝒱₀ c none) Set.univ p K

/-- One program after another. -/
theorem seq {α β : Type} (c : Dev nD) (p : PR F α) (k : α → PR F β) (K : β → sProp (MM F)) :
    WP c p (fun a => WP c (k a) K) ⊢ WP c (p >>= k) K := Entails.of_eq (wp_bind ..).symm

/-- A value handed to the rest of a program. -/
theorem given {α β : Type} (c : Dev nD) (a : α) (k : α → PR F β) (K : β → sProp (MM F)) :
    WP c (k a) K ⊢ WP c ((Prog.ret a).bind k) K := Entails.of_eq rfl

/-! ## What is computed -/

/-- What a device is given. -/
structure Ins (F : FTy → Type) where
  x : Vec F S2048x1024 .bf16
  wq : Vec F S1024x1024 .bf16
  k : Vec F S8x2048x128 .bf16
  v : Vec F S8x2048x128 .bf16
  wo : Vec F S1024x1024 .bf16

/-- Rows `128 r …` and columns `128 t …` of the queries. -/
def qBlk (q : Vec F S2048x1024 .bf16) (r t : ℕ) : Vec F S128x128 .bf16 :=
  fun x => q (ix2 ⟨(128 * r + (x 0).val) % 2048, Nat.mod_lt _ (by decide)⟩ ⟨(128 * t + (x 1).val) % 1024, Nat.mod_lt _ (by decide)⟩)
/-- Head `t` of the keys or the values. -/
def kBlk (k : Vec F S8x2048x128 .bf16) (t : ℕ) : Vec F S1x2048x128 .bf16 :=
  fun x => k (ix3 ⟨t % 8, Nat.mod_lt _ (by decide)⟩ (x 1) (x 2))
/-- Eight blocks side by side. -/
def asm (h : ℕ → Vec F S128x128 .bf16) : Vec F S128x1024 .bf16 :=
  fun x => h ((x 1).val / 128) (ix2 (x 0) ⟨(x 1).val % 128, Nat.mod_lt _ (by decide)⟩)

variable (I : Dev nD → Ins F)

/-- The queries. -/
def qOf (c : Dev nD) : Vec F S2048x1024 .bf16 := k0_pay1 (I c).x (I c).wq
/-- Head `t` of chunk `r`. -/
def hdOf (c : Dev nD) (r t : ℕ) : Vec F S128x128 .bf16 := headOf (BitVec.ofNat 32 r) (qBlk (qOf I c) r t) (kBlk (I c).k t) (kBlk (I c).v t)
/-- Chunk `r` of a device's part of the result. -/
def cvOf (c : Dev nD) (r : ℕ) : Vec F S1x128x1024 .f32 := projOf (asm (hdOf I c r)) (I c).wo
/-- What device `c` has added up before step `s` of the reduce-scatter. -/
def accOf : Dev nD → ℕ → Vec F S1x128x1024 .f32
  | c, 0 => cvOf I c c.val
  | c, s + 1 => addOf (cvOf I c ((c.val + 31 - s) % 16)) (narrow (accOf (lf c) s))
/-- Device `t` places to the left. -/
def lfN (c : Dev nD) (t : ℕ) : Dev nD := lf^[t] c
/-- Device `t` places to the right. -/
def rtN (c : Dev nD) (t : ℕ) : Dev nD := rt^[t] c
/-- What a device copies at each step. -/
def sentOf : Bool → Dev nD → ℕ → Vec F S1x128x1024 .bf16
  | true, c, s => if s < 15 then narrow (accOf I c s) else (passOn^[s - 15]) (narrow (accOf I (lfN c (s - 15)) 15))
  | false, c, s => (passOn^[s]) (narrow (accOf I (rtN c s) 15))

/-! ## The result buffer -/

/-- The result buffer, part `k` being `o k`. -/
def outPts (c : Dev nD) (o : ℕ → Vec F S1x128x1024 .f32) : sProp (MM F) :=
  iprop(∃ f : Vec F S16x128x1024 .f32, ⌜∀ (k : ℕ) (inb : ∀ a, (![k, 0, 0] : Fin 3 → ℕ) a + S1x128x1024.size a ≤ S16x128x1024.size a),
      (mO.access (Rect.unit (s := S16x128x1024) ![k, 0, 0] S1x128x1024.size inb)).read (Elt F) f = o k⌝ ∗ pt c cc0_stg5_0 f)

theorem ldO_spec (c : Dev nD) {off : Fin 3 → ℕ} {inb : ∀ a, off a + S1x128x1024.size a ≤ S16x128x1024.size a} {k : ℕ} (hoff : off = ![k, 0, 0])
    (o : ℕ → Vec F S1x128x1024 .f32) (K : Vec F S1x128x1024 .f32 → sProp (MM F)) :
    iprop(outPts c o ∗ (outPts c o -∗ K (o k))) ⊢ WP c (ldO off inb) K := by
  subst hoff
  unfold outPts
  iintro ⟨⟨%f, %hf, H⟩, Hk⟩
  iapply (wp_load_rect 𝒱₀ (c : Thread nD τ) none Set.univ (m := mO) (r := Rect.unit (s := S16x128x1024) ![k, 0, 0] S1x128x1024.size inb)
    (S := Finset.univ) (f := f) (Finset.subset_univ _)) $$ [H]
  · iexact H
  iintro H
  rw [wp_ret]; imodintro
  rw [hf k inb]
  iapply Hk
  iexists f
  isplitr; · ipureintro; exact hf
  iexact H

theorem out_other (f : Vec F S16x128x1024 .f32) (v : Vec F S1x128x1024 .f32) {k k' : ℕ} (h : k' ≠ k)
    (inb : ∀ a, (![k, 0, 0] : Fin 3 → ℕ) a + S1x128x1024.size a ≤ S16x128x1024.size a)
    (inb' : ∀ a, (![k', 0, 0] : Fin 3 → ℕ) a + S1x128x1024.size a ≤ S16x128x1024.size a) :
    (mO.view.slice (Rect.unit (s := S16x128x1024) ![k', 0, 0] S1x128x1024.size inb')).read (Elt F)
      ((mO.view.slice (Rect.unit (s := S16x128x1024) ![k, 0, 0] S1x128x1024.size inb)).write (Elt F) f v Finset.univ)
      = (mO.view.slice (Rect.unit (s := S16x128x1024) ![k', 0, 0] S1x128x1024.size inb')).read (Elt F) f :=
  View.read_slice_write_slice_of_disjoint (v := mO.view) (Rect.unit (s := S16x128x1024) ![k', 0, 0] S1x128x1024.size inb')
    (Rect.unit (s := S16x128x1024) ![k, 0, 0] S1x128x1024.size inb) f v Finset.univ
    (View.disjoint_slice_of_sep mO.view _ _ (0 : Fin 3) rfl rfl (show k' + 1 ≤ k ∨ k + 1 ≤ k' by omega))

theorem out_put (o : ℕ → Vec F S1x128x1024 .f32) (f : Vec F S16x128x1024 .f32) (v : Vec F S1x128x1024 .f32) {k : ℕ}
    (hf : ∀ (k : ℕ) (inb : ∀ a, (![k, 0, 0] : Fin 3 → ℕ) a + S1x128x1024.size a ≤ S16x128x1024.size a),
      (mO.access (Rect.unit (s := S16x128x1024) ![k, 0, 0] S1x128x1024.size inb)).read (Elt F) f = o k)
    (inb : ∀ a, (![k, 0, 0] : Fin 3 → ℕ) a + S1x128x1024.size a ≤ S16x128x1024.size a)
    (k' : ℕ) (inb' : ∀ a, (![k', 0, 0] : Fin 3 → ℕ) a + S1x128x1024.size a ≤ S16x128x1024.size a) :
    (mO.access (Rect.unit (s := S16x128x1024) ![k', 0, 0] S1x128x1024.size inb')).read (Elt F)
      ((mO.access (Rect.unit (s := S16x128x1024) ![k, 0, 0] S1x128x1024.size inb)).write (Elt F) f v Finset.univ)
      = Function.update o k v k' := by
  by_cases h : k' = k
  · subst h
    rw [Function.update_self]
    exact View.read_write_univ _ _
  · rw [Function.update_of_ne h, ← hf k' inb']
    exact out_other f v h inb inb'

theorem stO_spec (c : Dev nD) {off : Fin 3 → ℕ} {inb : ∀ a, off a + S1x128x1024.size a ≤ S16x128x1024.size a} {k : ℕ} (hoff : off = ![k, 0, 0])
    (o : ℕ → Vec F S1x128x1024 .f32) (v : Vec F S1x128x1024 .f32) (K : PUnit → sProp (MM F)) :
    iprop(outPts c o ∗ (outPts c (Function.update o k v) -∗ K ⟨⟩)) ⊢ WP c (stO off inb v) K := by
  subst hoff
  unfold outPts
  iintro ⟨⟨%f, %hf, H⟩, Hk⟩
  iapply (wp_store 𝒱₀ (c : Thread nD τ) none Set.univ (m := mO) (r := Rect.unit (s := S16x128x1024) ![k, 0, 0] S1x128x1024.size inb)
    (S := Finset.univ) (f := f) (Finset.subset_univ _)) $$ [H]
  · iexact H
  iintro H
  rw [wp_ret]; imodintro
  iapply Hk
  iexists ((mO.access (Rect.unit (s := S16x128x1024) ![k, 0, 0] S1x128x1024.size inb)).write (Elt F) f v Finset.univ)
  isplitr
  · ipureintro
    intro k' inb'
    exact out_put o f v hf inb k' inb'
  iexact H

/-! ## Slots -/

theorem ldS_spec (M : Memref sig .tc .vmem S2x128x1024 .bf16) (c : Dev nD) (b : Fin 2) (X : Vec F S1x128x1024 .bf16)
    (K : Vec F S1x128x1024 .bf16 → sProp (MM F)) :
    iprop(slotHas M c b X ∗ (slotHas M c b X -∗ K X)) ⊢ WP c (ldS M b.1 b.2) K := by
  unfold slotHas
  iintro ⟨⟨%f, %hf, H⟩, Hk⟩
  iapply (wp_load_rect 𝒱₀ (c : Thread nD τ) none Set.univ (m := M) (r := slotRect b.1 b.2) (S := (slotOf M b.1 b.2).view.set) (f := f)
    (by rw [show (slotOf M b.1 b.2).view.set = (M.access (slotRect b.1 b.2)).set from View.set_reshape _ _])) $$ [H]
  · iexact H
  iintro H
  rw [wp_ret]; imodintro
  rw [hf]
  iapply Hk
  iexists f
  isplitr; · ipureintro; exact hf
  iexact H

theorem slotAny_has (M : Memref sig .tc .vmem S2x128x1024 .bf16) (c : Dev nD) (b : Fin 2) :
    slotAny (F := F) M c b ⊢ iprop(∃ X, slotHas M c b X) := by
  unfold slotAny slot slotHas
  iintro ⟨%f, H⟩
  iexists _, f
  isplitr; · ipureintro; rfl
  iexact H

/-- A load whose result isn't used. -/
theorem peekS_spec (M : Memref sig .tc .vmem S2x128x1024 .bf16) (c : Dev nD) (b : Fin 2) (K : Vec F S1x128x1024 .bf16 → sProp (MM F)) :
    iprop(slotAny M c b ∗ (∀ X, slotAny M c b -∗ K X)) ⊢ WP c (ldS M b.1 b.2) K := by
  iintro ⟨H, Hk⟩
  ihave H := (slotAny_has (F := F) M c b) $$ H
  icases H with ⟨%X, H⟩
  iapply (ldS_spec M c b X K)
  isplitl [H]; · iexact H
  iintro H
  iapply Hk
  iapply (slotHas_any M c b X); iexact H

theorem stS_spec (M : Memref sig .tc .vmem S2x128x1024 .bf16) (hM : M.IsWhole) (c : Dev nD) (b : Fin 2) (X : Vec F S1x128x1024 .bf16)
    (K : PUnit → sProp (MM F)) :
    iprop(slotAny M c b ∗ (slotHas M c b X -∗ K ⟨⟩)) ⊢ WP c (stS M hM b.1 b.2 X) K := by
  unfold slotAny slot slotHas
  iintro ⟨⟨%f, H⟩, Hk⟩
  iapply (wp_store 𝒱₀ (c : Thread nD τ) none Set.univ (m := M) (r := slotRect b.1 b.2) (S := (slotOf M b.1 b.2).view.set) (f := f)
    (by rw [show (slotOf M b.1 b.2).view.set = (M.access (slotRect b.1 b.2)).set from View.set_reshape _ _]; exact View.setOn_subset_set (M.access (slotRect b.1 b.2)) Finset.univ)) $$ [H]
  · iexact H
  iintro H
  rw [wp_ret]; imodintro
  iapply Hk
  iexists ((M.access (slotRect b.1 b.2)).write (Elt F) f X Finset.univ)
  isplitr; · ipureintro; exact View.read_write_univ _ _
  iexact H

/-! ## The loop over the heads -/

/-- What the loop reads, and where it writes. -/
def held (c : Dev nD) (q : Vec F S2048x1024 .bf16) (k v : Vec F S8x2048x128 .bf16) (wo : Vec F S1024x1024 .bf16) : sProp (MM F) :=
  iprop(pt c cc0_scratch5 q ∗ pt c cc0_stg2_0 k ∗ pt c cc0_stg3_0 v ∗ pt c cc0_stg4_0 wo ∗ ∃ f, pt c cc0_scratch4 f)

/-- The heads done so far. -/
def heads (c : Dev nD) (h : ℕ → Vec F S128x128 .bf16) (n : ℕ) : sProp (MM F) :=
  iprop(∃ f : Vec F S128x1024 .bf16, ⌜∀ (t : ℕ) (ht : t < n) (inb : ∀ a, (![0, 128 * t] : Fin 2 → ℕ) a + S128x128.size a ≤ S128x1024.size a),
      (mX2.access (Rect.unit (s := S128x1024) ![0, 128 * t] S128x128.size inb)).read (Elt F) f = h t⌝ ∗ pt c cc0_scratch4 f)

theorem heads_all (c : Dev nD) (h : ℕ → Vec F S128x128 .bf16) : heads c h 8 ⊢ pt c cc0_scratch4 (asm h) := by
  unfold heads
  iintro ⟨%f, %hf, H⟩
  have e : f = asm h := by
    funext x
    have h1 : (x 1).val < 1024 := (x 1).isLt
    have inb : ∀ a, (![0, 128 * ((x 1).val / 128)] : Fin 2 → ℕ) a + S128x128.size a ≤ S128x1024.size a := by
      intro a; fin_cases a
      · show 0 + 128 ≤ 128; omega
      · show 128 * ((x 1).val / 128) + 128 ≤ 1024; omega
    have := congrFun (hf ((x 1).val / 128) (by omega) inb) (ix2 (x 0) ⟨(x 1).val % 128, Nat.mod_lt _ (by decide)⟩)
    unfold asm
    rw [← this, View.read_apply]
    refine congrArg f ?_
    funext a
    refine Fin.ext ?_
    fin_cases a
    · show (x 0).val = 0 + 1 * (x 0).val; omega
    · show (x 1).val = 128 * ((x 1).val / 128) + 1 * ((x 1).val % 128); omega
  rw [← e]; iexact H

theorem qBlk_eq (q : Vec F S2048x1024 .bf16) (r t : ℕ) (inb : ∀ a, (![128 * r, 128 * t] : Fin 2 → ℕ) a + S128x128.size a ≤ S2048x1024.size a) :
    (mQ.access (Rect.unit (s := S2048x1024) ![128 * r, 128 * t] S128x128.size inb)).read (Elt F) q = qBlk q r t := by
  funext x
  have h0 : 128 * r + 128 ≤ 2048 := inb 0
  have h1 : 128 * t + 128 ≤ 1024 := inb 1
  have x0 : (x 0).val < 128 := (x 0).isLt
  have x1 : (x 1).val < 128 := (x 1).isLt
  rw [View.read_apply]
  unfold qBlk
  refine congrArg q ?_
  funext a
  refine Fin.ext ?_
  fin_cases a
  · show 128 * r + 1 * (x 0).val = (128 * r + (x 0).val) % 2048; omega
  · show 128 * t + 1 * (x 1).val = (128 * t + (x 1).val) % 1024; omega

theorem kBlk_k (k : Vec F S8x2048x128 .bf16) (t : ℕ) (inb : ∀ a, (![t, 0, 0] : Fin 3 → ℕ) a + S1x2048x128.size a ≤ S8x2048x128.size a) :
    (mK.access (Rect.unit (s := S8x2048x128) ![t, 0, 0] S1x2048x128.size inb)).read (Elt F) k = kBlk k t := by
  funext x
  have h0 : t + 1 ≤ 8 := inb 0
  have x0 : (x 0).val < 1 := (x 0).isLt
  rw [View.read_apply]
  unfold kBlk
  refine congrArg k ?_
  funext a
  refine Fin.ext ?_
  fin_cases a
  · show t + 1 * (x 0).val = t % 8; omega
  · show 0 + 1 * (x 1).val = (x 1).val; omega
  · show 0 + 1 * (x 2).val = (x 2).val; omega

theorem kBlk_v (k : Vec F S8x2048x128 .bf16) (t : ℕ) (inb : ∀ a, (![t, 0, 0] : Fin 3 → ℕ) a + S1x2048x128.size a ≤ S8x2048x128.size a) :
    (mV.access (Rect.unit (s := S8x2048x128) ![t, 0, 0] S1x2048x128.size inb)).read (Elt F) k = kBlk k t := kBlk_k k t inb

theorem headBody_spec (c : Dev nD) (r t : ℕ) (w : BitVec 32) (hw : w = BitVec.ofNat 32 r)
    {o1 : Fin 2 → ℕ} {i1 : ∀ a, o1 a + S128x128.size a ≤ S2048x1024.size a}
    {o2 : Fin 3 → ℕ} {i2 : ∀ a, o2 a + S1x2048x128.size a ≤ S8x2048x128.size a}
    {o3 : Fin 2 → ℕ} {i3 : ∀ a, o3 a + S128x128.size a ≤ S128x1024.size a}
    {p3 : (Rect.unit (s := S128x1024) o3 S128x128.size i3).PackedRows (EltTy.packing .bf16)}
    (h1 : o1 = ![128 * r, 128 * t]) (h2 : o2 = ![t, 0, 0]) (h3 : o3 = ![0, 128 * t])
    (q : Vec F S2048x1024 .bf16) (k v : Vec F S8x2048x128 .bf16)
    (h : ℕ → Vec F S128x128 .bf16) (hh : h t = headOf (BitVec.ofNat 32 r) (qBlk q r t) (kBlk k t) (kBlk v t)) :
    iprop(pt c cc0_scratch5 q ∗ pt c cc0_stg2_0 k ∗ pt c cc0_stg3_0 v ∗ heads c h t)
      ⊢ WP c (headBody w o1 i1 o2 i2 o3 i3 p3) fun _ => iprop(pt c cc0_scratch5 q ∗ pt c cc0_stg2_0 k ∗ pt c cc0_stg3_0 v ∗ heads c h (t + 1)) := by
  subst h1 h2 h3 hw
  unfold headBody heads
  iintro ⟨Hq, Hk, Hv, %f, %hf, Hx⟩
  iapply (wp_load_rect 𝒱₀ (c : Thread nD τ) none Set.univ (m := mQ) (r := Rect.unit (s := S2048x1024) ![128 * r, 128 * t] S128x128.size i1)
    (S := Finset.univ) (f := q) (Finset.subset_univ _)) $$ [Hq]
  · iexact Hq
  iintro Hq
  iapply (wp_load_rect 𝒱₀ (c : Thread nD τ) none Set.univ (m := mK) (r := Rect.unit (s := S8x2048x128) ![t, 0, 0] S1x2048x128.size i2)
    (S := Finset.univ) (f := k) (Finset.subset_univ _)) $$ [Hk]
  · iexact Hk
  iintro Hk
  iapply (wp_load_rect 𝒱₀ (c : Thread nD τ) none Set.univ (m := mV) (r := Rect.unit (s := S8x2048x128) ![t, 0, 0] S1x2048x128.size i2)
    (S := Finset.univ) (f := v) (Finset.subset_univ _)) $$ [Hv]
  · iexact Hv
  iintro Hv
  iapply (wp_load_rect 𝒱₀ (c : Thread nD τ) none Set.univ (m := mX2) (r := Rect.unit (s := S128x1024) ![0, 128 * t] S128x128.size i3)
    (S := Finset.univ) (f := f) (Finset.subset_univ _)) $$ [Hx]
  · iexact Hx
  iintro Hx
  iapply (wp_store 𝒱₀ (c : Thread nD τ) none Set.univ (m := mX2) (r := Rect.unit (s := S128x1024) ![0, 128 * t] S128x128.size i3)
    (S := Finset.univ) (f := f) (Finset.subset_univ _)) $$ [Hx]
  · iexact Hx
  iintro Hx
  rw [show ((Prog.ret PUnit.unit).bind fun _ => Pure.pure PUnit.unit) = (Prog.ret PUnit.unit : PR F PUnit) from rfl, wp_ret]; imodintro
  rw [qBlk_eq, kBlk_k, kBlk_v, ← hh]
  isplitl [Hq]; · iexact Hq
  isplitl [Hk]; · iexact Hk
  isplitl [Hv]; · iexact Hv
  iexists ((mX2.access (Rect.unit (s := S128x1024) ![0, 128 * t] S128x128.size i3)).write (Elt F) f (h t) Finset.univ)
  isplitr
  · ipureintro
    intro t' ht' inb'
    by_cases e : t' = t
    · subst e; exact View.read_write_univ _ _
    · rw [← hf t' (by omega) inb']
      refine View.read_slice_write_slice_of_disjoint (v := mX2.view) _ _ f _ Finset.univ ?_
      refine View.disjoint_slice_of_sep mX2.view _ _ (1 : Fin 2) rfl rfl ?_
      show 128 * t' + 128 ≤ 128 * t ∨ 128 * t + 128 ≤ 128 * t'
      omega
  iexact Hx

/-- A program that computes the heads of chunk `r`. -/
def LoopOK (c : Dev nD) (r : ℕ) (p : PR F Unit) : Prop :=
  ∀ (q : Vec F S2048x1024 .bf16) (k v : Vec F S8x2048x128 .bf16) (K : Unit → sProp (MM F)),
    iprop(pt c cc0_scratch5 q ∗ pt c cc0_stg2_0 k ∗ pt c cc0_stg3_0 v ∗ (∃ f, pt c cc0_scratch4 f)
      ∗ (pt c cc0_scratch5 q ∗ pt c cc0_stg2_0 k ∗ pt c cc0_stg3_0 v
          ∗ pt c cc0_scratch4 (asm fun t => headOf (BitVec.ofNat 32 r) (qBlk q r t) (kBlk k t) (kBlk v t)) -∗ K ())) ⊢ WP c p K

theorem loop_ok (c : Dev nD) (r : ℕ) (w : BitVec 32) (hw : w = BitVec.ofNat 32 r) (L : Scf.Loop 32) (hL : L.OK) (h8 : L.trips = 8)
    (o1 : Fin L.trips → Fin 2 → ℕ) (i1 : ∀ t, ∀ a, o1 t a + S128x128.size a ≤ S2048x1024.size a)
    (o2 : Fin L.trips → Fin 3 → ℕ) (i2 : ∀ t, ∀ a, o2 t a + S1x2048x128.size a ≤ S8x2048x128.size a)
    (o3 : Fin L.trips → Fin 2 → ℕ) (i3 : ∀ t, ∀ a, o3 t a + S128x128.size a ≤ S128x1024.size a)
    (p3 : ∀ t, (Rect.unit (s := S128x1024) (o3 t) S128x128.size (i3 t)).PackedRows (EltTy.packing .bf16))
    (h1 : ∀ t, o1 t = ![128 * r, 128 * t.val]) (h2 : ∀ t, o2 t = ![t.val, 0, 0]) (h3 : ∀ t, o3 t = ![0, 128 * t.val]) :
    LoopOK (F := F) c r (Scf.Loop.for L hL ⟨⟩ fun t _ => headBody w (o1 t) (i1 t) (o2 t) (i2 t) (o3 t) (i3 t) (p3 t)) := by
  intro q k v K
  iintro ⟨Hq, Hk, Hv, ⟨%f, Hx⟩, HK⟩
  iapply (Scf.wp_for frame (wpE (defs₀ (F := F)) 𝒱₀ c none) Set.univ L.lb L.ub L.st hL (⟨⟩ : Unit)
    (fun t _ => headBody w (o1 t) (i1 t) (o2 t) (i2 t) (o3 t) (i3 t) (p3 t))
    (fun n _ => iprop(pt c cc0_scratch5 q ∗ pt c cc0_stg2_0 k ∗ pt c cc0_stg3_0 v
      ∗ heads c (fun t => headOf (BitVec.ofNat 32 r) (qBlk q r t) (kBlk k t) (kBlk v t)) n))
    (fun t _ => headBody_spec c r t.val w hw (h1 t) (h2 t) (h3 t) q k v _ rfl))
  isplitr [HK]
  · isplitl [Hq]; · iexact Hq
    isplitl [Hk]; · iexact Hk
    isplitl [Hv]; · iexact Hv
    unfold heads
    iexists f
    isplitr; · ipureintro; intro t ht; exact absurd ht (Nat.not_lt_zero t)
    iexact Hx
  iintro %_ ⟨Hq, Hk, Hv, Hx⟩
  iapply HK
  isplitl [Hq]; · iexact Hq
  isplitl [Hk]; · iexact Hk
  isplitl [Hv]; · iexact Hv
  iapply (heads_all c _)
  rw [show Scf.trips L.lb L.ub L.st = 8 from h8]
  iexact Hx

theorem read_X2 (f : Vec F S128x1024 .bf16) :
    mX2.view.readAt (Elt F) (Rect.unit (s := S128x1024) ![0, 0] S128x1024.size inb_S128x1024_S128x1024_0_0).toLoadRect f = f :=
  Memref.readAt_unit_zero (Elt F) cc0_scratch4 (by funext a; fin_cases a <;> rfl) _ f
theorem read_Wo (f : Vec F S1024x1024 .bf16) :
    mWo.view.readAt (Elt F) (Rect.unit (s := S1024x1024) ![0, 0] S1024x1024.size inb_S1024x1024_S1024x1024_0_0).toLoadRect f = f :=
  Memref.readAt_unit_zero (Elt F) cc0_stg4_0 (by funext a; fin_cases a <;> rfl) _ f

/-- The chunk's product put into its place. -/
theorem putChunk_spec (c : Dev nD) {k : ℕ} (p : PR F Unit) (hp : LoopOK c k p)
    {off : Fin 3 → ℕ} {inb : ∀ a, off a + S1x128x1024.size a ≤ S16x128x1024.size a} (hoff : off = ![k, 0, 0])
    (o : ℕ → Vec F S1x128x1024 .f32) (K : PUnit → sProp (MM F)) :
    iprop(held c (qOf I c) (I c).k (I c).v (I c).wo ∗ outPts c o
        ∗ (held c (qOf I c) (I c).k (I c).v (I c).wo ∗ outPts c (Function.update o k (cvOf I c k)) -∗ K ⟨⟩))
      ⊢ WP c (putChunk p off inb) K := by
  unfold putChunk held
  iintro ⟨⟨Hq, Hk, Hv, Hwo, Hx⟩, Ho, HK⟩
  iapply (seq c _ _ K)
  iapply (hp (qOf I c) (I c).k (I c).v _)
  isplitl [Hq]; · iexact Hq
  isplitl [Hk]; · iexact Hk
  isplitl [Hv]; · iexact Hv
  isplitl [Hx]; · iexact Hx
  iintro ⟨Hq, Hk, Hv, Hx⟩
  iapply (wp_load 𝒱₀ (c : Thread nD τ) none Set.univ (m := mX2) (r := (Rect.unit (s := S128x1024) ![0, 0] S128x1024.size inb_S128x1024_S128x1024_0_0).toLoadRect)
    (S := Finset.univ) (Finset.subset_univ _)) $$ [Hx]
  · iexact Hx
  iintro Hx
  rw [read_X2]
  iapply (wp_load 𝒱₀ (c : Thread nD τ) none Set.univ (m := mWo) (r := (Rect.unit (s := S1024x1024) ![0, 0] S1024x1024.size inb_S1024x1024_S1024x1024_0_0).toLoadRect)
    (S := Finset.univ) (Finset.subset_univ _)) $$ [Hwo]
  · iexact Hwo
  iintro Hwo
  rw [read_Wo]
  iapply (given c _ _ K)
  iapply (seq c _ _ K)
  iapply (ldO_spec c hoff o _)
  isplitl [Ho]; · iexact Ho
  iintro Ho
  iapply (stO_spec c hoff o _ K)
  isplitl [Ho]; · iexact Ho
  iintro Ho
  iapply HK
  isplitr [Ho]
  · isplitl [Hq]; · iexact Hq
    isplitl [Hk]; · iexact Hk
    isplitl [Hv]; · iexact Hv
    isplitl [Hwo]; · iexact Hwo
    iexists _; iexact Hx
  iexact Ho

end Cert.KernelIdeal.My

end
-- ==== Proof.My.Steps.lean ====
/- One step of the reduce-scatter and one of the all-gather, and what a device holds between them. -/
module

public import proofs.«01_k».proof.Proof.My.Ops

@[expose] public section

set_option maxRecDepth 10000

noncomputable section

namespace Cert.KernelIdeal.My

open Idealize.ShloMosaic Idealize.SL Idealize.SL.RA Idealize.SL.BI Idealize.SL.Sem Idealize.SL.ProofMode Cert.KernelIdeal Cert.KernelIdeal.Gen
open Idealize.ShloMosaic.TcCoe
open Idealize.ShloMosaic.Rounds Idealize.ShloMosaic.Release
open scoped Idealize.SL.BI
open Idealize.SL.BI.BIBase Idealize.SL.BI.Laws

variable {F : FTy → Type} [FloatOps F]
variable (sent : Bool → Dev nD → ℕ → Vec F S1x128x1024 .bf16)
variable (I : Dev nD → Ins F) (κ : GSem nD τ sig → ℕ) (ιs : Key → ℕ)

/-- What device `c` owes, whatever it has waited for. -/
def owe (c : Dev nD) (O : OO) : sProp (MM F) := iprop(∃ W, owes (c : Thread nD τ) O W)
theorem owe_eq (c : Dev nD) {O O' : OO} (h : O = O') : owe (F := F) c O ⊢ owe c O' := Entails.of_eq (by rw [h])

/-! ## The operations of each lane -/

/-- A program that makes a lane free to copy. -/
def WaitOK (l : Bool) (c : Dev nD) (s : ℕ) (p : PR F PUnit) : Prop :=
  ∀ (O : OO) (_ : 2 ≤ s → Above (cIx l (s - 2)) O) (K : PUnit → sProp (MM F)),
    iprop(Ctx sent κ ιs ∗ lane l c s ∗ owe c O ∗ (armed l c s ∗ owe c O -∗ K ⟨⟩)) ⊢ WP c p K

theorem wait_first (l : Bool) (c : Dev nD) {s : ℕ} (h : s < 2) : WaitOK sent κ ιs l c s (pure ⟨⟩) := by
  intro O _ K
  iintro ⟨-, Hl, HO, HK⟩
  iapply (show (K ⟨⟩ : sProp (MM F)) ⊢ WP c (pure ⟨⟩) K from (fupd_intro).trans (Entails.of_eq (wp_ret ..).symm))
  iapply HK
  isplitl [Hl]; · iapply (arm_first l c h); iexact Hl
  iexact HO

theorem wait_sem (l : Bool) (c : Dev nD) {s : ℕ} (h2 : 2 ≤ s) (hs : s < nSt l) : WaitOK sent κ ιs l c s (semWaitWord (crS l) 1#32) := by
  intro O hO K
  unfold owe
  iintro ⟨#HC, Hl, ⟨%W, HO⟩, HK⟩
  iapply (arm_wait sent κ ιs l c h2 hs (hO h2) K)
  isplitr; · iexact HC
  isplitl [Hl]; · iexact Hl
  isplitl [HO]; · iexact HO
  iintro %W' ⟨Hl, HO⟩
  iapply HK
  isplitl [Hl]; · iexact Hl
  iexists W'; iexact HO

/-- The copy of a step, as a program. -/
def sendL (l : Bool) (hM : (sbM l).IsWhole) (hM' : (cbM l).IsWhole) (s : ℕ) (d : Dev nD) : PR F PUnit :=
  sendS (sbM l) hM (cbM l) hM' (ssA l) (rsA l) (sb s).1 (sb s).2 d
/-- The wait for a step's copy to leave. -/
def leftL (l : Bool) (hM : (cbM l).IsWhole) (hM' : (sbM l).IsWhole) (s : ℕ) : PR F PUnit := waitS (cbM l) hM (sbM l) hM' (ssA l) (sb s).1 (sb s).2
/-- The wait for a step's copy to arrive. -/
def hereL (l : Bool) (hM : (sbM l).IsWhole) (hM' : (cbM l).IsWhole) (s : ℕ) : PR F PUnit := waitS (sbM l) hM (cbM l) hM' (rsA l) (sb s).1 (sb s).2

theorem sendL_spec (l : Bool) (c : Dev nD) {s : ℕ} (hs : s < nSt l) (hM : (sbM l).IsWhole) (hM' : (cbM l).IsWhole) (O : OO) (K : PUnit → sProp (MM F)) :
    iprop(Ctx sent κ ιs ∗ armed l c s ∗ slotHas (sbM l) c (sb s) (sent l c s) ∗ owe c (dueR l c s + O) ∗ (flight l c s ∗ owe c O -∗ K ⟨⟩))
      ⊢ WP c (sendL l hM hM' s (toD l c)) K := by
  unfold owe sendL
  iintro ⟨#HC, Hl, Hs, ⟨%W, HO⟩, HK⟩
  iapply (send_spec sent κ ιs l c hs hM hM' K)
  isplitr; · iexact HC
  isplitl [Hl]; · iexact Hl
  isplitl [Hs]; · iexact Hs
  isplitl [HO]; · iexact HO
  iintro ⟨Hl, HO⟩
  iapply HK
  isplitl [Hl]; · iexact Hl
  iexists _; iexact HO

theorem leftL_spec (l : Bool) (c : Dev nD) {s : ℕ} (hs : s < nSt l) (hM : (cbM l).IsWhole) (hM' : (sbM l).IsWhole) (O : OO) (hO : Above 0 O) (K : PUnit → sProp (MM F)) :
    iprop(Ctx sent κ ιs ∗ flight l c s ∗ owe c O ∗ (half l c s ∗ slotAny (sbM l) c (sb s) ∗ owe c O -∗ K ⟨⟩)) ⊢ WP c (leftL l hM hM' s) K := by
  unfold owe leftL
  iintro ⟨#HC, Hl, ⟨%W, HO⟩, HK⟩
  iapply (waitSend_spec sent κ ιs l c hs hM hM' hO K)
  isplitr; · iexact HC
  isplitl [Hl]; · iexact Hl
  isplitl [HO]; · iexact HO
  iintro %W' ⟨Hl, Hs, HO⟩
  iapply HK
  isplitl [Hl]; · iexact Hl
  isplitl [Hs]; · iexact Hs
  iexists _; iexact HO

theorem hereL_spec (l : Bool) (c : Dev nD) {s : ℕ} (hs : s < nSt l) (hM : (sbM l).IsWhole) (hM' : (cbM l).IsWhole) (O : OO) (hO : Above (rIx l s) O) (K : PUnit → sProp (MM F)) :
    iprop(Ctx sent κ ιs ∗ half l c s ∗ owe c O ∗ (got l c s ∗ slotHas (cbM l) c (sb s) (sent l (ofD l c) s) ∗ owe c O -∗ K ⟨⟩)) ⊢ WP c (hereL l hM hM' s) K := by
  unfold owe hereL
  iintro ⟨#HC, Hl, ⟨%W, HO⟩, HK⟩
  iapply (waitRecv_spec sent κ ιs l c hs hM hM' hO K)
  isplitr; · iexact HC
  isplitl [Hl]; · iexact Hl
  isplitl [HO]; · iexact HO
  iintro %W' ⟨Hl, Hs, HO⟩
  iapply HK
  isplitl [Hl]; · iexact Hl
  isplitl [Hs]; · iexact Hs
  iexists _; iexact HO

theorem credL_spec (l : Bool) (c : Dev nD) {s : ℕ} (hs : s < nSt l) (O : OO) (K : PUnit → sProp (MM F)) :
    iprop(Ctx sent κ ιs ∗ got l c s ∗ slotAny (cbM l) c (sb s) ∗ owe c (dueC l c s + O) ∗ (lane l c (s + 1) ∗ owe c O -∗ K ⟨⟩))
      ⊢ WP c (semSignalWord (ofD l c) (crS l) 1#32) K := by
  unfold owe
  iintro ⟨#HC, Hl, Hs, ⟨%W, HO⟩, HK⟩
  iapply (signal_spec sent κ ιs l c hs K)
  isplitr; · iexact HC
  isplitl [Hl]; · iexact Hl
  isplitl [Hs]; · iexact Hs
  isplitl [HO]; · iexact HO
  iintro ⟨Hl, HO⟩
  iapply HK
  isplitl [Hl]; · iexact Hl
  iexists _; iexact HO

theorem wC : (cbM true).IsWhole := Memref.isWhole_whole _
theorem wS : (sbM true).IsWhole := Memref.isWhole_whole _
theorem wCL : (cbM false).IsWhole := Memref.isWhole_whole _
theorem wSL : (sbM false).IsWhole := Memref.isWhole_whole _

/-! ## The reduce-scatter -/

/-- What the device holds all along. -/
abbrev kept (c : Dev nD) : sProp (MM F) := held c (qOf I c) (I c).k (I c).v (I c).wo
/-- Both slots of a buffer. -/
def both (M : Memref sig .tc .vmem S2x128x1024 .bf16) (c : Dev nD) : sProp (MM F) := bigSep Finset.univ fun b : Fin 2 => slotAny M c b
theorem both_eq (M : Memref sig .tc .vmem S2x128x1024 .bf16) (c : Dev nD) (s : ℕ) :
    both (F := F) M c = iprop(slotAny M c (sb s) ∗ slotAny M c (sb (s + 1))) := by
  unfold both
  rw [bigSep_univ_at _ (sb s), show Finset.univ.erase (sb s) = {sb (s + 1)} by
    ext b; have := b.2
    simp only [Finset.mem_erase, Finset.mem_univ, and_true, Finset.mem_singleton, Fin.ext_iff, ne_eq]
    unfold sb; dsimp only; omega, bigSep_singleton]

theorem RS_wait (c : Dev nD) {s : ℕ} (hs : s < 15) (h2 : 2 ≤ s) : Above (cIx true (s - 2)) (dueFrom true c s + dueFrom false c 0) :=
  (Above.dueFrom c (by unfold cIx rIx; simp <;> omega)).add (Above.dueFrom c (by unfold cIx rIx; simp <;> omega))
theorem RS_above (c : Dev nD) {s : ℕ} (hs : s < 15) : Above (rIx true s) (dueC true c s + (dueFrom true c (s + 1) + dueFrom false c 0)) :=
  (Above.dueC c (show s < 23 by omega) (by unfold cIx; omega)).add
    ((Above.dueFrom c (by unfold rIx; simp)).add (Above.dueFrom c (by unfold rIx; simp <;> omega)))

/-- What a device holds before step `s` of the reduce-scatter. -/
def rsState (c : Dev nD) (s : ℕ) : sProp (MM F) :=
  iprop(Ctx (sentOf I) κ ιs ∗ lane true c s ∗ kept I c ∗ both mS c ∗ (∃ o, ⌜o ((c.val + 32 - s) % 16) = accOf I c s⌝ ∗ outPts c o)
    ∗ owe c (dueFrom true c s + dueFrom false c 0) ∗ lane false c 0 ∗ both mSL c)

theorem sent_rs (c : Dev nD) {s : ℕ} (h : s < 15) : sentOf I true c s = narrow (accOf I c s) := if_pos h

/-- One step of the reduce-scatter, over the lanes' names. -/
def rsStepL (c : Dev nD) (s : ℕ) (wait : PR F PUnit) (o5 : Fin 3 → ℕ) (i5 : ∀ a, o5 a + S1x128x1024.size a ≤ S16x128x1024.size a)
    (o9 : Fin 3 → ℕ) (i9 : ∀ a, o9 a + S1x128x1024.size a ≤ S16x128x1024.size a) (loop : PR F Unit) : PR F PUnit := do
  let x : Vec F S1x128x1024 .f32 ← ldO o5 i5
  let _ : Vec F S1x128x1024 .bf16 ← ldS mS (sb s).1 (sb s).2
  stS mS (Memref.isWhole_whole _) (sb s).1 (sb s).2 (narrow x)
  wait
  sendL true wS wC s (toD true c)
  putChunk loop o9 i9
  leftL true wC wS s
  hereL true wS wC s
  let y : Vec F S1x128x1024 .f32 ← ldO o9 i9
  let z : Vec F S1x128x1024 .bf16 ← ldS mC (sb s).1 (sb s).2
  let _ : Vec F S1x128x1024 .f32 ← ldO o9 i9
  stO o9 i9 (addOf y z)
  semSignalWord (ofD true c) (crS true) 1#32

theorem rs_next (c : Dev nD) {s : ℕ} (hs : s < 15) {b : ℕ} {hb : b < 2} (eb : b = s % 2) (wait : PR F PUnit) (hw : WaitOK (sentOf I) κ ιs true c s wait)
    {o5 : Fin 3 → ℕ} {i5 : ∀ a, o5 a + S1x128x1024.size a ≤ S16x128x1024.size a} (h5 : o5 = ![(c.val + 32 - s) % 16, 0, 0])
    {o9 : Fin 3 → ℕ} {i9 : ∀ a, o9 a + S1x128x1024.size a ≤ S16x128x1024.size a} (h9 : o9 = ![(c.val + 31 - s) % 16, 0, 0])
    {dr dl : Dev nD} (hr : dr.val = (c.val + 1) % 16) (hl : dl.val = (c.val + 15) % 16)
    (loop : PR F Unit) (hp : LoopOK c ((c.val + 31 - s) % 16) loop) :
    rsState I κ ιs c s ⊢ WP c (rsStep wait b hb o5 i5 o9 i9 dr dl loop) fun _ => rsState I κ ιs c (s + 1) := by
  obtain rfl : dr = toD true c := Fin.ext hr
  obtain rfl : dl = ofD true c := Fin.ext hl
  subst eb
  refine BIBase.Entails.trans ?_ (show WP c (rsStepL c s wait o5 i5 o9 i9 loop) (fun _ => rsState I κ ιs c (s + 1)) ⊢
    WP c (rsStep wait (s % 2) hb o5 i5 o9 i9 (toD true c) (ofD true c) loop) (fun _ => rsState I κ ιs c (s + 1)) from Entails.of_eq rfl)
  unfold rsStepL rsState
  rw [both_eq mS c s]
  iintro ⟨#HC, Hl, Hh, ⟨HS, HS'⟩, ⟨%o, %ho, Ho⟩, HO, Hx⟩
  iapply (seq c _ _ _)
  iapply (ldO_spec c h5 o _)
  isplitl [Ho]; · iexact Ho
  iintro Ho
  rw [ho]
  iapply (seq c _ _ _)
  iapply (peekS_spec mS c (sb s) _)
  isplitl [HS]; · iexact HS
  iintro %_ HS
  iapply (seq c _ _ _)
  iapply (stS_spec mS (Memref.isWhole_whole _) c (sb s) (narrow (accOf I c s)) _)
  isplitl [HS]; · iexact HS
  iintro HS
  iapply (seq c _ _ _)
  iapply (hw (dueFrom true c s + dueFrom false c 0) (RS_wait c hs) _)
  isplitr; · iexact HC
  isplitl [Hl]; · iexact Hl
  isplitl [HO]; · iexact HO
  iintro ⟨Hl, HO⟩
  iapply (seq c _ _ _)
  iapply (sendL_spec (sentOf I) κ ιs true c (show s < 23 by omega) wS wC (dueC true c s + (dueFrom true c (s + 1) + dueFrom false c 0)) _)
  isplitr; · iexact HC
  isplitl [Hl]; · iexact Hl
  isplitl [HS]
  · rw [sent_rs I c hs]; iexact HS
  isplitl [HO]
  · iapply (owe_eq c (O := dueFrom true c s + dueFrom false c 0) (by rw [dueFrom_succ true c (show s < 23 by omega)]; simp only [add_assoc])); iexact HO
  iintro ⟨Hl, HO⟩
  iapply (seq c _ _ _)
  iapply (putChunk_spec I c loop hp h9 o _)
  isplitl [Hh]; · iexact Hh
  isplitl [Ho]; · iexact Ho
  iintro ⟨Hh, Ho⟩
  iapply (seq c _ _ _)
  iapply (leftL_spec (sentOf I) κ ιs true c (show s < 23 by omega) wC wS _ ((RS_above c hs).mono (Nat.zero_le _)) _)
  isplitr; · iexact HC
  isplitl [Hl]; · iexact Hl
  isplitl [HO]; · iexact HO
  iintro ⟨Hl, HS, HO⟩
  iapply (seq c _ _ _)
  iapply (hereL_spec (sentOf I) κ ιs true c (show s < 23 by omega) wS wC _ (RS_above c hs) _)
  isplitr; · iexact HC
  isplitl [Hl]; · iexact Hl
  isplitl [HO]; · iexact HO
  iintro ⟨Hl, HR, HO⟩
  iapply (seq c _ _ _)
  iapply (ldO_spec c h9 _ _)
  isplitl [Ho]; · iexact Ho
  iintro Ho
  rw [Function.update_self]
  iapply (seq c _ _ _)
  iapply (ldS_spec mC c (sb s) (sentOf I true (ofD true c) s) _)
  isplitl [HR]; · iexact HR
  iintro HR
  iapply (seq c _ _ _)
  iapply (ldO_spec c h9 _ _)
  isplitl [Ho]; · iexact Ho
  iintro Ho
  iapply (seq c _ _ _)
  iapply (stO_spec c h9 _ _ _)
  isplitl [Ho]; · iexact Ho
  iintro Ho
  rw [Function.update_idem]
  iapply (credL_spec (sentOf I) κ ιs true c (show s < 23 by omega) _ _)
  isplitr; · iexact HC
  isplitl [Hl]; · iexact Hl
  isplitl [HR]; · iapply (slotHas_any mC c (sb s) _); iexact HR
  isplitl [HO]; · iexact HO
  iintro ⟨Hl, HO⟩
  isplitr; · iexact HC
  isplitl [Hl]; · iexact Hl
  isplitl [Hh]; · iexact Hh
  isplitl [HS HS']
  · isplitl [HS]; · iexact HS
    iexact HS'
  isplitl [Ho]
  · iexists _
    isplitr; rotate_left
    · iexact Ho
    ipureintro
    rw [show (c.val + 32 - (s + 1)) % 16 = (c.val + 31 - s) % 16 by omega, Function.update_self, sent_rs I _ hs]
    rfl
  isplitl [HO]; · iexact HO
  iexact Hx

/-! ## The all-gather -/

/-- The parts of the result that are in place before step `t` of the all-gather. -/
def Placed (c : Dev nD) (t : ℕ) (o : ℕ → Vec F S1x128x1024 .f32) : Prop :=
  o ((c.val + 1) % 16) = accOf I c 15
    ∧ (∀ t' < t, o ((c.val + 32 - t') % 16) = widen (sentOf I true (lf c) (15 + t')))
    ∧ ∀ t' < t, t' < 7 → o ((c.val + t' + 2) % 16) = widen (sentOf I false (rt c) t')

/-- The left lane's slots before step `t`. -/
def leftSlots (c : Dev nD) (t : ℕ) : sProp (MM F) :=
  if t < 7 then iprop(slotHas mSL c (sb t) (sentOf I false c t) ∗ slotAny mSL c (sb (t + 1))) else both mSL c

theorem sent_true (c : Dev nD) (s : ℕ) :
    sentOf I true c s = if s < 15 then narrow (accOf I c s) else (passOn^[s - 15]) (narrow (accOf I (lf^[s - 15] c) 15)) := rfl
theorem sent_false (c : Dev nD) (s : ℕ) : sentOf I false c s = (passOn^[s]) (narrow (accOf I (rt^[s] c) 15)) := rfl
theorem sent_right (c : Dev nD) (t : ℕ) : sentOf I true c (15 + (t + 1)) = passOn (sentOf I true (lf c) (15 + t)) := by
  rw [sent_true, sent_true, if_neg (by omega), if_neg (by omega), show 15 + (t + 1) - 15 = t + 1 by omega, show 15 + t - 15 = t by omega, Function.iterate_succ_apply',
    Function.iterate_succ_apply]
theorem sent_left (c : Dev nD) (t : ℕ) : sentOf I false c (t + 1) = passOn (sentOf I false (rt c) t) := by
  rw [sent_false, sent_false, Function.iterate_succ_apply', Function.iterate_succ_apply]
theorem sb_a (t : ℕ) : sb (15 + t) = sb (t + 1) := Fin.ext (show (15 + t) % 2 = (t + 1) % 2 by omega)
theorem sb_b (t : ℕ) : sb (15 + (t + 1)) = sb t := Fin.ext (show (15 + (t + 1)) % 2 = t % 2 by omega)

/-- What a device holds before step `t` of the all-gather. -/
def agState (c : Dev nD) (t : ℕ) : sProp (MM F) :=
  iprop(Ctx (sentOf I) κ ιs ∗ lane true c (15 + t) ∗ lane false c t ∗ kept I c
    ∗ (slotHas mS c (sb (15 + t)) (sentOf I true c (15 + t)) ∗ slotAny mS c (sb t)) ∗ leftSlots I c t
    ∗ (∃ o, ⌜Placed I c t o⌝ ∗ outPts c o) ∗ owe c (dueFrom true c (15 + t) + dueFrom false c t))

theorem middle_spec (c : Dev nD) {o52 : Fin 3 → ℕ} {i52 : ∀ a, o52 a + S1x128x1024.size a ≤ S16x128x1024.size a} (h52 : o52 = ![(c.val + 1) % 16, 0, 0]) :
    rsState I κ ιs c 15 ⊢ WP c (middle o52 i52) fun _ => agState I κ ιs c 0 := by
  unfold rsState agState leftSlots middle
  rw [if_pos (by decide), both_eq mS c 15, both_eq mSL c 0]
  iintro ⟨#HC, Hl, Hh, ⟨HS, HS'⟩, ⟨%o, %ho, Ho⟩, HO, Hlf, HL, HL'⟩
  have e : (c.val + 32 - 15) % 16 = (c.val + 1) % 16 := by omega
  rw [e] at ho
  iapply (seq c _ _ _)
  iapply (ldO_spec c h52 o _)
  isplitl [Ho]; · iexact Ho
  iintro Ho
  rw [ho]
  iapply (seq c _ _ _)
  iapply (peekS_spec mS c (sb 15) _)
  isplitl [HS]; · iexact HS
  iintro %_ HS
  iapply (seq c _ _ _)
  iapply (stS_spec mS (Memref.isWhole_whole _) c (sb 15) (narrow (accOf I c 15)) _)
  isplitl [HS]; · iexact HS
  iintro HS
  iapply (seq c _ _ _)
  iapply (ldO_spec c h52 o _)
  isplitl [Ho]; · iexact Ho
  iintro Ho
  rw [ho]
  iapply (seq c _ _ _)
  iapply (peekS_spec mSL c (sb 0) _)
  isplitl [HL]; · iexact HL
  iintro %_ HL
  iapply (stS_spec mSL (Memref.isWhole_whole _) c (sb 0) (narrow (accOf I c 15)) _)
  isplitl [HL]; · iexact HL
  iintro HL
  isplitr; · iexact HC
  isplitl [Hl]; · iexact Hl
  isplitl [Hlf]; · iexact Hlf
  isplitl [Hh]; · iexact Hh
  isplitl [HS HS']
  · isplitl [HS]; · iexact HS
    iexact HS'
  isplitl [HL HL']
  · isplitl [HL]; · iexact HL
    iexact HL'
  isplitl [Ho]
  · iexists o
    isplitr
    · ipureintro
      exact ⟨ho, fun t' h => absurd h (Nat.not_lt_zero _), fun t' h => absurd h (Nat.not_lt_zero _)⟩
    iexact Ho
  iexact HO

/-- The copy to the right, over the lanes' names. -/
def agRightL (c : Dev nD) (s : ℕ) (o5 : Fin 3 → ℕ) (i5 : ∀ a, o5 a + S1x128x1024.size a ≤ S16x128x1024.size a) (mid : PR F PUnit) : PR F PUnit := do
  semWaitWord (crS true) 1#32
  sendL true wS wC s (toD true c)
  mid
  leftL true wC wS s
  hereL true wS wC s
  let z : Vec F S1x128x1024 .bf16 ← ldS mC (sb s).1 (sb s).2
  let _ : Vec F S1x128x1024 .f32 ← ldO o5 i5
  stO o5 i5 (widen z)

theorem agRight_spec (c : Dev nD) {s : ℕ} (h2 : 2 ≤ s) (hs : s < 23) {o5 : Fin 3 → ℕ} {i5 : ∀ a, o5 a + S1x128x1024.size a ≤ S16x128x1024.size a} {k : ℕ}
    (h5 : o5 = ![k, 0, 0]) (mid : PR F PUnit) (X Y : sProp (MM F)) (OX OY : OO)
    (hX : Above (cIx true (s - 2)) (dueFrom true c s + OX)) (hY : Above (rIx true s) (dueC true c s + dueFrom true c (s + 1) + OY))
    (hmid : ∀ K : PUnit → sProp (MM F), iprop(X ∗ owe c (dueC true c s + dueFrom true c (s + 1) + OX)
      ∗ (Y ∗ owe c (dueC true c s + dueFrom true c (s + 1) + OY) -∗ K ⟨⟩)) ⊢ WP c mid K)
    (o : ℕ → Vec F S1x128x1024 .f32) (K : PUnit → sProp (MM F)) :
    iprop(Ctx (sentOf I) κ ιs ∗ lane true c s ∗ slotHas mS c (sb s) (sentOf I true c s) ∗ outPts c o ∗ X ∗ owe c (dueFrom true c s + OX)
        ∗ (got true c s ∗ slotAny mS c (sb s) ∗ slotHas mC c (sb s) (sentOf I true (lf c) s)
            ∗ outPts c (Function.update o k (widen (sentOf I true (lf c) s))) ∗ Y
            ∗ owe c (dueC true c s + dueFrom true c (s + 1) + OY) -∗ K ⟨⟩))
      ⊢ WP c (agRightL c s o5 i5 mid) K := by
  unfold agRightL
  iintro ⟨#HC, Hl, HS, Ho, HX, HO, HK⟩
  iapply (seq c _ _ _)
  iapply (wait_sem (sentOf I) κ ιs true c h2 hs (dueFrom true c s + OX) (fun _ => hX) _)
  isplitr; · iexact HC
  isplitl [Hl]; · iexact Hl
  isplitl [HO]; · iexact HO
  iintro ⟨Hl, HO⟩
  iapply (seq c _ _ _)
  iapply (sendL_spec (sentOf I) κ ιs true c hs wS wC (dueC true c s + dueFrom true c (s + 1) + OX) _)
  isplitr; · iexact HC
  isplitl [Hl]; · iexact Hl
  isplitl [HS]; · iexact HS
  isplitl [HO]
  · iapply (owe_eq c (O := dueFrom true c s + OX) (by rw [dueFrom_succ true c hs]; simp only [add_assoc])); iexact HO
  iintro ⟨Hl, HO⟩
  iapply (seq c _ _ _)
  iapply (hmid _)
  isplitl [HX]; · iexact HX
  isplitl [HO]; · iexact HO
  iintro ⟨HY, HO⟩
  iapply (seq c _ _ _)
  iapply (leftL_spec (sentOf I) κ ιs true c hs wC wS _ (hY.mono (Nat.zero_le _)) _)
  isplitr; · iexact HC
  isplitl [Hl]; · iexact Hl
  isplitl [HO]; · iexact HO
  iintro ⟨Hl, HS, HO⟩
  iapply (seq c _ _ _)
  iapply (hereL_spec (sentOf I) κ ιs true c hs wS wC _ hY _)
  isplitr; · iexact HC
  isplitl [Hl]; · iexact Hl
  isplitl [HO]; · iexact HO
  iintro ⟨Hl, HR, HO⟩
  iapply (seq c _ _ _)
  iapply (ldS_spec mC c (sb s) (sentOf I true (lf c) s) _)
  isplitl [HR]; · iexact HR
  iintro HR
  iapply (seq c _ _ _)
  iapply (ldO_spec c h5 _ _)
  isplitl [Ho]; · iexact Ho
  iintro Ho
  iapply (stO_spec c h5 _ _ _)
  isplitl [Ho]; · iexact Ho
  iintro Ho
  iapply HK
  isplitl [Hl]; · iexact Hl
  isplitl [HS]; · iexact HS
  isplitl [HR]; · iexact HR
  isplitl [Ho]; · iexact Ho
  isplitl [HY]; · iexact HY
  iexact HO

theorem forward_spec (Mr Ms : Memref sig .tc .vmem S2x128x1024 .bf16) (hs : Ms.IsWhole) (c : Dev nD) (b b' : Fin 2) (X : Vec F S1x128x1024 .bf16)
    (K : PUnit → sProp (MM F)) :
    iprop(slotHas Mr c b X ∗ slotAny Ms c b' ∗ (slotHas Mr c b X ∗ slotHas Ms c b' (passOn X) -∗ K ⟨⟩))
      ⊢ WP c (forward Mr Ms hs b.1 b'.1 b.2 b'.2) K := by
  unfold forward
  iintro ⟨HR, HS, HK⟩
  iapply (seq c _ _ _)
  iapply (ldS_spec Mr c b X _)
  isplitl [HR]; · iexact HR
  iintro HR
  iapply (seq c _ _ _)
  iapply (peekS_spec Ms c b' _)
  isplitl [HS]; · iexact HS
  iintro %_ HS
  iapply (stS_spec Ms hs c b' (passOn X) _)
  isplitl [HS]; · iexact HS
  iintro HS
  iapply HK
  isplitl [HR] <;> iassumption

/-- A program that readies the left lane's slots for step `t + 1`. -/
def NextLeft (c : Dev nD) (t : ℕ) (p : PR F PUnit) : Prop :=
  ∀ K : PUnit → sProp (MM F), iprop(slotHas mCL c (sb t) (sentOf I false (rt c) t) ∗ both mSL c
    ∗ (slotHas mCL c (sb t) (sentOf I false (rt c) t) ∗ leftSlots I c (t + 1) -∗ K ⟨⟩)) ⊢ WP c p K

theorem next_forward (c : Dev nD) {t : ℕ} (ht : t < 6) {b b' : ℕ} {hb : b < 2} {hb' : b' < 2} (eb : b = t % 2) (eb' : b' = (t + 1) % 2) :
    NextLeft I c t (forward mCL mSL (Memref.isWhole_whole _) b b' hb hb') := by
  subst eb eb'
  intro K
  unfold leftSlots
  rw [if_pos (by omega), both_eq mSL c t, sent_left, show sb (t + 1 + 1) = sb t from Fin.ext (show (t + 1 + 1) % 2 = t % 2 by omega)]
  iintro ⟨HR, ⟨HL, HL'⟩, HK⟩
  iapply (forward_spec mCL mSL (Memref.isWhole_whole _) c (sb t) (sb (t + 1)) (sentOf I false (rt c) t) K)
  isplitl [HR]; · iexact HR
  isplitl [HL']; · iexact HL'
  iintro ⟨HR, HL'⟩
  iapply HK
  isplitl [HR]; · iexact HR
  isplitl [HL'] <;> iassumption

theorem next_last (c : Dev nD) : NextLeft I c 6 (pure ⟨⟩) := by
  intro K
  unfold leftSlots
  rw [if_neg (by decide)]
  iintro ⟨HR, HL, HK⟩
  iapply (show (K ⟨⟩ : sProp (MM F)) ⊢ WP c (pure ⟨⟩) K from (fupd_intro).trans (Entails.of_eq (wp_ret ..).symm))
  iapply HK
  isplitl [HR] <;> iassumption

/-- One step of the all-gather, over the lanes' names. -/
def agStepL (c : Dev nD) (t : ℕ) (wait : PR F PUnit) (o5 : Fin 3 → ℕ) (i5 : ∀ a, o5 a + S1x128x1024.size a ≤ S16x128x1024.size a)
    (o6 : Fin 3 → ℕ) (i6 : ∀ a, o6 a + S1x128x1024.size a ≤ S16x128x1024.size a) (fw : PR F PUnit) : PR F PUnit := do
  agRightL c (15 + t) o5 i5 (do
    wait
    sendL false wSL wCL t (toD false c))
  forward mC mS (Memref.isWhole_whole _) (sb (15 + t)).1 (sb t).1 (sb (15 + t)).2 (sb t).2
  semSignalWord (ofD true c) (crS true) 1#32
  leftL false wCL wSL t
  hereL false wSL wCL t
  let z : Vec F S1x128x1024 .bf16 ← ldS mCL (sb t).1 (sb t).2
  let _ : Vec F S1x128x1024 .f32 ← ldO o6 i6
  stO o6 i6 (widen z)
  fw
  semSignalWord (ofD false c) (crS false) 1#32

theorem AG_X (c : Dev nD) {t : ℕ} (ht : t < 8) : Above (cIx true (15 + t - 2)) (dueFrom true c (15 + t) + dueFrom false c t) :=
  (Above.dueFrom c (by unfold cIx rIx; simp <;> omega)).add (Above.dueFrom c (by unfold cIx rIx; simp <;> omega))
theorem AG_mid (c : Dev nD) {t : ℕ} (ht : t < 7) (h2 : 2 ≤ t) :
    Above (cIx false (t - 2)) (dueC true c (15 + t) + dueFrom true c (15 + t + 1) + dueFrom false c t) :=
  ((Above.dueC c (show 15 + t < 23 by omega) (by unfold cIx rIx; simp <;> omega)).add (Above.dueFrom c (by unfold cIx rIx; simp <;> omega))).add
    (Above.dueFrom c (by unfold cIx rIx; simp <;> omega))
theorem AG_Y (c : Dev nD) {t : ℕ} (ht : t < 7) :
    Above (rIx true (15 + t)) (dueC true c (15 + t) + dueFrom true c (15 + t + 1) + (dueC false c t + dueFrom false c (t + 1))) :=
  ((Above.dueC c (show 15 + t < 23 by omega) (by unfold cIx rIx; simp)).add (Above.dueFrom c (by unfold rIx; simp <;> omega))).add
    ((Above.dueC c (show t < 7 by omega) (by unfold cIx rIx; simp <;> omega)).add (Above.dueFrom c (by unfold rIx; simp <;> omega)))
theorem AG_L (c : Dev nD) {t : ℕ} (ht : t < 7) :
    Above (rIx false t) (dueC false c t + (dueFrom true c (15 + t + 1) + dueFrom false c (t + 1))) :=
  (Above.dueC c (show t < 7 by omega) (by unfold cIx; omega)).add
    ((Above.dueFrom c (by unfold rIx; simp <;> omega)).add (Above.dueFrom c (by unfold rIx; simp)))

theorem owe_L (c : Dev nD) {t : ℕ} (ht : t < 7) : dueC true c (15 + t) + dueFrom true c (15 + t + 1) + dueFrom false c t
    = dueR false c t + (dueC true c (15 + t) + dueFrom true c (15 + t + 1) + (dueC false c t + dueFrom false c (t + 1))) := by
  rw [dueFrom_succ false c (show t < 7 by omega), add_left_comm (dueR false c t), add_assoc (dueR false c t)]
theorem owe_R (c : Dev nD) (t : ℕ) : dueC true c (15 + t) + dueFrom true c (15 + t + 1) + (dueC false c t + dueFrom false c (t + 1))
    = dueC true c (15 + t) + (dueC false c t + (dueFrom true c (15 + t + 1) + dueFrom false c (t + 1))) := by
  rw [add_assoc, add_left_comm (dueFrom true c (15 + t + 1))]

theorem placed_next (c : Dev nD) {t : ℕ} (ht : t < 7) {o : ℕ → Vec F S1x128x1024 .f32} (h : Placed I c t o) :
    Placed I c (t + 1) (Function.update (Function.update o ((c.val + 32 - t) % 16) (widen (sentOf I true (lf c) (15 + t))))
      ((c.val + t + 2) % 16) (widen (sentOf I false (rt c) t))) := by
  obtain ⟨h1, h2, h3⟩ := h
  have hc : c.val < 16 := c.isLt
  refine ⟨?_, fun t' h' => ?_, fun t' h' h7 => ?_⟩
  · rw [Function.update_of_ne (by omega), Function.update_of_ne (by omega), h1]
  · rw [Function.update_of_ne (by omega)]
    by_cases e : t' = t
    · subst e; rw [Function.update_self]
    · rw [Function.update_of_ne (by omega), h2 t' (by omega)]
  · by_cases e : t' = t
    · subst e; rw [Function.update_self]
    · rw [Function.update_of_ne (by omega), Function.update_of_ne (by omega), h3 t' (by omega) h7]

theorem placed_last (c : Dev nD) {o : ℕ → Vec F S1x128x1024 .f32} (h : Placed I c 7 o) :
    Placed I c 8 (Function.update o ((c.val + 32 - 7) % 16) (widen (sentOf I true (lf c) (15 + 7)))) := by
  obtain ⟨h1, h2, h3⟩ := h
  have hc : c.val < 16 := c.isLt
  refine ⟨?_, fun t' h' => ?_, fun t' h' h7 => ?_⟩
  · rw [Function.update_of_ne (by omega), h1]
  · by_cases e : t' = 7
    · subst e; rw [Function.update_self]
    · rw [Function.update_of_ne (by omega), h2 t' (by omega)]
  · rw [Function.update_of_ne (by omega), h3 t' (by omega) h7]

theorem ag_next (c : Dev nD) {t : ℕ} (ht : t < 7) {b bL : ℕ} {hb : b < 2} {hbL : bL < 2} (eb : b = (15 + t) % 2) (ebL : bL = t % 2)
    (wait : PR F PUnit) (hw : WaitOK (sentOf I) κ ιs false c t wait)
    {o5 : Fin 3 → ℕ} {i5 : ∀ a, o5 a + S1x128x1024.size a ≤ S16x128x1024.size a} (h5 : o5 = ![(c.val + 32 - t) % 16, 0, 0])
    {o6 : Fin 3 → ℕ} {i6 : ∀ a, o6 a + S1x128x1024.size a ≤ S16x128x1024.size a} (h6 : o6 = ![(c.val + t + 2) % 16, 0, 0])
    (fw : PR F PUnit) (hf : NextLeft I c t fw)
    {d1 d2 d3 d4 : Dev nD} (e1 : d1.val = (c.val + 1) % 16) (e2 : d2.val = (c.val + 15) % 16)
    (e3 : d3.val = (c.val + 15) % 16) (e4 : d4.val = (c.val + 1) % 16) :
    agState I κ ιs c t ⊢ WP c (agStep wait b bL hb hbL o5 i5 o6 i6 fw d1 d2 d3 d4) fun _ => agState I κ ιs c (t + 1) := by
  obtain rfl : d1 = toD true c := Fin.ext e1
  obtain rfl : d2 = toD false c := Fin.ext e2
  obtain rfl : d3 = ofD true c := Fin.ext e3
  obtain rfl : d4 = ofD false c := Fin.ext e4
  subst eb ebL
  refine BIBase.Entails.trans ?_ (show WP c (agStepL c t wait o5 i5 o6 i6 fw) (fun _ => agState I κ ιs c (t + 1)) ⊢
    WP c (agStep wait ((15 + t) % 2) (t % 2) hb hbL o5 i5 o6 i6 fw (toD true c) (toD false c) (ofD true c) (ofD false c)) (fun _ => agState I κ ιs c (t + 1))
    from Entails.of_eq rfl)
  unfold agStepL agState
  rw [show leftSlots I c t = iprop(slotHas mSL c (sb t) (sentOf I false c t) ∗ slotAny mSL c (sb (t + 1))) from if_pos ht]
  iintro ⟨#HC, Hr, Hl, Hh, ⟨HS, HS'⟩, ⟨HL, HL'⟩, ⟨%o, %ho, Ho⟩, HO⟩
  iapply (seq c _ _ _)
  iapply (agRight_spec I κ ιs c (s := 15 + t) (by omega) (by omega) h5 _
    iprop(Ctx (sentOf I) κ ιs ∗ lane false c t ∗ slotHas mSL c (sb t) (sentOf I false c t)) (flight false c t)
    (dueFrom false c t) (dueC false c t + dueFrom false c (t + 1)) (AG_X c (by omega)) (AG_Y c ht)
    (fun K => by
      iintro ⟨⟨#HC, Hl, HL⟩, HO, HK⟩
      iapply (seq c _ _ _)
      iapply (hw (dueC true c (15 + t) + dueFrom true c (15 + t + 1) + dueFrom false c t) (AG_mid c ht) _)
      isplitr; · iexact HC
      isplitl [Hl]; · iexact Hl
      isplitl [HO]; · iexact HO
      iintro ⟨Hl, HO⟩
      iapply (sendL_spec (sentOf I) κ ιs false c (show t < 7 by omega) wSL wCL
        (dueC true c (15 + t) + dueFrom true c (15 + t + 1) + (dueC false c t + dueFrom false c (t + 1))) _)
      isplitr; · iexact HC
      isplitl [Hl]; · iexact Hl
      isplitl [HL]; · iexact HL
      isplitl [HO]
      · iapply (owe_eq c (O := dueC true c (15 + t) + dueFrom true c (15 + t + 1) + dueFrom false c t) (owe_L c ht)); iexact HO
      iintro ⟨Hl, HO⟩
      iapply HK
      isplitl [Hl] <;> iassumption) o _)
  isplitr; · iexact HC
  isplitl [Hr]; · iexact Hr
  isplitl [HS]; · iexact HS
  isplitl [Ho]; · iexact Ho
  isplitl [Hl HL]
  · isplitr; · iexact HC
    isplitl [Hl] <;> iassumption
  isplitl [HO]; · iexact HO
  iintro ⟨Hr, HS, HR, Ho, Hl, HO⟩
  iapply (seq c _ _ _)
  iapply (forward_spec mC mS (Memref.isWhole_whole _) c (sb (15 + t)) (sb t) (sentOf I true (lf c) (15 + t)) _)
  isplitl [HR]; · iexact HR
  isplitl [HS']; · iexact HS'
  iintro ⟨HR, HS'⟩
  iapply (seq c _ _ _)
  iapply (credL_spec (sentOf I) κ ιs true c (show 15 + t < 23 by omega) (dueC false c t + (dueFrom true c (15 + t + 1) + dueFrom false c (t + 1))) _)
  isplitr; · iexact HC
  isplitl [Hr]; · iexact Hr
  isplitl [HR]; · iapply (slotHas_any mC c (sb (15 + t)) _); iexact HR
  isplitl [HO]
  · iapply (owe_eq c (O := dueC true c (15 + t) + dueFrom true c (15 + t + 1) + (dueC false c t + dueFrom false c (t + 1))) (owe_R c t)); iexact HO
  iintro ⟨Hr, HO⟩
  iapply (seq c _ _ _)
  iapply (leftL_spec (sentOf I) κ ιs false c (show t < 7 by omega) wCL wSL _ ((AG_L c ht).mono (Nat.zero_le _)) _)
  isplitr; · iexact HC
  isplitl [Hl]; · iexact Hl
  isplitl [HO]; · iexact HO
  iintro ⟨Hl, HL, HO⟩
  iapply (seq c _ _ _)
  iapply (hereL_spec (sentOf I) κ ιs false c (show t < 7 by omega) wSL wCL _ (AG_L c ht) _)
  isplitr; · iexact HC
  isplitl [Hl]; · iexact Hl
  isplitl [HO]; · iexact HO
  iintro ⟨Hl, HR, HO⟩
  iapply (seq c _ _ _)
  iapply (ldS_spec mCL c (sb t) (sentOf I false (rt c) t) _)
  isplitl [HR]; · iexact HR
  iintro HR
  iapply (seq c _ _ _)
  iapply (ldO_spec c h6 _ _)
  isplitl [Ho]; · iexact Ho
  iintro Ho
  iapply (seq c _ _ _)
  iapply (stO_spec c h6 _ _ _)
  isplitl [Ho]; · iexact Ho
  iintro Ho
  iapply (seq c _ _ _)
  iapply (hf _)
  isplitl [HR]; · iexact HR
  isplitl [HL HL']
  · rw [both_eq mSL c t]
    isplitl [HL]; · iexact HL
    iexact HL'
  iintro ⟨HR, HL⟩
  iapply (credL_spec (sentOf I) κ ιs false c (show t < 7 by omega) (dueFrom true c (15 + t + 1) + dueFrom false c (t + 1)) _)
  isplitr; · iexact HC
  isplitl [Hl]; · iexact Hl
  isplitl [HR]; · iapply (slotHas_any mCL c (sb t) _); iexact HR
  isplitl [HO]; · iexact HO
  iintro ⟨Hl, HO⟩
  isplitr; · iexact HC
  isplitl [Hr]; · iexact Hr
  isplitl [Hl]; · iexact Hl
  isplitl [Hh]; · iexact Hh
  isplitl [HS HS']
  · rw [sent_right, sb_b, ← sb_a]
    isplitl [HS'] <;> iassumption
  isplitl [HL]; · iexact HL
  isplitl [Ho]
  · iexists _
    isplitr; rotate_left
    · iexact Ho
    ipureintro
    exact placed_next I c ht ho
  iexact HO

end Cert.KernelIdeal.My

end
-- ==== Proof.My.Run.lean ====
/- The whole body at one device: from the slots given to the neighbours to the semaphores back at zero. -/
module

public import proofs.«01_k».proof.Proof.My.Steps

@[expose] public section

set_option maxRecDepth 10000

noncomputable section

namespace Cert.KernelIdeal.My

open Idealize.ShloMosaic Idealize.SL Idealize.SL.RA Idealize.SL.BI Idealize.SL.Sem Idealize.SL.ProofMode Cert.KernelIdeal Cert.KernelIdeal.Gen
open Idealize.ShloMosaic.TcCoe
open Idealize.ShloMosaic.Rounds Idealize.ShloMosaic.Release
open Idealize.ShloMosaic.ValueIdx (ix2 ix3)
open scoped Idealize.SL.BI
open Idealize.SL.BI.BIBase Idealize.SL.BI.Laws

variable {F : FTy → Type} [FloatOps F]
variable (sent : Bool → Dev nD → ℕ → Vec F S1x128x1024 .bf16)
variable (I : Dev nD → Ins F) (κ : GSem nD τ sig → ℕ) (ιs : Key → ℕ)

/-- A step, then the rest. -/
theorem andThen {c : Dev nD} {p : PR F PUnit} {k : PUnit → PR F PUnit} {P Q : sProp (MM F)} {K : PUnit → sProp (MM F)}
    (h : P ⊢ WP c p fun _ => Q) (h' : Q ⊢ WP c (k ⟨⟩) K) : P ⊢ WP c (p >>= k) K :=
  BIBase.Entails.trans (h.trans (wp_mono _ _ _ fun _ => h')) (seq c p k K)

theorem pure_spec (c : Dev nD) (K : PUnit → sProp (MM F)) : K ⟨⟩ ⊢ WP c (pure ⟨⟩) K :=
  (fupd_intro).trans (Entails.of_eq (wp_ret ..).symm)

theorem fin2 (Φ : Fin 2 → sProp (MM F)) : bigSep Finset.univ Φ = iprop(Φ 0 ∗ Φ 1) := bigSep_fin_two Φ

/-! ## The reduce-scatter's chain -/

theorem wCh_eq (c : Dev nD) (s : Fin 15) : wCh c (BitVec.ofNat 32 s.val) = BitVec.ofNat 32 ((c.val + 31 - s.val) % 16) := by
  revert c s; decide +kernel
theorem wMy_eq (c : Dev nD) : wMy c = BitVec.ofNat 32 c.val := by revert c; decide +kernel

set_option maxHeartbeats 4000000 in
theorem rs_all (c : Dev nD) : rsState I κ ιs c 0 ⊢ WP c (rsSteps c) fun _ => rsState I κ ιs c 15 := by
  unfold rsSteps
  refine andThen (rs_next I κ ιs c (s := 0) (by decide) rfl _ (wait_first _ _ _ true c (by decide)) (k0_off5_eq c 0) (k0_off9_eq c 0) (k0_dev3_eq c) (k0_dev4_eq c) _
    (loop_ok c _ _ (wCh_eq c 0) _ _ rfl _ _ _ _ _ _ _ (fun t => k0_off6_eq c t) k0_off7_eq k0_off8_eq)) ?_
  refine andThen (rs_next I κ ιs c (s := 1) (by decide) rfl _ (wait_first _ _ _ true c (by decide)) (k0_off5_eq c 1) (k0_off9_eq c 1) (k0_dev5_eq c) (k0_dev6_eq c) _
    (loop_ok c _ _ (wCh_eq c 1) _ _ rfl _ _ _ _ _ _ _ (fun t => k0_off10_eq c t) k0_off11_eq k0_off12_eq)) ?_
  refine andThen (rs_next I κ ιs c (s := 2) (by decide) rfl _ (wait_sem _ _ _ true c (by decide) (by decide)) (k0_off5_eq c 2) (k0_off9_eq c 2) (k0_dev7_eq c) (k0_dev8_eq c) _
    (loop_ok c _ _ (wCh_eq c 2) _ _ rfl _ _ _ _ _ _ _ (fun t => k0_off13_eq c t) k0_off14_eq k0_off15_eq)) ?_
  refine andThen (rs_next I κ ιs c (s := 3) (by decide) rfl _ (wait_sem _ _ _ true c (by decide) (by decide)) (k0_off5_eq c 3) (k0_off9_eq c 3) (k0_dev9_eq c) (k0_dev10_eq c) _
    (loop_ok c _ _ (wCh_eq c 3) _ _ rfl _ _ _ _ _ _ _ (fun t => k0_off16_eq c t) k0_off17_eq k0_off18_eq)) ?_
  refine andThen (rs_next I κ ιs c (s := 4) (by decide) rfl _ (wait_sem _ _ _ true c (by decide) (by decide)) (k0_off5_eq c 4) (k0_off9_eq c 4) (k0_dev11_eq c) (k0_dev12_eq c) _
    (loop_ok c _ _ (wCh_eq c 4) _ _ rfl _ _ _ _ _ _ _ (fun t => k0_off19_eq c t) k0_off20_eq k0_off21_eq)) ?_
  refine andThen (rs_next I κ ιs c (s := 5) (by decide) rfl _ (wait_sem _ _ _ true c (by decide) (by decide)) (k0_off5_eq c 5) (k0_off9_eq c 5) (k0_dev13_eq c) (k0_dev14_eq c) _
    (loop_ok c _ _ (wCh_eq c 5) _ _ rfl _ _ _ _ _ _ _ (fun t => k0_off22_eq c t) k0_off23_eq k0_off24_eq)) ?_
  refine andThen (rs_next I κ ιs c (s := 6) (by decide) rfl _ (wait_sem _ _ _ true c (by decide) (by decide)) (k0_off5_eq c 6) (k0_off9_eq c 6) (k0_dev15_eq c) (k0_dev16_eq c) _
    (loop_ok c _ _ (wCh_eq c 6) _ _ rfl _ _ _ _ _ _ _ (fun t => k0_off25_eq c t) k0_off26_eq k0_off27_eq)) ?_
  refine andThen (rs_next I κ ιs c (s := 7) (by decide) rfl _ (wait_sem _ _ _ true c (by decide) (by decide)) (k0_off5_eq c 7) (k0_off9_eq c 7) (k0_dev17_eq c) (k0_dev18_eq c) _
    (loop_ok c _ _ (wCh_eq c 7) _ _ rfl _ _ _ _ _ _ _ (fun t => k0_off28_eq c t) k0_off29_eq k0_off30_eq)) ?_
  refine andThen (rs_next I κ ιs c (s := 8) (by decide) rfl _ (wait_sem _ _ _ true c (by decide) (by decide)) (k0_off5_eq c 8) (k0_off9_eq c 8) (k0_dev19_eq c) (k0_dev20_eq c) _
    (loop_ok c _ _ (wCh_eq c 8) _ _ rfl _ _ _ _ _ _ _ (fun t => k0_off31_eq c t) k0_off32_eq k0_off33_eq)) ?_
  refine andThen (rs_next I κ ιs c (s := 9) (by decide) rfl _ (wait_sem _ _ _ true c (by decide) (by decide)) (k0_off5_eq c 9) (k0_off9_eq c 9) (k0_dev21_eq c) (k0_dev22_eq c) _
    (loop_ok c _ _ (wCh_eq c 9) _ _ rfl _ _ _ _ _ _ _ (fun t => k0_off34_eq c t) k0_off35_eq k0_off36_eq)) ?_
  refine andThen (rs_next I κ ιs c (s := 10) (by decide) rfl _ (wait_sem _ _ _ true c (by decide) (by decide)) (k0_off5_eq c 10) (k0_off9_eq c 10) (k0_dev23_eq c) (k0_dev24_eq c) _
    (loop_ok c _ _ (wCh_eq c 10) _ _ rfl _ _ _ _ _ _ _ (fun t => k0_off37_eq c t) k0_off38_eq k0_off39_eq)) ?_
  refine andThen (rs_next I κ ιs c (s := 11) (by decide) rfl _ (wait_sem _ _ _ true c (by decide) (by decide)) (k0_off5_eq c 11) (k0_off9_eq c 11) (k0_dev25_eq c) (k0_dev26_eq c) _
    (loop_ok c _ _ (wCh_eq c 11) _ _ rfl _ _ _ _ _ _ _ (fun t => k0_off40_eq c t) k0_off41_eq k0_off42_eq)) ?_
  refine andThen (rs_next I κ ιs c (s := 12) (by decide) rfl _ (wait_sem _ _ _ true c (by decide) (by decide)) (k0_off5_eq c 12) (k0_off9_eq c 12) (k0_dev27_eq c) (k0_dev28_eq c) _
    (loop_ok c _ _ (wCh_eq c 12) _ _ rfl _ _ _ _ _ _ _ (fun t => k0_off43_eq c t) k0_off44_eq k0_off45_eq)) ?_
  refine andThen (rs_next I κ ιs c (s := 13) (by decide) rfl _ (wait_sem _ _ _ true c (by decide) (by decide)) (k0_off5_eq c 13) (k0_off9_eq c 13) (k0_dev29_eq c) (k0_dev30_eq c) _
    (loop_ok c _ _ (wCh_eq c 13) _ _ rfl _ _ _ _ _ _ _ (fun t => k0_off46_eq c t) k0_off47_eq k0_off48_eq)) ?_
  exact (rs_next I κ ιs c (s := 14) (by decide) rfl _ (wait_sem _ _ _ true c (by decide) (by decide)) (k0_off5_eq c 14) (k0_off9_eq c 14) (k0_dev31_eq c) (k0_dev32_eq c) _
    (loop_ok c _ _ (wCh_eq c 14) _ _ rfl _ _ _ _ _ _ _ (fun t => k0_off49_eq c t) k0_off50_eq k0_off51_eq))

/-! ## The last copy, and the credits nobody copies on -/

/-- A lane with every copy done. -/
def laneEnd (l : Bool) (c : Dev nD) : sProp (MM F) :=
  iprop(posn l c (nSt l) ∗ atPos (ER F) (cCell c l) 1 ∅ 0 ∗ both (cbM l) c)

theorem cred_pair (g : GSem nD τ sig) (i j : ℕ) : iprop(cred (tallyAt g i 1) ∗ cred (tallyAt g j 1))
    ⊢ (cred (tallyOn g (Finsupp.single i 1 + Finsupp.single j 1)) : sProp (MM F)) := by
  refine BIBase.Entails.trans (cred_add _ _).2 (Entails.of_eq ?_)
  unfold tallyAt tallyOn
  rw [← Pi.single_add]

theorem drain (l : Bool) (c : Dev nD) (K : PUnit → sProp (MM F)) :
    iprop(Ctx sent κ ιs ∗ lane l c (nSt l) ∗ owe c 0 ∗ (laneEnd l c ∗ owe c 0 -∗ K ⟨⟩)) ⊢ WP c (semWaitWord (crS l) 2#32) K := by
  refine semWait_spec c _ 2 _ rfl K _ ?_
  have h2 := nSt_two l
  unfold lane core owe laneEnd rd
  rw [Ico_step (show nSt l - 2 < nSt l by omega), bigSep_add (by simp), Ico_step (show nSt l - 2 + 1 < nSt l by omega), bigSep_add (by simp),
    Finset.Ico_eq_empty (show ¬ nSt l - 2 + 1 + 1 < nSt l by omega), both_eq (cbM l) c (nSt l - 2), bigSep_add (by simp),
    bigSep_add (Finset.notMem_empty _)]
  iintro ⟨#HC, ⟨Hp, -, ⟨⟨Hc, Hc', -⟩, ⟨%T, Hat, -⟩, -⟩, -, -, Hs, Hs', -⟩, ⟨%W, HO⟩, HK⟩
  iapply (Rounds.wp_wait_rest 𝒱₀ (ER F) (Rd sent) (c : Thread nD τ) none (sm := .reg (crS l)) (κ := κ (cCell c l)) (k' := 2)
      (wpE_semWait_eq 𝒱₀ (c : Thread nD τ) none Set.univ) (Set.mem_univ _)
      (cr := Finsupp.single (cIx l (nSt l - 2)) 1 + Finsupp.single (cIx l (nSt l - 2 + 1)) 1)
      ((Finsupp.single (cIx l (nSt l - 2)) 1 + Finsupp.single (cIx l (nSt l - 2 + 1)) 1).support.image ((.reg (crS l)), ·))
      (R := 0) (m := nSt l - 2) (T := T) (O := 0) (W := W)
      (show nSt l - 2 + 2 = (Rd sent).expect (cCell c l) 0 by rw [Rd_expect_cred]; omega)
      (by rw [Util.total_add, Util.total_single, Util.total_single]) (Finset.Subset.refl _)) $$ [Hc Hc' HO Hat]
  · isplitr; · iapply (Ctx_sc sent κ ιs c (.cred l)); iexact HC
    isplitl [Hc Hc']
    · iapply (cred_pair (F := F) (cCell c l) _ _); isplitl [Hc] <;> iassumption
    isplitl [HO]; · iexact HO
    isplitr
    · iapply (show (levAts LL lvv : sProp (MM F)) ⊢ MayOwe (c : Thread nD τ) ((Finsupp.single (cIx l (nSt l - 2)) 1 + Finsupp.single (cIx l (nSt l - 2 + 1)) 1).support.image ((.reg (crS l)), ·)) 0 from
        MayOwe.of_cut (L := LL) (lev := lvv) 200
          (fun p hp => by
            obtain ⟨i, hi, rfl⟩ := Finset.mem_image.mp hp
            have := Finsupp.support_add hi
            rcases Finset.mem_union.mp this with e | e
            · rw [Finset.mem_singleton.mp (Finsupp.support_single_subset e)]; exact mem_LL c _ (cIx_lt (by omega))
            · rw [Finset.mem_singleton.mp (Finsupp.support_single_subset e)]; exact mem_LL c _ (cIx_lt (by omega)))
          (fun g u hg => absurd hg (Nat.lt_irrefl 0))
          (fun p hp => by
            obtain ⟨i, hi, rfl⟩ := Finset.mem_image.mp hp
            have := Finsupp.support_add hi
            rcases Finset.mem_union.mp this with e | e
            · rw [Finset.mem_singleton.mp (Finsupp.support_single_subset e)]; exact le_of_lt (cIx_lt (by omega))
            · rw [Finset.mem_singleton.mp (Finsupp.support_single_subset e)]; exact le_of_lt (cIx_lt (by omega)))
          (fun g u hg => absurd hg (Nat.lt_irrefl 0)))
      iapply (Ctx_lev sent κ ιs); iexact HC
    iexact Hat
  iintro ⟨HO, Hat, -, -⟩
  rw [wp_ret]; imodintro
  iapply HK
  isplitr [HO]
  · isplitl [Hp]; · iexact Hp
    isplitl [Hat]; · iexact Hat
    isplitl [Hs] <;> iassumption
  iexists _; iexact HO

/-- The end of the all-gather, over the lanes' names. -/
def agEndL (c : Dev nD) (o5 : Fin 3 → ℕ) (i5 : ∀ a, o5 a + S1x128x1024.size a ≤ S16x128x1024.size a) : PR F PUnit := do
  agRightL c 22 o5 i5 (pure ⟨⟩)
  semSignalWord (ofD true c) (crS true) 1#32
  semWaitWord (crS true) 2#32
  semWaitWord (crS false) 2#32
  pure ⟨⟩

/-- What is left when the body ends. -/
def ended (c : Dev nD) : sProp (MM F) :=
  iprop(laneEnd true c ∗ laneEnd false c ∗ kept I c ∗ both mS c ∗ both mSL c ∗ (∃ o, ⌜Placed I c 8 o⌝ ∗ outPts c o) ∗ owe c 0)

theorem owe_end (c : Dev nD) : dueFrom true c (15 + 7) + dueFrom false c 7 = dueFrom true c 22 + 0 := by
  rw [show dueFrom false c 7 = 0 from dueFrom_end false c]

theorem ag_end (c : Dev nD) {o5 : Fin 3 → ℕ} {i5 : ∀ a, o5 a + S1x128x1024.size a ≤ S16x128x1024.size a} (h5 : o5 = ![(c.val + 32 - 7) % 16, 0, 0]) :
    agState I κ ιs c 7 ⊢ WP c (agEndL c o5 i5) fun _ => ended I c := by
  unfold agEndL agState ended
  rw [show leftSlots I c 7 = both mSL c from if_neg (by decide), show sb (15 + 7) = sb 0 from rfl, show sb 7 = sb (0 + 1) from rfl, both_eq mS c 0]
  iintro ⟨#HC, Hr, Hl, Hh, ⟨HS, HS'⟩, HL, ⟨%o, %ho, Ho⟩, HO⟩
  iapply (seq c _ _ _)
  iapply (agRight_spec I κ ιs c (s := 22) (by omega) (by omega) h5 _ iprop(emp) iprop(emp) 0 0
    ((Above.dueFrom c (by decide)).add (Above.zero _))
    (((Above.dueC c (by decide) (by decide)).add (Above.dueFrom c (by decide))).add (Above.zero _))
    (fun K => by
      iintro ⟨-, HO, HK⟩
      iapply (show (K ⟨⟩ : sProp (MM F)) ⊢ WP c (pure ⟨⟩) K from (fupd_intro).trans (Entails.of_eq (wp_ret ..).symm))
      iapply HK
      isplitr; · iempintro
      iexact HO) o _)
  isplitr; · iexact HC
  isplitl [Hr]; · iexact Hr
  isplitl [HS]; · iexact HS
  isplitl [Ho]; · iexact Ho
  isplitr; · iempintro
  isplitl [HO]
  · iapply (owe_eq c (owe_end c)); iexact HO
  iintro ⟨Hr, HS, HR, Ho, -, HO⟩
  iapply (seq c _ _ _)
  iapply (credL_spec (sentOf I) κ ιs true c (show 22 < 23 by omega) 0 _)
  isplitr; · iexact HC
  isplitl [Hr]; · iexact Hr
  isplitl [HR]; · iapply (slotHas_any mC c (sb 22) _); iexact HR
  isplitl [HO]
  · iapply (owe_eq c (O := dueC true c 22 + dueFrom true c (22 + 1) + 0) (by rw [show dueFrom true c (22 + 1) = 0 from dueFrom_end true c, add_zero])); iexact HO
  iintro ⟨Hr, HO⟩
  iapply (seq c _ _ _)
  iapply (drain (sentOf I) κ ιs true c _)
  isplitr; · iexact HC
  isplitl [Hr]; · iexact Hr
  isplitl [HO]; · iexact HO
  iintro ⟨Hr, HO⟩
  iapply (seq c _ _ _)
  iapply (drain (sentOf I) κ ιs false c _)
  isplitr; · iexact HC
  isplitl [Hl]; · iexact Hl
  isplitl [HO]; · iexact HO
  iintro ⟨Hl, HO⟩
  iapply (pure_spec c _)
  isplitl [Hr]; · iexact Hr
  isplitl [Hl]; · iexact Hl
  isplitl [Hh]; · iexact Hh
  isplitl [HS HS']
  · isplitl [HS]; · iexact HS
    iexact HS'
  isplitl [HL]; · iexact HL
  isplitl [Ho]
  · iexists _
    isplitr; rotate_left
    · iexact Ho
    ipureintro
    exact placed_last I c ho
  iexact HO

set_option maxHeartbeats 4000000 in
theorem ag_all (c : Dev nD) : agState I κ ιs c 0 ⊢ WP c (agSteps c) fun _ => ended I c := by
  unfold agSteps
  refine andThen (ag_next I κ ιs c (t := 0) (by decide) rfl rfl _ (wait_first _ _ _ false c (by decide)) (k0_off5_eq c 0) (k0_off53_eq c 0) _
    (next_forward I c (by decide) rfl rfl) (k0_dev33_eq c) (k0_dev34_eq c) (k0_dev35_eq c) (k0_dev36_eq c)) ?_
  refine andThen (ag_next I κ ιs c (t := 1) (by decide) rfl rfl _ (wait_first _ _ _ false c (by decide)) (k0_off5_eq c 1) (k0_off53_eq c 1) _
    (next_forward I c (by decide) rfl rfl) (k0_dev37_eq c) (k0_dev38_eq c) (k0_dev39_eq c) (k0_dev40_eq c)) ?_
  refine andThen (ag_next I κ ιs c (t := 2) (by decide) rfl rfl _ (wait_sem _ _ _ false c (by decide) (by decide)) (k0_off5_eq c 2) (k0_off53_eq c 2) _
    (next_forward I c (by decide) rfl rfl) (k0_dev41_eq c) (k0_dev42_eq c) (k0_dev43_eq c) (k0_dev44_eq c)) ?_
  refine andThen (ag_next I κ ιs c (t := 3) (by decide) rfl rfl _ (wait_sem _ _ _ false c (by decide) (by decide)) (k0_off5_eq c 3) (k0_off53_eq c 3) _
    (next_forward I c (by decide) rfl rfl) (k0_dev45_eq c) (k0_dev46_eq c) (k0_dev47_eq c) (k0_dev48_eq c)) ?_
  refine andThen (ag_next I κ ιs c (t := 4) (by decide) rfl rfl _ (wait_sem _ _ _ false c (by decide) (by decide)) (k0_off5_eq c 4) (k0_off53_eq c 4) _
    (next_forward I c (by decide) rfl rfl) (k0_dev49_eq c) (k0_dev50_eq c) (k0_dev51_eq c) (k0_dev52_eq c)) ?_
  refine andThen (ag_next I κ ιs c (t := 5) (by decide) rfl rfl _ (wait_sem _ _ _ false c (by decide) (by decide)) (k0_off5_eq c 5) (k0_off53_eq c 5) _
    (next_forward I c (by decide) rfl rfl) (k0_dev53_eq c) (k0_dev54_eq c) (k0_dev55_eq c) (k0_dev56_eq c)) ?_
  refine andThen (ag_next I κ ιs c (t := 6) (by decide) rfl rfl _ (wait_sem _ _ _ false c (by decide) (by decide)) (k0_off5_eq c 6) (k0_off53_eq c 6) _
    (next_last I c) (k0_dev57_eq c) (k0_dev58_eq c) (k0_dev59_eq c) (k0_dev60_eq c)) ?_
  have e1 : (⟨k0_dev61 c, k0_dev61_lt c⟩ : Dev nD) = toD true c := Fin.ext (k0_dev61_eq c)
  have e2 : (⟨k0_dev62 c, k0_dev62_lt c⟩ : Dev nD) = ofD true c := Fin.ext (k0_dev62_eq c)
  rw [e1, e2]
  exact ag_end I κ ιs c (i5 := k0_off5_inb c 7) (k0_off5_eq c 7)

/-! ## The start -/

/-- What a lane starts from. -/
def laneStart (l : Bool) (c : Dev nD) : sProp (MM F) :=
  iprop(posn l c 0 ∗ (bigSep Finset.univ fun b : Fin 2 => reached (ER F) (rCell c l b) 0) ∗ toks l c 0
    ∗ (bigSep (Finset.Ico 0 (nSt l)) fun j => cred (tallyAt (cCell c l) (cIx l j) 1))
    ∗ atPos (ER F) (cCell c l) 0 ∅ 0 ∗ reached (ER F) (cCell c l) 0
    ∗ (bigSep Finset.univ fun b : Fin 2 => readerAt (ES F) (c, l, b) 0) ∗ both (cbM l) c)
/-- What the barrier starts from. -/
def barStart (c : Dev nD) : sProp (MM F) :=
  iprop(dutyTok (ER F) (barCell (lf c)) 0 0 ∗ dutyTok (ER F) (barCell (rt c)) 0 1 ∗ reached (ER F) (barCell (lf c)) 0 ∗ reached (ER F) (barCell (rt c)) 0
    ∗ atPos (ER F) (barCell c) 0 ∅ 0 ∗ cred (tallyAt (barCell c) 1 2))

/-- A device gives its two slots of a lane away for the first two copies. -/
theorem deposit (l : Bool) (c : Dev nD) :
    iprop(Ctx sent κ ιs ∗ (bigSep Finset.univ fun b : Fin 2 => reached (ER F) (rCell c l b) 0)
        ∗ (bigSep Finset.univ fun b : Fin 2 => readerAt (ES F) (c, l, b) 0) ∗ both (cbM l) c)
      ⊢ |={Set.univ}=> rd l c 0 := by
  unfold both rd ready
  rw [show min 0 (nSt l - 2) = 0 by omega, Finset.Ico_eq_empty (show ¬ nSt l - 2 < 0 by omega), fin2, fin2, fin2,
    fin2, fin2, show kb 0 0 = 0 from rfl, show kb 1 0 = 0 from rfl]
  iintro ⟨#HC, ⟨#Hr0, #Hr1⟩, ⟨Ha0, Ha1⟩, Hs0, Hs1⟩
  imod (slot_release (ES F) (S := slotP (c, l, 0)) (Set.mem_univ (ιs (c, l, 0)))
    (by unfold slotP slotAny; exact slot_slot_false ⟨_, (slotOf (cbM l) (0 : Fin 2).1 (0 : Fin 2).2).view.emb_mem_set (fun a => ⟨0, by fin_cases a <;> decide⟩)⟩) 0) $$ [Ha0 Hs0] with ⟨Ha0, #Hl0⟩
  · isplitr; · iapply (Ctx_slot sent κ ιs (c, l, 0)); iexact HC
    isplitl [Ha0]; · iexact Ha0
    unfold slotP; iexact Hs0
  imod (slot_release (ES F) (S := slotP (c, l, 1)) (Set.mem_univ (ιs (c, l, 1)))
    (by unfold slotP slotAny; exact slot_slot_false ⟨_, (slotOf (cbM l) (1 : Fin 2).1 (1 : Fin 2).2).view.emb_mem_set (fun a => ⟨0, by fin_cases a <;> decide⟩)⟩) 0) $$ [Ha1 Hs1] with ⟨Ha1, #Hl1⟩
  · isplitr; · iapply (Ctx_slot sent κ ιs (c, l, 1)); iexact HC
    isplitl [Ha1]; · iexact Ha1
    unfold slotP; iexact Hs1
  imodintro
  isplitl [Ha0 Ha1]; · isplitl [Ha0] <;> iassumption
  isplitr
  · isplitr
    · isplitr; · iexact Hl0
      iexact Hr0
    isplitr; · iexact Hl1
    iexact Hr1
  rw [bigSep_empty]; iempintro

theorem lane_of (l : Bool) (c : Dev nD) :
    iprop(posn l c 0 ∗ toks l c 0 ∗ (bigSep (Finset.Ico 0 (nSt l)) fun j => cred (tallyAt (cCell c l) (cIx l j) 1))
      ∗ atPos (ER F) (cCell c l) 0 ∅ 0 ∗ ready l (toD l c) 0 ∗ reached (ER F) (cCell (ofD l c) l) 0 ∗ rd l c 0) ⊢ lane l c 0 := by
  unfold lane core
  rw [show 0 - 2 = 0 from rfl]
  iintro ⟨Hp, Ht, Hc, Ha, Hr, Hc', Hrd⟩
  isplitl [Hp]; · iexact Hp
  isplitl [Ht]; · iexact Ht
  isplitl [Hc Ha Hr Hc']
  · isplitl [Hc]; · iexact Hc
    isplitl [Ha]
    · iexists ∅
      isplitl [Ha]; · iexact Ha
      unfold heard; rw [bigSep_empty]; iempintro
    isplitl [Hr] <;> iassumption
  iexact Hrd

/-- The buffers of a device that are not slots. -/
def plain (c : Dev nD) : sProp (MM F) :=
  iprop(pt c cc0_stg0_0 (I c).x ∗ pt c cc0_stg1_0 (I c).wq ∗ pt c cc0_stg2_0 (I c).k ∗ pt c cc0_stg3_0 (I c).v ∗ pt c cc0_stg4_0 (I c).wo
    ∗ (∃ f, pt c cc0_scratch4 f) ∗ (∃ f, pt c cc0_scratch5 f))

theorem read_X (f : Vec F S2048x1024 .bf16) :
    mX.view.readAt (Elt F) (Rect.unit (s := S2048x1024) ![0, 0] S2048x1024.size inb_S2048x1024_S2048x1024_0_0).toLoadRect f = f :=
  Memref.readAt_unit_zero (Elt F) cc0_stg0_0 (by funext a; fin_cases a <;> rfl) _ f
theorem read_Wq (f : Vec F S1024x1024 .bf16) :
    mWq.view.readAt (Elt F) (Rect.unit (s := S1024x1024) ![0, 0] S1024x1024.size inb_S1024x1024_S1024x1024_0_0).toLoadRect f = f :=
  Memref.readAt_unit_zero (Elt F) cc0_stg1_0 (by funext a; fin_cases a <;> rfl) _ f
theorem write_Q (f v : Vec F S2048x1024 .bf16) :
    (mQ.access (Rect.unit (s := S2048x1024) ![0, 0] S2048x1024.size inb_S2048x1024_S2048x1024_0_0)).write (Elt F) f v Finset.univ = v :=
  Memref.write_access_unit_zero_univ (Elt F) cc0_scratch5 (by funext a; fin_cases a <;> rfl) _ f v

/-- The wait for both neighbours. -/
theorem bar_wait (c : Dev nD) (K : PUnit → sProp (MM F)) :
    iprop(Ctx sent κ ιs ∗ cred (tallyAt (barCell c) 1 2) ∗ owe c (dueFrom true c 0 + dueFrom false c 0) ∗ atPos (ER F) (barCell c) 0 ∅ 0
        ∗ (atPos (ER F) (barCell c) 1 ∅ 0 ∗ owe c (dueFrom true c 0 + dueFrom false c 0) ∗ barPay true c ∗ barPay false c -∗ K ⟨⟩))
      ⊢ WP c (semWaitWord barS.sem 2#32) K := by
  refine semWait_spec c _ 2 _ rfl K _ ?_
  unfold owe
  iintro ⟨#HC, Hcb, ⟨%W, HO⟩, Hat, HK⟩
  iapply (Rounds.wp_wait_rest_token 𝒱₀ (ER F) (Rd sent) (c : Thread nD τ) none (sm := .reg barS.sem) (κ := κ (barCell c)) (k' := 2)
      (wpE_semWait_eq 𝒱₀ (c : Thread nD τ) none Set.univ) (Set.mem_univ _) 1 (O := dueFrom true c 0 + dueFrom false c 0) (W := W) (R := 0) (m := 0) (T := ∅)
      ((Nat.zero_add _).trans (Rd_expect_bar sent c).symm)) $$ [Hcb HO Hat]
  · isplitr; · iapply (Ctx_bar sent κ ιs c); iexact HC
    isplitl [Hcb]; · iexact Hcb
    isplitl [HO]; · iexact HO
    isplitr
    · iapply (mayWait_of c (.reg barS.sem) (le_refl 1) (by decide) ((Above.dueFrom c (by decide)).add (Above.dueFrom c (by decide))))
      iapply (Ctx_lev sent κ ιs); iexact HC
    iexact Hat
  iintro ⟨HO, Hat, -, Hpay⟩
  rw [wp_ret]; imodintro
  ihave Hpay := (show bigSep ((Rd sent).duties (c, SemLoc.reg barS.sem) 0 \ ∅) (fun d => (Rd sent).payload (c, SemLoc.reg barS.sem) 0 d)
      ⊢ (iprop(barPay true c ∗ barPay false c) : sProp (MM F)) from Entails.of_eq (by
    rw [Finset.sdiff_empty, show (Rd sent).duties (c, SemLoc.reg barS.sem) 0 = {0, 1} from Rd_duties_bar sent c,
      show ({0, 1} : Finset ℕ) = insert 0 {1} from rfl, bigSep_add (by decide), bigSep_singleton]
    exact congrArg₂ (fun a b : sProp (MM F) => iprop(a ∗ b)) (Rd_payload_bar sent c 0 0) (Rd_payload_bar sent c 0 1))) $$ Hpay
  icases Hpay with ⟨Hp1, Hp2⟩
  iapply HK
  isplitl [Hat]; · iexact Hat
  isplitl [HO]; · iexists _; iexact HO
  isplitl [Hp1] <;> iassumption

/-- What the prologue needs of a lane once its slots are given away. -/
theorem prologue_spec (c : Dev nD) {d1 d2 : Dev nD} (e1 : d1.val = (c.val + 15) % 16) (e2 : d2.val = (c.val + 1) % 16) :
    iprop(Ctx (sentOf I) κ ιs ∗ laneStart true c ∗ laneStart false c ∗ barStart c ∗ plain I c ∗ owe c (O₀ c))
      ⊢ WP c (prologue d1 d2) fun _ => iprop(Ctx (sentOf I) κ ιs ∗ lane true c 0 ∗ lane false c 0 ∗ kept I c
          ∗ pt c cc0_stg0_0 (I c).x ∗ pt c cc0_stg1_0 (I c).wq ∗ atPos (ER F) (barCell c) 1 ∅ 0 ∗ owe c (dueFrom true c 0 + dueFrom false c 0)) := by
  obtain rfl : d1 = lf c := Fin.ext e1
  obtain rfl : d2 = rt c := Fin.ext e2
  unfold prologue laneStart barStart plain owe kept held
  iintro ⟨#HC, ⟨Hp, #Hr, Ht, Hc, Ha, #Hcr, Hrd, Hb⟩, ⟨Hp', #Hr', Ht', Hc', Ha', #Hcr', Hrd', Hb'⟩, ⟨Hd0, Hd1, #HrL, #HrR, Hat, Hcb⟩,
    ⟨HX, HWq, HK, HV, HWo, Hx2, ⟨%fq, Hq⟩⟩, ⟨%W, HO⟩⟩
  imod (deposit (sentOf I) κ ιs true c) $$ [Hrd Hb] with Hrd
  · isplitr; · iexact HC
    isplitr; · iexact Hr
    isplitl [Hrd] <;> iassumption
  imod (deposit (sentOf I) κ ιs false c) $$ [Hrd' Hb'] with Hrd'
  · isplitr; · iexact HC
    isplitr; · iexact Hr'
    isplitl [Hrd'] <;> iassumption
  unfold rd
  icases Hrd with ⟨Hrd1, #Hrdy, Hrd3⟩
  icases Hrd' with ⟨Hrd1', #Hrdy', Hrd3'⟩
  iapply (seq c _ _ _)
  iapply (Rounds.wp_signal 𝒱₀ (ER F) (Rd (sentOf I)) (c : Thread nD τ) none (dst := (lf c : Thread nD τ)) (sem := barS.sem) (r := 0) (d := 0) (κ := κ (barCell (lf c)))
      (show 0 ∈ (Rd (sentOf I)).duties (barCell (lf c)) 0 by rw [Rd_duties_bar]; decide)
      (Rd_amount_bar (sentOf I) (lf c) 0 0) 1 (tallyAt (barCell (rt c)) 1 1 + (dueFrom true c 0 + dueFrom false c 0)) (add_comm _ _)) $$ [HO Hd0]
  · isplitr; · iapply (Ctx_bar (sentOf I) κ ιs (lf c)); iexact HC
    isplitl [HO]; · iexact HO
    isplitl [Hd0]; · iexact Hd0
    isplitr
    · iapply (show barPay true (lf c) ⊢ (Rd (sentOf I)).payload ((lf c : Thread nD τ), SemLoc.reg barS.sem) 0 0 from
        Entails.of_eq (Rd_payload_bar (sentOf I) (lf c) 0 0).symm)
      unfold barPay
      rw [show toD true (lf c) = c from toD_ofD true c]
      isplitr; · iexact Hrdy
      iexact Hcr'
    · iexact HrL
  iintro HO
  rw [wp_ret]; imodintro
  iapply (seq c _ _ _)
  iapply (Rounds.wp_signal 𝒱₀ (ER F) (Rd (sentOf I)) (c : Thread nD τ) none (dst := (rt c : Thread nD τ)) (sem := barS.sem) (r := 0) (d := 1) (κ := κ (barCell (rt c)))
      (show 1 ∈ (Rd (sentOf I)).duties (barCell (rt c)) 0 by rw [Rd_duties_bar]; decide)
      (Rd_amount_bar (sentOf I) (rt c) 0 1) 1 (dueFrom true c 0 + dueFrom false c 0) (add_comm _ _)) $$ [HO Hd1]
  · isplitr; · iapply (Ctx_bar (sentOf I) κ ιs (rt c)); iexact HC
    isplitl [HO]; · iexact HO
    isplitl [Hd1]; · iexact Hd1
    isplitr
    · iapply (show barPay false (rt c) ⊢ (Rd (sentOf I)).payload ((rt c : Thread nD τ), SemLoc.reg barS.sem) 0 1 from
        Entails.of_eq (Rd_payload_bar (sentOf I) (rt c) 0 1).symm)
      unfold barPay
      rw [show toD false (rt c) = c from toD_ofD false c]
      isplitr; · iexact Hrdy'
      iexact Hcr
    · iexact HrR
  iintro HO
  rw [wp_ret]; imodintro
  iapply (seq c _ _ _)
  iapply (bar_wait (sentOf I) κ ιs c _)
  isplitr; · iexact HC
  isplitl [Hcb]; · iexact Hcb
  isplitl [HO]; · unfold owe; iexists W; iexact HO
  isplitl [Hat]; · iexact Hat
  unfold barPay owe
  iintro ⟨Hat, ⟨%W', HO⟩, ⟨#Ha1, #Ha2⟩, #Hb1, #Hb2⟩
  iapply (wp_load 𝒱₀ (c : Thread nD τ) none Set.univ (m := mX) (r := (Rect.unit (s := S2048x1024) ![0, 0] S2048x1024.size inb_S2048x1024_S2048x1024_0_0).toLoadRect)
    (S := Finset.univ) (Finset.subset_univ _)) $$ [HX]
  · iexact HX
  iintro HX
  rw [read_X]
  iapply (wp_load 𝒱₀ (c : Thread nD τ) none Set.univ (m := mWq) (r := (Rect.unit (s := S1024x1024) ![0, 0] S1024x1024.size inb_S1024x1024_S1024x1024_0_0).toLoadRect)
    (S := Finset.univ) (Finset.subset_univ _)) $$ [HWq]
  · iexact HWq
  iintro HWq
  rw [read_Wq]
  iapply (wp_load 𝒱₀ (c : Thread nD τ) none Set.univ (m := mQ) (r := (Rect.unit (s := S2048x1024) ![0, 0] S2048x1024.size inb_S2048x1024_S2048x1024_0_0).toLoadRect)
    (S := Finset.univ) (Finset.subset_univ _)) $$ [Hq]
  · iexact Hq
  iintro Hq
  iapply (wp_store 𝒱₀ (c : Thread nD τ) none Set.univ (m := mQ) (r := Rect.unit (s := S2048x1024) ![0, 0] S2048x1024.size inb_S2048x1024_S2048x1024_0_0)
    (S := Finset.univ) (Finset.subset_univ _)) $$ [Hq]
  · iexact Hq
  iintro Hq
  rw [write_Q]
  rw [wp_ret]; imodintro
  isplitr; · iexact HC
  isplitl [Hp Ht Hc Ha Hrd1 Hrd3]
  · iapply (lane_of (F := F) true c)
    unfold rd
    isplitl [Hp]; · iexact Hp
    isplitl [Ht]; · iexact Ht
    isplitl [Hc]; · iexact Hc
    isplitl [Ha]; · iexact Ha
    isplitr; · iexact Ha1
    isplitr; · iexact Hb2
    isplitl [Hrd1]; · iexact Hrd1
    isplitr; · iexact Hrdy
    iexact Hrd3
  isplitl [Hp' Ht' Hc' Ha' Hrd1' Hrd3']
  · iapply (lane_of (F := F) false c)
    unfold rd
    isplitl [Hp']; · iexact Hp'
    isplitl [Ht']; · iexact Ht'
    isplitl [Hc']; · iexact Hc'
    isplitl [Ha']; · iexact Ha'
    isplitr; · iexact Hb1
    isplitr; · iexact Ha2
    isplitl [Hrd1']; · iexact Hrd1'
    isplitr; · iexact Hrdy'
    iexact Hrd3'
  isplitl [HK HV HWo Hx2 Hq]
  · isplitl [Hq]; · iexact Hq
    isplitl [HK]; · iexact HK
    isplitl [HV]; · iexact HV
    isplitl [HWo]; · iexact HWo
    iexact Hx2
  isplitl [HX]; · iexact HX
  isplitl [HWq]; · iexact HWq
  isplitl [Hat]; · iexact Hat
  iexists _; iexact HO

/-! ## The whole body -/

theorem out_any (c : Dev nD) (f : Vec F S16x128x1024 .f32) : pt c cc0_stg5_0 f ⊢ iprop(∃ o, outPts c o) := by
  unfold outPts
  iintro H
  iexists fun k => if h : ∀ a, (![k, 0, 0] : Fin 3 → ℕ) a + S1x128x1024.size a ≤ S16x128x1024.size a then
      (mO.access (Rect.unit (s := S16x128x1024) ![k, 0, 0] S1x128x1024.size h)).read (Elt F) f
    else fun _ => f (ix3 ⟨0, by decide⟩ ⟨0, by decide⟩ ⟨0, by decide⟩), f
  isplitr
  · ipureintro
    intro k inb
    show _ = if h : ∀ a, (![k, 0, 0] : Fin 3 → ℕ) a + S1x128x1024.size a ≤ S16x128x1024.size a then _ else _
    split
    · rfl
    · exact absurd inb ‹_›
  iexact H

/-- Part `k` of the result on device `c`. -/
def finOf (c : Dev nD) (k : ℕ) : Vec F S1x128x1024 .f32 :=
  if (c.val + 16 - k) % 16 = 15 then accOf I c 15
  else if (c.val + 16 - k) % 16 < 8 then widen (sentOf I true (lf c) (15 + (c.val + 16 - k) % 16))
  else widen (sentOf I false (rt c) (14 - (c.val + 16 - k) % 16))
/-- The result on device `c`. -/
def outBuf (c : Dev nD) : Vec F S16x128x1024 .f32 := fun x => finOf I c (x 0).val (ix3 ⟨0, by decide⟩ (x 1) (x 2))

theorem placed_fin (c : Dev nD) {o : ℕ → Vec F S1x128x1024 .f32} (h : Placed I c 8 o) {k : ℕ} (hk : k < 16) : o k = finOf I c k := by
  obtain ⟨h1, h2, h3⟩ := h
  have hc : c.val < 16 := c.isLt
  unfold finOf
  split_ifs with e1 e2
  · rw [← h1]; congr 1; omega
  · rw [← h2 _ e2]; congr 1; omega
  · rw [← h3 _ (by omega) (by omega)]; congr 1; omega

theorem out_all (c : Dev nD) {o : ℕ → Vec F S1x128x1024 .f32} (h : Placed I c 8 o) : outPts c o ⊢ pt c cc0_stg5_0 (outBuf I c) := by
  unfold outPts
  iintro ⟨%f, %hf, H⟩
  have e : f = outBuf I c := by
    funext x
    have h0 : (x 0).val < 16 := (x 0).isLt
    have inb : ∀ a, (![(x 0).val, 0, 0] : Fin 3 → ℕ) a + S1x128x1024.size a ≤ S16x128x1024.size a := by
      intro a; fin_cases a
      · show (x 0).val + 1 ≤ 16; omega
      · show 0 + 128 ≤ 128; omega
      · show 0 + 1024 ≤ 1024; omega
    have := congrFun (hf (x 0).val inb) (ix3 ⟨0, by decide⟩ (x 1) (x 2))
    unfold outBuf
    rw [← placed_fin I c h h0, ← this, View.read_apply]
    refine congrArg f ?_
    funext a
    refine Fin.ext ?_
    fin_cases a
    · show (x 0).val = (x 0).val + 1 * 0; omega
    · show (x 1).val = 0 + 1 * (x 1).val; omega
    · show (x 2).val = 0 + 1 * (x 2).val; omega
  rw [← e]; iexact H

/-- What a device starts the body with. -/
def start (c : Dev nD) : sProp (MM F) :=
  iprop(Ctx (sentOf I) κ ιs ∗ laneStart true c ∗ laneStart false c ∗ barStart c ∗ plain I c ∗ (∃ f, pt c cc0_stg5_0 f)
    ∗ both mS c ∗ both mSL c ∗ owe c (O₀ c))
/-- What a device ends the body with. -/
def final (c : Dev nD) : sProp (MM F) :=
  iprop(laneEnd true c ∗ laneEnd false c ∗ atPos (ER F) (barCell c) 1 ∅ 0 ∗ plain I c ∗ pt c cc0_stg5_0 (outBuf I c)
    ∗ both mS c ∗ both mSL c ∗ owe c 0)

theorem bodyAt_spec (c : Dev nD) : start I κ ιs c ⊢ WP c (bodyAt c) fun _ => final I c := by
  unfold start bodyAt
  iintro ⟨#HC, H1, H2, H3, H4, ⟨%f, Ho⟩, HS, HL, HO⟩
  ihave Ho := (out_any c f) $$ Ho
  icases Ho with ⟨%o, Ho⟩
  iapply (seq c _ _ _)
  iapply (wp_wand frame (wpE (defs₀ (F := F)) 𝒱₀ c none) Set.univ (p := prologue ⟨k0_dev1 c, k0_dev1_lt c⟩ ⟨k0_dev2 c, k0_dev2_lt c⟩)) $$ [H1 H2 H3 H4 HO]
  · iapply (prologue_spec I κ ιs c (k0_dev1_eq c) (k0_dev2_eq c))
    isplitr; · iexact HC
    isplitl [H1]; · iexact H1
    isplitl [H2]; · iexact H2
    isplitl [H3]; · iexact H3
    isplitl [H4] <;> iassumption
  iintro %_ ⟨-, Hr, Hl, Hh, HX, HWq, Hat, HO⟩
  iapply (seq c _ _ _)
  iapply (putChunk_spec I c _ (loop_ok c _ _ (wMy_eq c) _ _ rfl _ _ _ _ _ _ _ (fun t => k0_off1_eq c t) k0_off2_eq k0_off3_eq) (k0_off4_eq c) o _)
  isplitl [Hh]; · iexact Hh
  isplitl [Ho]; · iexact Ho
  iintro ⟨Hh, Ho⟩
  iapply (wp_wand frame (wpE (defs₀ (F := F)) 𝒱₀ c none) Set.univ (Q := fun _ => ended I c)) $$ [Hr Hl Hh Ho HO HS HL]
  · iapply (show rsState I κ ιs c 0 ⊢ WP c (rsSteps c >>= fun _ => middle (k0_off52 c) (k0_off52_inb c) >>= fun _ => agSteps c) (fun _ => ended I c) from
      andThen (rs_all I κ ιs c) (andThen (middle_spec I κ ιs c (k0_off52_eq c)) (ag_all I κ ιs c)))
    unfold rsState
    isplitr; · iexact HC
    isplitl [Hr]; · iexact Hr
    isplitl [Hh]; · iexact Hh
    isplitl [HS]; · iexact HS
    isplitl [Ho]
    · iexists _
      isplitr; rotate_left
      · iexact Ho
      ipureintro
      have hc : c.val < 16 := c.isLt
      rw [show (c.val + 32 - 0) % 16 = c.val by omega, Function.update_self]; rfl
    isplitl [HO]; · iexact HO
    isplitl [Hl]; · iexact Hl
    iexact HL
  unfold ended final plain kept held
  iintro %_ ⟨Hr, Hl, ⟨Hq, HK, HV, HWo, Hx2⟩, HS, HL, ⟨%o', %ho', Ho⟩, HO⟩
  isplitl [Hr]; · iexact Hr
  isplitl [Hl]; · iexact Hl
  isplitl [Hat]; · iexact Hat
  isplitl [HX HWq HK HV HWo Hx2 Hq]
  · isplitl [HX]; · iexact HX
    isplitl [HWq]; · iexact HWq
    isplitl [HK]; · iexact HK
    isplitl [HV]; · iexact HV
    isplitl [HWo]; · iexact HWo
    isplitl [Hx2]; · iexact Hx2
    iexists _; iexact Hq
  isplitl [Ho]; · iapply (out_all I c ho'); iexact Ho
  isplitl [HS]; · iexact HS
  isplitl [HL]; · iexact HL
  iexact HO

/-! ## The semaphores at the end -/

theorem close_lane (l : Bool) (c : Dev nD) : iprop(Ctx sent κ ιs ∗ laneEnd l c)
    ⊢ |={Set.univ}=> (semVal (sCell c l 0) 0 ∗ semVal (sCell c l 1) 0 ∗ semVal (rCell c l 0) 0 ∗ semVal (rCell c l 1) 0 ∗ semVal (cCell c l) 0 ∗ both (cbM l) c) := by
  unfold laneEnd posn
  rw [fin2]
  unfold posAt
  iintro ⟨#HC, ⟨⟨Hs0, -, Hr0⟩, Hs1, -, Hr1⟩, Hc, Hb⟩
  imod (Rounds.cell_close (ER F) (Rd sent) (Set.mem_univ (κ (sCell c l 0))) id (Rd_later_send sent c l 0)) $$ [Hs0] with Hs0
  · isplitr; · iapply (Ctx_sc sent κ ιs c (.send l 0)); iexact HC
    iexact Hs0
  imod (Rounds.cell_close (ER F) (Rd sent) (Set.mem_univ (κ (sCell c l 1))) id (Rd_later_send sent c l 1)) $$ [Hs1] with Hs1
  · isplitr; · iapply (Ctx_sc sent κ ιs c (.send l 1)); iexact HC
    iexact Hs1
  imod (Rounds.cell_close (ER F) (Rd sent) (Set.mem_univ (κ (rCell c l 0))) id (Rd_later_recv sent c l 0)) $$ [Hr0] with Hr0
  · isplitr; · iapply (Ctx_sc sent κ ιs c (.recv l 0)); iexact HC
    iexact Hr0
  imod (Rounds.cell_close (ER F) (Rd sent) (Set.mem_univ (κ (rCell c l 1))) id (Rd_later_recv sent c l 1)) $$ [Hr1] with Hr1
  · isplitr; · iapply (Ctx_sc sent κ ιs c (.recv l 1)); iexact HC
    iexact Hr1
  imod (Rounds.cell_close (ER F) (Rd sent) (Set.mem_univ (κ (cCell c l))) id (Rd_later_cred sent c l)) $$ [Hc] with Hc
  · isplitr; · iapply (Ctx_sc sent κ ιs c (.cred l)); iexact HC
    iexact Hc
  imodintro
  isplitl [Hs0]; · iexact Hs0
  isplitl [Hs1]; · iexact Hs1
  isplitl [Hr0]; · iexact Hr0
  isplitl [Hr1]; · iexact Hr1
  isplitl [Hc]; · iexact Hc
  iexact Hb

end Cert.KernelIdeal.My

end
-- ==== Proof.My.Deal.lean ====
/- The launch: the cells and the slots allocated, the tokens and the credits dealt around the ring. -/
module

public import proofs.«01_k».proof.Proof.My.Run
public import proofs.«01_k».proof.Proof.Gen.KernelIdeal.Regions
public import Idealize.ShloMosaic.Lib.Pipeline.RegionTalk

@[expose] public section

set_option maxRecDepth 10000

noncomputable section

namespace Cert.KernelIdeal.My

open Idealize.ShloMosaic Idealize.SL Idealize.SL.RA Idealize.SL.BI Idealize.SL.Sem Idealize.SL.ProofMode Cert.KernelIdeal Cert.KernelIdeal.Gen
open Idealize.ShloMosaic.TcCoe
open Idealize.ShloMosaic.Rounds Idealize.ShloMosaic.Release
open scoped Idealize.SL.BI
open Idealize.SL.BI.BIBase Idealize.SL.BI.Laws

variable {F : FTy → Type} [FloatOps F]
variable (sent : Bool → Dev nD → ℕ → Vec F S1x128x1024 .bf16)
variable (κ : GSem nD τ sig → ℕ) (ιs : Key → ℕ)

/-! ## The credits -/

/-- What the others owe a device on one lane. -/
def mineLane (l : Bool) (c : Dev nD) : OO :=
  ∑ s ∈ Finset.Ico 0 (nSt l), (tallyAt (rCell c l (sb s)) (rIx l s) NN + tallyAt (cCell c l) (cIx l s) 1)
/-- What the others owe a device. -/
def mineAll (c : Dev nD) : OO := tallyAt (barCell c) 1 2 + (mineLane true c + mineLane false c)

theorem sum_due (l : Bool) : ∑ d : Dev nD, dueFrom l d 0 = ∑ c : Dev nD, mineLane l c := by
  unfold dueFrom mineLane
  rw [Finset.sum_comm, Finset.sum_comm (s := (Finset.univ : Finset (Dev nD)))]
  refine Finset.sum_congr rfl fun s _ => ?_
  rw [Finset.sum_add_distrib, Finset.sum_add_distrib]
  congr 1
  · exact Equiv.sum_comp (ringE l) fun c => (tallyAt (rCell c l (sb s)) (rIx l s) NN : OO)
  · exact Equiv.sum_comp (ringE l).symm fun c => (tallyAt (cCell c l) (cIx l s) 1 : OO)

theorem sum_owed : ∑ d : Dev nD, O₀ d = ∑ c : Dev nD, mineAll c := by
  unfold O₀ mineAll
  rw [Finset.sum_add_distrib, Finset.sum_add_distrib, Finset.sum_add_distrib, Finset.sum_add_distrib, Finset.sum_add_distrib, sum_due, sum_due,
    ← add_assoc]
  congr 1
  rw [show (∑ d : Dev nD, (tallyAt (barCell (lf d)) 1 1 : OO)) = ∑ c : Dev nD, tallyAt (barCell c) 1 1 from
      Equiv.sum_comp (ringE false) fun c => (tallyAt (barCell c) 1 1 : OO),
    show (∑ d : Dev nD, (tallyAt (barCell (rt d)) 1 1 : OO)) = ∑ c : Dev nD, tallyAt (barCell c) 1 1 from
      Equiv.sum_comp (ringE true) fun c => (tallyAt (barCell c) 1 1 : OO), ← Finset.sum_add_distrib]
  exact Finset.sum_congr rfl fun c _ => tallyAt_add _ _ 1 1

theorem cell_ne {c : Dev nD} {sm : SemLoc sig} {g : GSem nD τ sig} (h : g.1 ≠ (c : Thread nD τ)) : g ≠ ((c : Thread nD τ), sm) :=
  fun e => h (congrArg Prod.fst e)
theorem mineLane_ne (l : Bool) {c : Dev nD} {g : GSem nD τ sig} (h : g.1 ≠ (c : Thread nD τ)) : mineLane l c g = 0 := by
  unfold mineLane
  rw [Finset.sum_apply]
  refine Finset.sum_eq_zero fun s _ => ?_
  rw [Pi.add_apply, tallyAt_ne_cell (cell_ne h), tallyAt_ne_cell (cell_ne h), add_zero]
theorem mineAll_ne {c : Dev nD} {g : GSem nD τ sig} (h : g.1 ≠ (c : Thread nD τ)) : mineAll c g = 0 := by
  unfold mineAll
  rw [Pi.add_apply, Pi.add_apply, mineLane_ne _ h, mineLane_ne _ h, tallyAt_ne_cell (cell_ne h), add_zero, add_zero]

theorem launched (c : Dev nD) (sm : SemLoc sig) :
    launchCredit (Pipeline.owing O₀) 0 ((c : Thread nD τ), sm) = mineAll c ((c : Thread nD τ), sm) := by
  have h : launchCredit (Pipeline.owing O₀) 0 ((c : Thread nD τ), sm) = (∑ d : Dev nD, O₀ d) ((c : Thread nD τ), sm) :=
    Finsupp.ext fun i => by
      rw [Pipeline.launchCredit_owing, Finset.sum_apply, Finsupp.finset_sum_apply]
  rw [h, sum_owed, Finset.sum_apply]
  exact Finset.sum_eq_single c (fun d _ hd => mineAll_ne fun e => hd (congrArg Prod.fst e).symm) fun h => absurd (Finset.mem_univ c) h

theorem credits_all (c : Dev nD) : (Pipeline.launchCred O₀ c : sProp (MM F)) ⊢ cred (mineAll c) := by
  rw [cred_cells (mineAll c), bigSep_univ_prod, bigSep_univ_at _ (c : Thread nD τ)]
  have hrest : (bigSep (Finset.univ.erase (c : Thread nD τ)) fun t : Thread nD τ =>
      bigSep Finset.univ fun sm : SemLoc sig => (cred (tallyOn (t, sm) (mineAll c (t, sm))) : sProp (MM F))) = BI.emp := by
    rw [bigSep_congr (Ψ := fun _ => (BI.emp : sProp (MM F))) fun t ht => ?_, BI.bigSep_emp_const]
    rw [bigSep_congr (Ψ := fun _ => (BI.emp : sProp (MM F))) fun sm _ => ?_, BI.bigSep_emp_const]
    rw [mineAll_ne (g := (t, sm)) (Finset.ne_of_mem_erase ht)]
    rw [show (tallyOn (t, sm) 0 : OO) = 0 from Pi.single_zero _, cred_zero]; rfl
  rw [hrest]
  unfold Pipeline.launchCred
  rw [bigSep_congr fun sm _ => congrArg (fun T => (cred (tallyOn ((c : Thread nD τ), sm) T) : sProp (MM F))) (launched c sm)]
  iintro H
  isplitl [H]; · iexact H
  iempintro

theorem cred_set {J : Type} [DecidableEq J] (S : Finset J) (f : J → OO) : (cred (∑ j ∈ S, f j) : sProp (MM F)) ⊢ bigSep S fun j => cred (f j) := by
  induction S using Finset.induction_on with
  | empty => rw [bigSep_empty]; iintro -; iempintro
  | insert j S hj ih =>
    rw [Finset.sum_insert hj, bigSep_add hj]
    exact (cred_add _ _).1.trans (sep_mono .rfl ih)

/-- A lane's share of the credits. -/
def laneCred (l : Bool) (c : Dev nD) : sProp (MM F) :=
  iprop((bigSep (Finset.Ico 0 (nSt l)) fun s => cred (tallyAt (rCell c l (sb s)) (rIx l s) NN))
    ∗ bigSep (Finset.Ico 0 (nSt l)) fun s => cred (tallyAt (cCell c l) (cIx l s) 1))
theorem lane_cred (l : Bool) (c : Dev nD) : cred (mineLane l c) ⊢ laneCred (F := F) l c := by
  unfold mineLane laneCred
  rw [← bigSep_sep']
  exact (cred_set _ _).trans (bigSep_mono fun s _ => (cred_add _ _).1)
theorem credits (c : Dev nD) : (Pipeline.launchCred O₀ c : sProp (MM F))
    ⊢ iprop(cred (tallyAt (barCell c) 1 2) ∗ laneCred true c ∗ laneCred false c) :=
  (credits_all c).trans <| (cred_add _ _).1.trans <| BI.sep_mono (BI.Entails.refl _) <| (cred_add _ _).1.trans <| BI.sep_mono (lane_cred true c) (lane_cred false c)

/-! ## The tokens -/

abbrev TIx : Type := Dev nD × Bool × Fin 23 × Fin 4
/-- Which duty a token is for, the device apart. -/
def tokAt : Bool × Fin 23 × Fin 4 → SemLoc sig × ℕ × ℕ
  | (l, s, 0) => (scLoc (.send l (sb s)), s.val / 2, 0)
  | (l, s, 1) => (scLoc (.recv l (sb s)), s.val / 2, 0)
  | (l, s, 2) => (scLoc (.cred l), 0, s)
  | (l, s, _) => (.reg barS.sem, 0, 2 * s.val + (bif l then 1 else 0))
theorem tokAt_inj : Function.Injective tokAt := by
  unfold Function.Injective; decide +kernel
def tokEmb : TIx ↪ GSem nD τ sig × ℕ × ℕ :=
  ⟨fun x => (((x.1 : Thread nD τ), (tokAt x.2).1), (tokAt x.2).2), fun x y h =>
    Prod.ext (congrArg (fun t : GSem nD τ sig × ℕ × ℕ => t.1.1.1) h)
      (tokAt_inj (Prod.ext (congrArg (fun t : GSem nD τ sig × ℕ × ℕ => t.1.2) h) (congrArg (fun t : GSem nD τ sig × ℕ × ℕ => t.2) h)))⟩
/-- Every token. -/
def allToks : Finset (GSem nD τ sig × ℕ × ℕ) := Finset.univ.map tokEmb

/-- Whose duty a device holds. -/
def shift (l : Bool) : Fin 4 → Dev nD ≃ Dev nD
  | 0 => Equiv.refl _
  | 2 => (ringE l).symm
  | _ => ringE l
def around : TIx ≃ TIx :=
  ⟨fun x => (shift x.2.1 x.2.2.2 x.1, x.2), fun x => ((shift x.2.1 x.2.2.2).symm x.1, x.2),
    fun x => by simp, fun x => by simp⟩

theorem bigSep_two (Φ : Bool → sProp (MM F)) : bigSep Finset.univ Φ = iprop(Φ true ∗ Φ false) := by
  rw [show (Finset.univ : Finset Bool) = {true, false} from by decide, bigSep_insert (by decide), bigSep_singleton]; rfl
theorem bigSep_four (Φ : Fin 4 → sProp (MM F)) : bigSep Finset.univ Φ = iprop(Φ 0 ∗ Φ 1 ∗ Φ 2 ∗ Φ 3) :=
  bigSep_univ_eq_bigSepL [(0 : Fin 4), 1, 2, 3] (by decide) (by decide) Φ

/-- Steps counted in `Fin 23`, as numbers. -/
theorem steps_of (l : Bool) (Φ : ℕ → sProp (MM F)) : (bigSep Finset.univ fun s : Fin 23 => Φ s.val) ⊢ bigSep (Finset.Ico 0 (nSt l)) Φ := by
  refine BIBase.Entails.trans (Entails.of_eq (bigSep_map (s := (Finset.univ : Finset (Fin 23))) Fin.valEmbedding (Φ := Φ)).symm) ?_
  exact bigSep_subset fun x hx => Finset.mem_map.mpr ⟨⟨x, by
    have := (Finset.mem_Ico.mp hx).2; revert this; cases l <;> simp [nSt] <;> omega⟩, Finset.mem_univ _, rfl⟩

/-- The tokens of a lane that a device holds. -/
def laneDuty (l : Bool) (c : Dev nD) : sProp (MM F) :=
  iprop((bigSep (Finset.Ico 0 (nSt l)) fun s => dutyTok (ER F) (sCell c l (sb s)) (s / 2) 0)
    ∗ (bigSep (Finset.Ico 0 (nSt l)) fun s => dutyTok (ER F) (rCell (toD l c) l (sb s)) (s / 2) 0)
    ∗ bigSep (Finset.Ico 0 (nSt l)) fun s => dutyTok (ER F) (cCell (ofD l c) l) 0 s)

theorem lane_duty (l : Bool) (c : Dev nD) :
    (bigSep Finset.univ fun s : Fin 23 => bigSep Finset.univ fun k : Fin 4 =>
        (dutyTok (ER F) (tokEmb (around (c, l, s, k))).1 (tokEmb (around (c, l, s, k))).2.1 (tokEmb (around (c, l, s, k))).2.2 : sProp (MM F)))
      ⊢ iprop(laneDuty l c ∗ dutyTok (ER F) (barCell (toD l c)) 0 (bif l then 1 else 0)) := by
  have e0 (s : Fin 23) : (dutyTok (ER F) (tokEmb (around (c, l, s, 0))).1 (tokEmb (around (c, l, s, 0))).2.1 (tokEmb (around (c, l, s, 0))).2.2 : sProp (MM F))
      = dutyTok (ER F) (sCell c l (sb s.val)) (s.val / 2) 0 := rfl
  have e1 (s : Fin 23) : (dutyTok (ER F) (tokEmb (around (c, l, s, 1))).1 (tokEmb (around (c, l, s, 1))).2.1 (tokEmb (around (c, l, s, 1))).2.2 : sProp (MM F))
      = dutyTok (ER F) (rCell (toD l c) l (sb s.val)) (s.val / 2) 0 := rfl
  have e2 (s : Fin 23) : (dutyTok (ER F) (tokEmb (around (c, l, s, 2))).1 (tokEmb (around (c, l, s, 2))).2.1 (tokEmb (around (c, l, s, 2))).2.2 : sProp (MM F))
      = dutyTok (ER F) (cCell (ofD l c) l) 0 s.val := rfl
  have e3 (s : Fin 23) : (dutyTok (ER F) (tokEmb (around (c, l, s, 3))).1 (tokEmb (around (c, l, s, 3))).2.1 (tokEmb (around (c, l, s, 3))).2.2 : sProp (MM F))
      = dutyTok (ER F) (barCell (toD l c)) 0 (2 * s.val + (bif l then 1 else 0)) := rfl
  rw [bigSep_congr fun s _ => bigSep_four _]
  simp only [e0, e1, e2, e3]
  rw [bigSep_sep', bigSep_sep', bigSep_sep']
  unfold laneDuty
  have h3 : (bigSep Finset.univ fun s : Fin 23 => (dutyTok (ER F) (barCell (toD l c)) 0 (2 * s.val + (bif l then 1 else 0)) : sProp (MM F)))
      ⊢ dutyTok (ER F) (barCell (toD l c)) 0 (bif l then 1 else 0) :=
    BIBase.Entails.trans (bigSep_elim (i := (0 : Fin 23)) (Finset.mem_univ _))
      (Entails.of_eq (by rw [show 2 * ((0 : Fin 23)).val + (bif l then 1 else 0) = (bif l then 1 else 0) from Nat.zero_add _]))
  iintro ⟨H0, H1, H2, H3⟩
  isplitr [H3]
  · isplitl [H0]
    · iapply (steps_of l fun s => dutyTok (ER F) (sCell c l (sb s)) (s / 2) 0) $$ H0
    isplitl [H1]
    · iapply (steps_of l fun s => dutyTok (ER F) (rCell (toD l c) l (sb s)) (s / 2) 0) $$ H1
    iapply (steps_of l fun s => dutyTok (ER F) (cCell (ofD l c) l) 0 s) $$ H2
  · iapply h3 $$ H3

/-- The tokens dealt. -/
theorem duties_dealt : bigSep allToks (fun x => (dutyTok (ER F) x.1 x.2.1 x.2.2 : sProp (MM F)))
    ⊢ bigSep Finset.univ fun c : Dev nD => iprop((laneDuty true c ∗ dutyTok (ER F) (barCell (rt c)) 0 1) ∗ (laneDuty false c ∗ dutyTok (ER F) (barCell (lf c)) 0 0)) := by
  unfold allToks
  rw [bigSep_map, bigSep_univ_equiv around, bigSep_univ_prod]
  refine bigSep_mono fun c _ => ?_
  rw [bigSep_univ_prod, bigSep_two, bigSep_univ_prod, bigSep_univ_prod]
  exact BI.sep_mono (lane_duty true c) (lane_duty false c)

/-! ## The slots' writers -/

def wrEmb : Dev nD × Bool × Fin 23 ↪ Key × ℕ :=
  ⟨fun x => ((toD x.2.1 x.1, x.2.1, sb x.2.2), x.2.2.val / 2), fun ⟨c, l, s⟩ ⟨c', l', s'⟩ h => by
    have h1 : toD l c = toD l' c' := congrArg (fun t : Key × ℕ => t.1.1) h
    have h2 : l = l' := congrArg (fun t : Key × ℕ => t.1.2.1) h
    have h3 : sb s = sb s' := congrArg (fun t : Key × ℕ => t.1.2.2) h
    have h4 : s.val / 2 = s'.val / 2 := congrArg (fun t : Key × ℕ => t.2) h
    subst h2
    have hs : s = s' := Fin.ext (by have := two_half_sb s.val; have := two_half_sb s'.val; rw [h3, h4] at *; omega)
    rw [(ringE l).injective h1, hs]⟩

def laneWrite (l : Bool) (c : Dev nD) : sProp (MM F) :=
  bigSep (Finset.Ico 0 (nSt l)) fun s => writeTok (ES F) (toD l c, l, sb s) (s / 2 + 1)

theorem writers_dealt : bigSep ((Finset.univ : Finset Key) ×ˢ Finset.range 12) (fun x => (writeTok (ES F) x.1 (x.2 + 1) : sProp (MM F)))
    ⊢ bigSep Finset.univ fun c : Dev nD => iprop(laneWrite true c ∗ laneWrite false c) := by
  refine BIBase.Entails.trans (bigSep_subset (t := Finset.univ.map wrEmb) fun x hx => ?_) ?_
  · obtain ⟨⟨c, l, s⟩, -, rfl⟩ := Finset.mem_map.mp hx
    exact Finset.mem_product.mpr ⟨Finset.mem_univ _, Finset.mem_range.mpr (show s.val / 2 < 12 by have := s.isLt; omega)⟩
  rw [bigSep_map, bigSep_univ_prod]
  refine bigSep_mono fun c _ => ?_
  rw [bigSep_univ_prod, bigSep_two]
  exact BI.sep_mono (steps_of true fun s => writeTok (ES F) (toD true c, true, sb s) (s / 2 + 1))
    (steps_of false fun s => writeTok (ES F) (toD false c, false, sb s) (s / 2 + 1))

/-! ## What a device is dealt -/

def laneReaders (l : Bool) (c : Dev nD) : sProp (MM F) := bigSep Finset.univ fun b : Fin 2 => readerAt (ES F) (c, l, b) 0
/-- One lane's part of what a device is dealt. -/
def laneGiven (l : Bool) (c : Dev nD) : sProp (MM F) :=
  iprop(toks l c 0 ∗ (bigSep (Finset.Ico 0 (nSt l)) fun j => cred (tallyAt (cCell c l) (cIx l j) 1)) ∗ laneReaders l c)
theorem lane_given (l : Bool) (c : Dev nD) :
    iprop(laneDuty l c ∗ laneWrite l c ∗ laneCred l c ∗ laneReaders l c) ⊢ laneGiven (F := F) l c := by
  unfold laneGiven toks tok laneDuty laneWrite laneCred
  rw [bigSep_sep', bigSep_sep', bigSep_sep', bigSep_sep']
  iintro ⟨⟨H1, H2, H3⟩, H4, ⟨H5, H6⟩, H7⟩
  isplitl [H1 H2 H3 H4 H5]
  · isplitl [H1]; · iexact H1
    isplitl [H2]; · iexact H2
    isplitl [H4]; · iexact H4
    isplitl [H3]; · iexact H3
    iexact H5
  isplitl [H6]; · iexact H6
  iexact H7

/-- What a device carries from the launch to the kernel. -/
def Tk (c : Dev nD) : sProp (MM F) :=
  iprop(∃ κ ιs, Ctx sent κ ιs ∗ (bigSep Finset.univ fun x : Sc => openTok (ER F) (scCell c x))
    ∗ laneGiven true c ∗ laneGiven false c ∗ barStart c)
/-- A lane once its cells are open. -/
def laneOpen (l : Bool) (c : Dev nD) : sProp (MM F) :=
  iprop(posn l c 0 ∗ (bigSep Finset.univ fun b : Fin 2 => reached (ER F) (rCell c l b) 0) ∗ atPos (ER F) (cCell c l) 0 ∅ 0
    ∗ reached (ER F) (cCell c l) 0 ∗ laneGiven l c)
/-- What a device enters the kernel with. -/
def Xk (c : Dev nD) : sProp (MM F) :=
  iprop(∃ κ ιs, Ctx sent κ ιs ∗ laneOpen true c ∗ laneOpen false c ∗ barStart c)

theorem bigSep_Sc (Φ : Sc → sProp (MM F)) : bigSep Finset.univ Φ
    = iprop(Φ (.send true 0) ∗ Φ (.send true 1) ∗ Φ (.send false 0) ∗ Φ (.send false 1) ∗ Φ (.recv true 0) ∗ Φ (.recv true 1)
      ∗ Φ (.recv false 0) ∗ Φ (.recv false 1) ∗ Φ (.cred true) ∗ Φ (.cred false)) :=
  bigSep_univ_eq_bigSepL [Sc.send true 0, Sc.send true 1, Sc.send false 0, Sc.send false 1, Sc.recv true 0, Sc.recv true 1, Sc.recv false 0, Sc.recv false 1, Sc.cred true, Sc.cred false]
    (by decide) (by decide) Φ

theorem open_one (c : Dev nD) (x : Sc) : iprop(Ctx sent κ ιs ∗ openTok (ER F) (scCell c x) ∗ semVal (scCell c x) 0)
    ⊢ (|={Set.univ}=> (atPos (ER F) (scCell c x) 0 ∅ 0 ∗ reached (ER F) (scCell c x) 0) : sProp (MM F)) := by
  iintro ⟨#HC, Ho, Hv⟩
  iapply (Rounds.cell_open (ER F) (Rd sent) (g := scCell c x) (Set.mem_univ (κ (scCell c x))))
  isplitr; · iapply (Ctx_sc sent κ ιs c x); iexact HC
  isplitl [Ho] <;> iassumption

theorem open_all (c : Dev nD) :
    iprop(Ctx sent κ ιs ∗ (bigSep Finset.univ fun x : Sc => openTok (ER F) (scCell c x)) ∗ Pipeline.ownSems0 scLoc c)
      ⊢ (|={Set.univ}=> bigSep Finset.univ fun x : Sc => iprop(atPos (ER F) (scCell c x) 0 ∅ 0 ∗ reached (ER F) (scCell c x) 0) : sProp (MM F)) := by
  refine BIBase.Entails.trans ?_ (bigSep_fupd Finset.univ _)
  unfold Pipeline.ownSems0
  iintro ⟨#HC, H⟩
  iapply (bigSep_with_persistent (R := Ctx sent κ ιs)
    (Φ := fun x : Sc => iprop(openTok (ER F) (scCell c x) ∗ semVal (scCell c x) 0)) fun x _ => open_one sent κ ιs c x)
  isplitr; · iexact HC
  rw [bigSep_sep']
  iexact H

theorem hopen (c : Dev nD) : iprop(Tk sent c ∗ Pipeline.ownSems0 scLoc c ∗ levAts LL lvv) ⊢ (|={Set.univ}=> Xk sent c : sProp (MM F)) := by
  unfold Tk Xk
  iintro ⟨⟨%κ, %ιs, #HC, Ho, Hr, Hl, Hb⟩, Hs, -⟩
  imod (open_all sent κ ιs c) $$ [Ho Hs] with H
  · isplitr; · iexact HC
    isplitl [Ho] <;> iassumption
  ihave H := (Entails.of_eq (bigSep_Sc fun x : Sc => iprop(atPos (ER F) (scCell c x) 0 ∅ 0 ∗ reached (ER F) (scCell c x) 0))) $$ H
  icases H with ⟨⟨S0, #s0⟩, ⟨S1, #s1⟩, ⟨S2, #s2⟩, ⟨S3, #s3⟩, ⟨R0, #r0⟩, ⟨R1, #r1⟩, ⟨R2, #r2⟩, ⟨R3, #r3⟩, ⟨C0, #c0⟩, C1, #c1⟩
  imodintro
  iexists κ, ιs
  isplitr; · iexact HC
  unfold laneOpen posn
  rw [fin2, fin2, fin2, fin2]
  unfold posAt
  isplitl [S0 S1 R0 R1 C0 Hr]
  · isplitl [S0 S1 R0 R1]
    · isplitl [S0 R0]
      · isplitl [S0]; · iexact S0
        isplitr; · iexact s0
        iexact R0
      · isplitl [S1]; · iexact S1
        isplitr; · iexact s1
        iexact R1
    isplitr
    · isplitr; · iexact r0
      iexact r1
    isplitl [C0]; · iexact C0
    isplitr; · iexact c0
    iexact Hr
  isplitl [S2 S3 R2 R3 C1 Hl]
  · isplitl [S2 S3 R2 R3]
    · isplitl [S2 R2]
      · isplitl [S2]; · iexact S2
        isplitr; · iexact s2
        iexact R2
      · isplitl [S3]; · iexact S3
        isplitr; · iexact s3
        iexact R3
    isplitr
    · isplitr; · iexact r2
      iexact r3
    isplitl [C1]; · iexact C1
    isplitr; · iexact c1
    iexact Hl
  iexact Hb

/-! ## The launch itself -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact scLoc_ne_bar ck.2 (congrArg Prod.snd h)

/-- The protocol's launch element. -/
def uT : UT := (launchOf barCells scCells allToks, initSlots Finset.univ 12)

/-- All of it kept at one device until the launch is dealt. -/
def park (X : sProp (MM F)) (c : Dev nD) : sProp (MM F) := if c = 0 then X else iprop(emp)
theorem bigSep_park (X : sProp (MM F)) : bigSep Finset.univ (park X) = X := by
  rw [bigSep_univ_at _ (0 : Dev nD), bigSep_congr (s := Finset.univ.erase (0 : Dev nD)) (Ψ := fun _ => (BI.emp : sProp (MM F)))
      fun c hc => by unfold park; rw [if_neg (Finset.ne_of_mem_erase hc)]; rfl, BI.bigSep_emp_const]
  unfold park; rw [if_pos rfl]
  exact BI.equiv_iff.mp sep_emp
def G : Dev nD → sProp (MM F) := park (BI.own ((embR : Emb UT (MM F)) uT))

theorem unscoped_sems (c : Dev nD) : (unscopedSems0 c : sProp (MM F)) = semVal (barCell c) 0 := by
  unfold unscopedSems0
  rw [show (Finset.univ.filter fun sm : SemLoc sig => ¬ sm.isScoped .tc) = {SemLoc.reg barS.sem} from by decide, bigSep_singleton]

/-- What a device holds before the kernel beside its buffers. -/
def E0 (c : Dev nD) : sProp (MM F) := iprop(Tk sent c ∗ (∃ r, prngReg c r) ∗ ∃ W, owes (c : Thread nD τ) (O₀ c) W)

/-- What is dealt that is one device's alone. -/
def dealt (c : Dev nD) : sProp (MM F) :=
  iprop((atPos (ER F) (barCell c) 0 ∅ 0 ∗ bigSep Finset.univ fun x : Sc => openTok (ER F) (scCell c x))
    ∗ ((laneDuty true c ∗ dutyTok (ER F) (barCell (rt c)) 0 1) ∗ (laneDuty false c ∗ dutyTok (ER F) (barCell (lf c)) 0 0))
    ∗ (laneWrite true c ∗ laneWrite false c) ∗ (laneReaders true c ∗ laneReaders false c))
/-- What a device has at the launch that is not dealt. -/
def own1 (c : Dev nD) : sProp (MM F) :=
  iprop((cred (tallyAt (barCell c) 1 2) ∗ laneCred true c ∗ laneCred false c) ∗ owes (c : Thread nD τ) (O₀ c) ∅ ∗ ∃ r, prngReg c r)

theorem reached_at (c : Dev nD) : (bigSep barCells fun g => (reached (ER F) g 0 : sProp (MM F))) ⊢ reached (ER F) (barCell c) 0 :=
  bigSep_elim (Finset.mem_map_of_mem barEmb (Finset.mem_univ c))

theorem E0_intro (c : Dev nD) :
    iprop((Ctx sent κ ιs ∗ bigSep barCells fun g => reached (ER F) g 0) ∗ (dealt c ∗ own1 c)) ⊢ E0 sent c := by
  unfold dealt own1 E0 Tk barStart
  iintro ⟨⟨#HC, #HR⟩, ⟨⟨Hat, Ho⟩, ⟨⟨Hd, Hb1⟩, Hd', Hb0⟩, ⟨Hw, Hw'⟩, Hr, Hr'⟩, ⟨Hcb, Hc, Hc'⟩, HO, Hp⟩
  isplitr [HO Hp]
  · iexists κ, ιs
    isplitr; · iexact HC
    isplitl [Ho]; · iexact Ho
    isplitl [Hd Hw Hc Hr]
    · iapply (lane_given true c)
      isplitl [Hd]; · iexact Hd
      isplitl [Hw]; · iexact Hw
      isplitl [Hc] <;> iassumption
    isplitl [Hd' Hw' Hc' Hr']
    · iapply (lane_given false c)
      isplitl [Hd']; · iexact Hd'
      isplitl [Hw']; · iexact Hw'
      isplitl [Hc'] <;> iassumption
    isplitl [Hb0]; · iexact Hb0
    isplitl [Hb1]; · iexact Hb1
    isplitr; · iapply (reached_at (lf c)); iexact HR
    isplitr; · iapply (reached_at (rt c)); iexact HR
    isplitl [Hat] <;> iassumption
  isplitl [Hp]; · iexact Hp
  iexists ∅; iexact HO

theorem readers_dealt : bigSep (Finset.univ : Finset Key) (fun k => (readerAt (ES F) k 0 : sProp (MM F)))
    ⊢ bigSep Finset.univ fun c : Dev nD => iprop(laneReaders true c ∗ laneReaders false c) := by
  rw [bigSep_univ_prod]
  refine bigSep_mono fun c _ => ?_
  rw [bigSep_univ_prod, bigSep_two]
  unfold laneReaders
  exact BI.Entails.refl _

variable (ρ : Dev nD → PrngReg)

theorem joinSep (A B : Dev nD → sProp (MM F)) : iprop(bigSep Finset.univ A ∗ bigSep Finset.univ B) ⊢ bigSep Finset.univ fun c => iprop(A c ∗ B c) :=
  Entails.of_eq (bigSep_sep' _ A B).symm
theorem partSep (A B : Dev nD → sProp (MM F)) : (bigSep Finset.univ fun c => iprop(A c ∗ B c)) ⊢ iprop(bigSep Finset.univ A ∗ bigSep Finset.univ B) :=
  Entails.of_eq (bigSep_sep' _ A B)

set_option maxHeartbeats 1000000 in
theorem launch_E0 :
    iprop((bigSep Finset.univ fun c : Dev nD => iprop(unscopedSems0 c ∗ owes (c : Thread nD τ) (O₀ c) ∅ ∗ Pipeline.launchCred O₀ c ∗ prngReg c (ρ c) ∗ G c)) ∗ levAts LL lvv)
      ⊢ (|={Set.univ}=> bigSep Finset.univ (E0 sent) : sProp (MM F)) := by
  have hcore (c : Dev nD) : iprop(unscopedSems0 c ∗ owes (c : Thread nD τ) (O₀ c) ∅ ∗ Pipeline.launchCred O₀ c ∗ prngReg c (ρ c) ∗ G c)
      ⊢ (iprop(own1 c ∗ (semVal (barCell c) 0 ∗ G c)) : sProp (MM F)) := by
    rw [unscoped_sems]
    unfold own1
    iintro ⟨Hus, HO, Hcr, Hp, HG⟩
    ihave Hc := (credits (F := F) c) $$ Hcr
    isplitr [Hus HG]
    · isplitl [Hc]; · iexact Hc
      isplitl [HO]; · iexact HO
      iexists (ρ c); iexact Hp
    isplitl [Hus] <;> iassumption
  have hv : bigSep Finset.univ (fun c : Dev nD => (semVal (barCell c) 0 : sProp (MM F))) ⊢ bigSep barCells (fun g => (semVal g 0 : sProp (MM F))) :=
    Entails.of_eq (bigSep_map (s := Finset.univ) barEmb (Φ := fun g : GSem nD τ sig => (semVal g 0 : sProp (MM F)))).symm
  have hat : bigSep barCells (fun g => (atPos (ER F) g 0 ∅ 0 : sProp (MM F))) ⊢ bigSep Finset.univ (fun c : Dev nD => (atPos (ER F) (barCell c) 0 ∅ 0 : sProp (MM F))) :=
    Entails.of_eq (bigSep_map (s := Finset.univ) barEmb (Φ := fun g : GSem nD τ sig => (atPos (ER F) g 0 ∅ 0 : sProp (MM F))))
  have hop : bigSep scCells (fun g => (openTok (ER F) g : sProp (MM F)))
      ⊢ bigSep Finset.univ (fun c : Dev nD => bigSep Finset.univ fun x : Sc => (openTok (ER F) (scCell c x) : sProp (MM F))) :=
    Entails.of_eq (by rw [bigSep_map, bigSep_univ_prod]; rfl)
  iintro ⟨H, #Hlev⟩
  ihave H' := (show _ ⊢ _ from bigSep_mono fun c _ => hcore c) $$ H
  ihave H2 := (partSep (own1 (F := F)) fun c => iprop(semVal (barCell c) 0 ∗ G c)) $$ H'; icases H2 with ⟨HB, H3⟩
  ihave H4 := (partSep (fun c => (semVal (barCell c) 0 : sProp (MM F))) G) $$ H3; icases H4 with ⟨Hv, HG⟩
  ihave Hu := (show bigSep Finset.univ (G (F := F)) ⊢ BI.own ((embR : Emb UT (MM F)) uT) from Entails.of_eq (bigSep_park _)) $$ HG
  unfold uT
  ihave Hu := (own_pair_emb (embR : Emb UT (MM F)) _ _) $$ Hu
  icases Hu with ⟨Hu, Hsl⟩
  imod (Rounds.fund_launch (ER F) (Rd sent) disjoint_cells (fun g _ h => h) allToks) $$ [Hv Hu] with ⟨%κ, -, #Hinv, #Hr, Hat, Hopen, Htok⟩
  · isplitl [Hv]
    · iapply hv $$ Hv
    · iexact Hu
  imod (slots_init (ES F) Finset.univ 12 (slotP (F := F))) $$ [Hsl] with ⟨%ιs, -, #Hsi, Hrd, Hwr⟩
  · iexact Hsl
  imodintro
  iapply (bigSep_with_persistent (R := iprop(Ctx sent κ ιs ∗ bigSep barCells fun g => reached (ER F) g 0)) (Φ := fun c => iprop(dealt c ∗ own1 c)) fun c _ => E0_intro sent κ ιs c)
  isplitr
  · unfold Ctx
    isplitr
    · isplitr; · iexact Hinv
      isplitr; · iexact Hsi
      iexact Hlev
    iexact Hr
  iapply joinSep
  isplitr [HB]
  · unfold dealt
    iapply joinSep
    isplitl [Hat Hopen]
    · iapply joinSep
      isplitl [Hat]; · iapply hat $$ Hat
      iapply hop $$ Hopen
    iapply joinSep
    isplitl [Htok]; · iapply (duties_dealt (F := F)) $$ Htok
    iapply joinSep
    isplitl [Hwr]; · iapply (writers_dealt (F := F)) $$ Hwr
    iapply (readers_dealt (F := F)) $$ Hrd
  · iexact HB

end Cert.KernelIdeal.My

end
-- ==== Proof.My.Region.lean ====
/- The kernel as one region of the program: what a device enters it with and leaves it with. -/
module

public import proofs.«01_k».proof.Proof.My.Deal
public import proofs.«01_k».proof.Proof.Gen.KernelIdeal.Points
public import Idealize.ShloMosaic.Lib.Pipeline.ValueKit.Geometry

@[expose] public section

set_option maxRecDepth 10000

noncomputable section

namespace Cert.KernelIdeal.My

open Idealize.ShloMosaic Idealize.SL Idealize.SL.RA Idealize.SL.BI Idealize.SL.Sem Idealize.SL.ProofMode Cert.KernelIdeal Cert.KernelIdeal.Gen
open Idealize.ShloMosaic.TcCoe
open Idealize.ShloMosaic.Rounds Idealize.ShloMosaic.Release
open Idealize.ShloMosaic.ValueIdx (ix2 ix3)
open Idealize.ShloMosaic.Pipeline (Dat BodyObligation)
open scoped Idealize.SL.BI
open Idealize.SL.BI.BIBase Idealize.SL.BI.Laws

variable {F : FTy → Type} [FloatOps F]

/-! ## Two slots and the whole buffer -/

theorem slots_cover : (slotRect 0 (by decide)).set ∪ (slotRect 1 (by decide)).set = Finset.univ := by
  ext i
  refine ⟨fun _ => Finset.mem_univ _, fun _ => ?_⟩
  have h0 : (i 0).val < 2 := (i 0).isLt
  have h1 : (i 1).val < 128 := (i 1).isLt
  have h2 : (i 2).val < 1024 := (i 2).isLt
  rw [Finset.mem_union, Rect.mem_set_unit, Rect.mem_set_unit]
  rcases (show (i 0).val = 0 ∨ (i 0).val = 1 by omega) with e | e
  · refine .inl fun a => ?_
    fin_cases a
    · show 0 ≤ (i 0).val ∧ (i 0).val < 0 + 1; omega
    · show 0 ≤ (i 1).val ∧ (i 1).val < 0 + 128; omega
    · show 0 ≤ (i 2).val ∧ (i 2).val < 0 + 1024; omega
  · refine .inr fun a => ?_
    fin_cases a
    · show 1 ≤ (i 0).val ∧ (i 0).val < 1 + 1; omega
    · show 0 ≤ (i 1).val ∧ (i 1).val < 0 + 128; omega
    · show 0 ≤ (i 2).val ∧ (i 2).val < 0 + 1024; omega
theorem slots_disjoint : Disjoint (slotRect 0 (by decide)).set (slotRect 1 (by decide)).set := by
  rw [Finset.disjoint_left]
  intro i h h'
  have a : 0 ≤ (i 0).val ∧ (i 0).val < 0 + 1 := Rect.mem_set_unit.mp h 0
  have b : 1 ≤ (i 0).val ∧ (i 0).val < 1 + 1 := Rect.mem_set_unit.mp h' 0
  omega

/-- A buffer is its two slots. -/
theorem both_iff (M : Memref sig .tc .vmem S2x128x1024 .bf16) (c : Dev nD)
    (hc : ((slotOf M (0 : Fin 2).1 (0 : Fin 2).2).view.set ∪ (slotOf M (1 : Fin 2).1 (1 : Fin 2).2).view.set : Finset M.view.ty.Idx) = Finset.univ)
    (hd : Disjoint ((slotOf M (0 : Fin 2).1 (0 : Fin 2).2).view.set : Finset M.view.ty.Idx) (slotOf M (1 : Fin 2).1 (1 : Fin 2).2).view.set) :
    iprop(∃ f, M.view.loc (c : Thread nD τ) ↦{fullShare} f) ⊣⊢ both (F := F) M c := by
  unfold both slotAny slot
  rw [fin2]
  constructor
  · iintro ⟨%f, H⟩
    ihave H := (show (M.view.loc (c : Thread nD τ) ↦{fullShare} f : sProp (MM F)) ⊢ _ from
      BIBase.Entails.trans (Entails.of_eq (congrArg (fun S => (M.view.loc (c : Thread nD τ) ↦[S]{fullShare} f : sProp (MM F))) hc.symm)) (pointsTo_union hd).1) $$ H
    icases H with ⟨H0, H1⟩
    isplitl [H0]; · iexists f; iexact H0
    iexists f; iexact H1
  · iintro ⟨⟨%f, H0⟩, %g, H1⟩
    iexists _
    iapply (show _ ⊢ (M.view.loc (c : Thread nD τ) ↦{fullShare} _ : sProp (MM F)) from
      BIBase.Entails.trans (pointsTo_join (f := f) (g := g) hd) (Entails.of_eq (congrArg (fun S => (M.view.loc (c : Thread nD τ) ↦[S]{fullShare} _ : sProp (MM F))) hc)))
    isplitl [H0]; · iexact H0
    iexact H1

theorem slot_set_0 (b : Fin 2) : ((slotOf mC b.1 b.2).view.set : Finset S2x128x1024.Idx) = (slotRect b.1 b.2).set :=
  (View.set_reshape _ _).trans (View.set_slice_whole cc0_scratch0 _)
theorem slot_set_1 (b : Fin 2) : ((slotOf mS b.1 b.2).view.set : Finset S2x128x1024.Idx) = (slotRect b.1 b.2).set :=
  (View.set_reshape _ _).trans (View.set_slice_whole cc0_scratch1 _)
theorem slot_set_2 (b : Fin 2) : ((slotOf mCL b.1 b.2).view.set : Finset S2x128x1024.Idx) = (slotRect b.1 b.2).set :=
  (View.set_reshape _ _).trans (View.set_slice_whole cc0_scratch2 _)
theorem slot_set_3 (b : Fin 2) : ((slotOf mSL b.1 b.2).view.set : Finset S2x128x1024.Idx) = (slotRect b.1 b.2).set :=
  (View.set_reshape _ _).trans (View.set_slice_whole cc0_scratch3 _)
theorem both_S0 (c : Dev nD) : iprop(∃ f, pt c cc0_scratch0 f) ⊣⊢ both (F := F) (cbM true) c :=
  both_iff mC c ((congrArg₂ (· ∪ ·) (slot_set_0 0) (slot_set_0 1)).trans slots_cover) ((congrArg₂ Disjoint (slot_set_0 0) (slot_set_0 1)).mpr slots_disjoint)
theorem both_S1 (c : Dev nD) : iprop(∃ f, pt c cc0_scratch1 f) ⊣⊢ both (F := F) mS c :=
  both_iff mS c ((congrArg₂ (· ∪ ·) (slot_set_1 0) (slot_set_1 1)).trans slots_cover) ((congrArg₂ Disjoint (slot_set_1 0) (slot_set_1 1)).mpr slots_disjoint)
theorem both_S2 (c : Dev nD) : iprop(∃ f, pt c cc0_scratch2 f) ⊣⊢ both (F := F) (cbM false) c :=
  both_iff mCL c ((congrArg₂ (· ∪ ·) (slot_set_2 0) (slot_set_2 1)).trans slots_cover) ((congrArg₂ Disjoint (slot_set_2 0) (slot_set_2 1)).mpr slots_disjoint)
theorem both_S3 (c : Dev nD) : iprop(∃ f, pt c cc0_scratch3 f) ⊣⊢ both (F := F) mSL c :=
  both_iff mSL c ((congrArg₂ (· ∪ ·) (slot_set_3 0) (slot_set_3 1)).trans slots_cover) ((congrArg₂ Disjoint (slot_set_3 0) (slot_set_3 1)).mpr slots_disjoint)

/-! ## The body from what the region hands it -/

/-- The scratch buffers. -/
def scratch (c : Dev nD) : sProp (MM F) :=
  iprop((∃ f, pt c cc0_scratch0 f) ∗ (∃ f, pt c cc0_scratch1 f) ∗ (∃ f, pt c cc0_scratch2 f) ∗ (∃ f, pt c cc0_scratch3 f)
    ∗ (∃ f, pt c cc0_scratch4 f) ∗ (∃ f, pt c cc0_scratch5 f))
/-- The staged operands and the result. -/
def staged (I : Ins F) (o : Vec F S16x128x1024 .f32) (c : Dev nD) : sProp (MM F) :=
  iprop(pt c cc0_stg0_0 I.x ∗ pt c cc0_stg1_0 I.wq ∗ pt c cc0_stg2_0 I.k ∗ pt c cc0_stg3_0 I.v ∗ pt c cc0_stg4_0 I.wo ∗ pt c cc0_stg5_0 o)

variable (I : Dev nD → Ins F)

theorem start_of (κ : GSem nD τ sig → ℕ) (ιs : Key → ℕ) (c : Dev nD) (o : Vec F S16x128x1024 .f32) :
    iprop((Ctx (sentOf I) κ ιs ∗ laneOpen true c ∗ laneOpen false c ∗ barStart c) ∗ scratch c ∗ staged (I c) o c ∗ owe c (O₀ c)) ⊢ start I κ ιs c := by
  unfold start laneOpen laneGiven laneReaders scratch staged laneStart plain
  iintro ⟨⟨#HC, ⟨A1, #A2, A3, #A4, A5, A6, A7⟩, ⟨B1, #B2, B3, #B4, B5, B6, B7⟩, Hb⟩, ⟨S0, S1, S2, S3, S4, S5⟩, ⟨Hx, Hwq, Hk, Hv, Hwo, Ho⟩, HO⟩
  ihave S0 := (both_S0 c).1 $$ S0
  ihave S1 := (both_S1 c).1 $$ S1
  ihave S2 := (both_S2 c).1 $$ S2
  ihave S3 := (both_S3 c).1 $$ S3
  isplitr; · iexact HC
  isplitl [A1 A3 A5 A6 A7 S0]
  · isplitl [A1]; · iexact A1
    isplitr; · iexact A2
    isplitl [A5]; · iexact A5
    isplitl [A6]; · iexact A6
    isplitl [A3]; · iexact A3
    isplitr; · iexact A4
    isplitl [A7] <;> iassumption
  isplitl [B1 B3 B5 B6 B7 S2]
  · isplitl [B1]; · iexact B1
    isplitr; · iexact B2
    isplitl [B5]; · iexact B5
    isplitl [B6]; · iexact B6
    isplitl [B3]; · iexact B3
    isplitr; · iexact B4
    isplitl [B7] <;> iassumption
  isplitl [Hb]; · iexact Hb
  isplitl [Hx Hwq Hk Hv Hwo S4 S5]
  · isplitl [Hx]; · iexact Hx
    isplitl [Hwq]; · iexact Hwq
    isplitl [Hk]; · iexact Hk
    isplitl [Hv]; · iexact Hv
    isplitl [Hwo]; · iexact Hwo
    isplitl [S4] <;> iassumption
  isplitl [Ho]; · iexists o; iexact Ho
  isplitl [S1]; · iexact S1
  isplitl [S3]; · iexact S3
  iexact HO

/-- What the body leaves. -/
def leaves (c : Dev nD) : sProp (MM F) :=
  iprop((semVal (barCell c) 0 ∗ Pipeline.ownSems0 scLoc c) ∗ scratch c ∗ staged (I c) (outBuf I c) c ∗ owe c 0)

theorem close_all (κ : GSem nD τ sig → ℕ) (ιs : Key → ℕ) (c : Dev nD) :
    iprop(Ctx (sentOf I) κ ιs ∗ final I c) ⊢ |={Set.univ}=> leaves I c := by
  unfold final leaves plain scratch staged Pipeline.ownSems0
  iintro ⟨#HC, Hr, Hl, Hat, ⟨Hx, Hwq, Hk, Hv, Hwo, S4, S5⟩, Ho, S1, S3, HO⟩
  imod (close_lane (sentOf I) κ ιs true c) $$ [Hr] with ⟨R0, R1, R2, R3, R4, S0⟩
  · isplitr; · iexact HC
    iexact Hr
  imod (close_lane (sentOf I) κ ιs false c) $$ [Hl] with ⟨L0, L1, L2, L3, L4, S2⟩
  · isplitr; · iexact HC
    iexact Hl
  imod (Rounds.cell_close (ER F) (Rd (sentOf I)) (Set.mem_univ (κ (barCell c))) id (Rd_later_bar (sentOf I) c)) $$ [Hat] with Hb
  · isplitr; · iapply (Ctx_bar (sentOf I) κ ιs c); iexact HC
    iexact Hat
  ihave S0 := (both_S0 c).2 $$ S0
  ihave S1 := (both_S1 c).2 $$ S1
  ihave S2 := (both_S2 c).2 $$ S2
  ihave S3 := (both_S3 c).2 $$ S3
  imodintro
  isplitl [Hb R0 R1 R2 R3 R4 L0 L1 L2 L3 L4]
  · isplitl [Hb]; · iexact Hb
    iapply (Entails.of_eq (bigSep_Sc fun x : Sc => (semVal (scCell c x) 0 : sProp (MM F))).symm)
    isplitl [R0]; · iexact R0
    isplitl [R1]; · iexact R1
    isplitl [L0]; · iexact L0
    isplitl [L1]; · iexact L1
    isplitl [R2]; · iexact R2
    isplitl [R3]; · iexact R3
    isplitl [L2]; · iexact L2
    isplitl [L3]; · iexact L3
    isplitl [R4] <;> iassumption
  isplitl [S0 S1 S2 S3 S4 S5]
  · isplitl [S0]; · iexact S0
    isplitl [S1]; · iexact S1
    isplitl [S2]; · iexact S2
    isplitl [S3]; · iexact S3
    isplitl [S4] <;> iassumption
  isplitr [HO]
  · isplitl [Hx]; · iexact Hx
    isplitl [Hwq]; · iexact Hwq
    isplitl [Hk]; · iexact Hk
    isplitl [Hv]; · iexact Hv
    isplitl [Hwo] <;> iassumption
  iexact HO

theorem body_run (c : Dev nD) (o : Vec F S16x128x1024 .f32) (K : PUnit → sProp (MM F)) :
    iprop(Xk (sentOf I) c ∗ scratch c ∗ staged (I c) o c ∗ owe c (O₀ c) ∗ (leaves I c -∗ K ⟨⟩)) ⊢ WP c (printed Unit inferInstance F) K := by
  rw [printed_eq]
  have hm : mine Unit inferInstance F = .op .deviceId (fun d => bodyAt (F := F) d) := rfl
  rw [hm]
  unfold WP
  rw [wp_deviceId]
  unfold Xk
  iintro ⟨⟨%κ, %ιs, #HC, Hr, Hl, Hb⟩, Hs, Hg, HO, HK⟩
  iapply (wp_fupd frame (wpE (defs₀ (F := F)) 𝒱₀ c none) Set.univ (bodyAt c) K)
  iapply (wp_wand frame (wpE (defs₀ (F := F)) 𝒱₀ c none) Set.univ (p := bodyAt c) (Q := fun _ => final I c)) $$ [Hr Hl Hb Hs Hg HO]
  · iapply (bodyAt_spec I κ ιs c)
    iapply (start_of I κ ιs c o)
    isplitl [Hr Hl Hb]
    · isplitr; · iexact HC
      isplitl [Hr]; · iexact Hr
      isplitl [Hl] <;> iassumption
    isplitl [Hs]; · iexact Hs
    isplitl [Hg] <;> iassumption
  iintro %u HF
  imod (close_all I κ ιs c) $$ [HF] with HF
  · isplitr; · iexact HC
    iexact HF
  imodintro
  iapply HK; iexact HF

/-! ## The region's data -/

variable (m : (ℓ : Loc nD τ sig) → Buf (Elt F) ℓ)

/-- The operands of the kernel on a device. -/
def opsOf (c : Dev nD) : Ins F where
  x := V1 m c main_v19
  wq := V1 m c main_arg1
  k := V1 m c main_v17
  v := V1 m c main_v18
  wo := V1 m c main_arg4
/-- What the kernel leaves in the result's array. -/
def outs : Outs (F := F) := fun _ r c => Function.update (V1 m c) (main_v20 : DevRef τ sig) (outBuf (opsOf m) c) r
theorem outs_v20 (c : Dev nD) : outs m 2 main_v20 c = outBuf (opsOf m) c := Function.update_self _ _ _

def dat (c : Dev nD) : Dat τ (Elt F) ℕ ℕ UU ℕ cfg0 c where
  A w := V1 m c (Proc.devRef .tc (Pipeline.arrRef spec0 w))
  after w _ := match w with
    | ⟨0, _⟩ => (opsOf m c).x
    | ⟨1, _⟩ => (opsOf m c).wq
    | ⟨2, _⟩ => (opsOf m c).k
    | ⟨3, _⟩ => (opsOf m c).v
    | ⟨4, _⟩ => (opsOf m c).wo
    | ⟨5, _⟩ => outBuf (opsOf m) c
  Φ t := if t.val = 0 then iprop(Xk (sentOf (opsOf m)) c ∗ scratch c ∗ ∃ r, prngReg c r)
    else iprop((semVal (barCell c) 0 ∗ Pipeline.ownSems0 scLoc c) ∗ scratch c ∗ ∃ r, prngReg c r)
  q _ := fullShare
  owed t := if t.val = 0 then O₀ c else 0

def pdats : (p : Fin 1) → (c : Dev nD) → Dat τ (Elt F) ℕ ℕ UU ℕ (cfgs p) c
  | 0 => dat m

theorem owed_zero (c : Dev nD) : (pdats m 0 c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owe_of_at (c : Dev nD) (t : Fin (cfg0.N + 1)) (O : OO) (h0 : (dat m c).owed t = O) : (dat m c).owesAt 0 t ⊢ owe c O := by
  unfold Dat.owesAt Pipeline.owesWithin owe; rw [h0]
  iintro ⟨%W, -, HO⟩; iexists W; iexact HO
theorem at_of_owe (c : Dev nD) (t : Fin (cfg0.N + 1)) (O : OO) (h0 : (dat m c).owed t = O) : owe c O ⊢ (dat m c).owesAt 0 t := by
  unfold Dat.owesAt Pipeline.owesWithin Dat.bound owe; rw [h0, show (dat m c).recorded t = Set.univ from rfl]
  iintro ⟨%W, HO⟩; iexists W
  isplitr
  · ipureintro; exact fun _ _ => Or.inl trivial
  iexact HO

theorem owns_all (c : Dev nD) (b : Ref sig .tc) (X : b.ty.Contents (Elt F)) :
    (owns (c : Thread nD τ) (Memref.whole b) fullShare X : sProp (MM F)) = iprop(∃ f : b.ty.Contents (Elt F), ⌜f = X⌝ ∗ pt c b f) := by
  unfold owns; simp only [Memref.view_whole, View.read_whole, View.set_whole]

/-- The whole of an array, read as its one block. -/
theorem before_0 (c : Dev nD) (d) : (dat m c).before 0 t0_0 d = (opsOf m c).x := by
  unfold Dat.before; rw [if_pos (by decide)]
  exact Memref.readAt_unit_zero (Elt F) main_v19 (off := fun a => 0 * S2048x1024.size a) (by funext a; exact Nat.zero_mul _) (fun a => by rw [Nat.zero_mul, Nat.zero_add]) (V1 m c main_v19)
theorem before_1 (c : Dev nD) (d) : (dat m c).before 1 t0_0 d = (opsOf m c).wq := by
  unfold Dat.before; rw [if_pos (by decide)]
  exact Memref.readAt_unit_zero (Elt F) main_arg1 (off := fun a => 0 * S1024x1024.size a) (by funext a; exact Nat.zero_mul _) (fun a => by rw [Nat.zero_mul, Nat.zero_add]) (V1 m c main_arg1)
theorem before_2 (c : Dev nD) (d) : (dat m c).before 2 t0_0 d = (opsOf m c).k := by
  unfold Dat.before; rw [if_pos (by decide)]
  exact Memref.readAt_unit_zero (Elt F) main_v17 (off := fun a => 0 * S8x2048x128.size a) (by funext a; exact Nat.zero_mul _) (fun a => by rw [Nat.zero_mul, Nat.zero_add]) (V1 m c main_v17)
theorem before_3 (c : Dev nD) (d) : (dat m c).before 3 t0_0 d = (opsOf m c).v := by
  unfold Dat.before; rw [if_pos (by decide)]
  exact Memref.readAt_unit_zero (Elt F) main_v18 (off := fun a => 0 * S8x2048x128.size a) (by funext a; exact Nat.zero_mul _) (fun a => by rw [Nat.zero_mul, Nat.zero_add]) (V1 m c main_v18)
theorem before_4 (c : Dev nD) (d) : (dat m c).before 4 t0_0 d = (opsOf m c).wo := by
  unfold Dat.before; rw [if_pos (by decide)]
  exact Memref.readAt_unit_zero (Elt F) main_arg4 (off := fun a => 0 * S1024x1024.size a) (by funext a; exact Nat.zero_mul _) (fun a => by rw [Nat.zero_mul, Nat.zero_add]) (V1 m c main_arg4)

theorem body_ok (c : Dev nD) : BodyObligation (dat m c) defs₀ 𝒱₀ 0 Set.univ := fun t => by
  obtain rfl := fin_N0 t
  rw [bigSep_W0, bigSep_W0]
  simp only [owns_all]
  rw [show (dat m c).Φ t0_0.castSucc = iprop(Xk (sentOf (opsOf m)) c ∗ scratch c ∗ ∃ r, prngReg c r) from rfl,
    show (dat m c).Φ t0_0.succ = iprop((semVal (barCell c) 0 ∗ Pipeline.ownSems0 scLoc c) ∗ scratch c ∗ ∃ r, prngReg c r) from rfl]
  iintro ⟨⟨HX, Hs, Hp⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩⟩
  rw [before_0] at e0
  rw [before_1] at e1
  rw [before_2] at e2
  rw [before_3] at e3
  rw [before_4] at e4
  subst e0 e1 e2 e3 e4
  ihave HO := (owe_of_at m c t0_0.castSucc (O₀ c) (owed_first m c)) $$ HO
  iapply (body_run (opsOf m) c f5 _)
  isplitl [HX]; · iexact HX
  isplitl [Hs]; · iexact Hs
  isplitl [H0 H1 H2 H3 H4 H5]
  · unfold staged
    isplitl [H0]; · iexact H0
    isplitl [H1]; · iexact H1
    isplitl [H2]; · iexact H2
    isplitl [H3]; · iexact H3
    isplitl [H4]; · iexact H4
    iexact H5
  isplitl [HO]; · iexact HO
  unfold leaves staged
  iintro ⟨Hb, Hs, ⟨H0, H1, H2, H3, H4, H5⟩, HO⟩
  isplitl [Hb Hs Hp]
  · isplitl [Hb]; · iexact Hb
    isplitl [Hs] <;> iassumption
  isplitl [HO]; · iapply (at_of_owe m c t0_0.succ 0 (owed_last m c)); iexact HO
  isplitl [H0]
  · iexists _; isplitr; rotate_left; (· iexact H0); ipureintro; rfl
  isplitl [H1]
  · iexists _; isplitr; rotate_left; (· iexact H1); ipureintro; rfl
  isplitl [H2]
  · iexists _; isplitr; rotate_left; (· iexact H2); ipureintro; rfl
  isplitl [H3]
  · iexists _; isplitr; rotate_left; (· iexact H3); ipureintro; rfl
  isplitl [H4]
  · iexists _; isplitr; rotate_left; (· iexact H4); ipureintro; rfl
  iexists _; isplitr; rotate_left; (· iexact H5); ipureintro; rfl

/-! ## The region -/

/-- The buffers the region only passes along. -/
abbrev others : Finset (DevRef τ sig) := Pipeline.ucRefs τ sig \ Pipeline.arrRefs spec0
theorem others_same (c : Dev nD) : ∀ b ∈ others \ (∅ : Finset (DevRef τ sig)), V2 m (outs m) c b = V1 m c b := fun b hb => by
  refine Function.update_of_ne (fun e => ?_) _ _
  rw [Finset.mem_sdiff, Finset.mem_sdiff] at hb
  exact hb.1.2 (e ▸ (by decide : (main_v20 : DevRef τ sig) ∈ Pipeline.arrRefs spec0))

theorem share_all (c : Dev nD) (w : Fin (cfgs 0).W) : (pdats m 0 c).share w = fullShare := by
  unfold Dat.share; split <;> rfl
theorem arr_start (c : Dev nD) (w : Fin (cfgs 0).W) : (pdats m 0 c).arrAt w 0 = V1 m c (Proc.devRef .tc (Pipeline.arrRef spec0 w)) := rfl
theorem v20_ne {r : Ref sig .tc} (h : (r : DevRef τ sig) ≠ main_v20) (c : Dev nD) : V2 m (outs m) c r = V1 m c r := Function.update_of_ne h _ _
theorem v20_at (c : Dev nD) : V2 m (outs m) c main_v20 = outBuf (opsOf m) c := (Function.update_self _ _ _).trans (outs_v20 m c)
theorem arr_end (c : Dev nD) (w : Fin (cfgs 0).W) : (pdats m 0 c).arrAt w (cfgs 0).N = V2 m (outs m) c (Proc.devRef .tc (Pipeline.arrRef spec0 w)) := by
  match w with
  | ⟨0, _⟩ => exact ((dat m c).arrAt_in 0 rfl _).trans (v20_ne m (r := main_v19) (by decide) c).symm
  | ⟨1, _⟩ => exact ((dat m c).arrAt_in 1 rfl _).trans (v20_ne m (r := main_arg1) (by decide) c).symm
  | ⟨2, _⟩ => exact ((dat m c).arrAt_in 2 rfl _).trans (v20_ne m (r := main_v17) (by decide) c).symm
  | ⟨3, _⟩ => exact ((dat m c).arrAt_in 3 rfl _).trans (v20_ne m (r := main_v18) (by decide) c).symm
  | ⟨4, _⟩ => exact ((dat m c).arrAt_in 4 rfl _).trans (v20_ne m (r := main_arg4) (by decide) c).symm
  | ⟨5, _⟩ =>
    refine Eq.trans ?_ (v20_at m c).symm
    exact Pipeline.Dat.arrAt_eq_of_after_last (dat m c) 5 t0_0 (by decide +kernel) (outBuf (opsOf m) c) fun j => rfl

theorem cut (c : Dev nD) (t : Fin ((cfgs 0).N + 1)) (g : GSem nD τ sig) (i : ℕ) (h : 0 < (pdats m 0 c).owed t g i) : i ∈ LL g ∧ 0 < lvv g i := by
  have e : (pdats m 0 c).owed t = if t.val = 0 then O₀ c else 0 := rfl
  have hO : Above 0 (O₀ c) := by
    unfold O₀
    exact (Above.at (lf c) (.reg barS.sem) (i := 1) (k := 1) (by decide) (by decide)).add ((Above.at (rt c) (.reg barS.sem) (i := 1) (k := 1) (by decide) (by decide)).add
      ((Above.dueFrom c (by decide)).add (Above.dueFrom c (by decide))))
  rw [e] at h
  split at h
  · exact hO g i h
  · exact absurd h (Nat.lt_irrefl 0)

/-- What a device keeps after the kernel. -/
def Tk' (c : Dev nD) : sProp (MM F) := semVal (barCell c) 0

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem enter (c : Dev nD) : iprop(Pipeline.scopedRest spec0 c ∗ (∃ r, prngReg c r) ∗ StableHlo.held (c.tc : Thread nD τ) ∅ (V1 m c) ∗ Xk (sentOf (opsOf m)) c)
    ⊢ ((pdats m 0 c).Φ 0 : sProp (MM F)) := by
  rw [show (pdats m 0 c).Φ 0 = iprop(Xk (sentOf (opsOf m)) c ∗ scratch c ∗ ∃ r, prngReg c r) from rfl, scopedRest0_eq]
  unfold scratch
  iintro ⟨Hs, Hp, -, HX⟩
  isplitl [HX]; · iexact HX
  isplitl [Hs]; · iexact Hs
  iexact Hp
theorem leave (c : Dev nD) : ((pdats m 0 c).Φ (Fin.last _) : sProp (MM F))
    ⊢ iprop(Pipeline.scopedRest spec0 c ∗ (∃ r, prngReg c r) ∗ StableHlo.held (c.tc : Thread nD τ) ∅ (V2 m (outs m) c) ∗ Pipeline.ownSems0 scLoc c ∗ Tk' c) := by
  rw [show (pdats m 0 c).Φ (Fin.last _) = iprop((semVal (barCell c) 0 ∗ Pipeline.ownSems0 scLoc c) ∗ scratch c ∗ ∃ r, prngReg c r) from rfl, scopedRest0_eq]
  unfold scratch Tk' StableHlo.held
  rw [bigSep_empty]
  iintro ⟨⟨Hb, Ho⟩, Hs, Hp⟩
  isplitl [Hs]; · iexact Hs
  isplitl [Hp]; · iexact Hp
  isplitr; · iempintro
  isplitl [Ho]; · iexact Ho
  iexact Hb

set_option backward.isDefEq.respectTransparency.types false in
/-- The kernel's region. -/
def region : Pipeline.RegionSeg (pcfgs (F := F)) adm (pdats m) 0 defs₀ 𝒱₀ LL lvv 0 :=
  Pipeline.RegionSeg.ofTalk (pcfgs (F := F)) adm (pdats m) 0 defs₀ 𝒱₀ LL lvv 0 scLoc (by decide : Pipeline.OwnSemFacts spec0 scLoc)
    ∅ others (Finset.empty_subset _) kitP rfl (fun c => (body_ok m c).loose) (fun _ => 0) O₀
    (fun c => (owed_zero m c).trans (zero_add _).symm) (owed_last m) (fun _ => rfl) (share_all m)
    (V1 m) (V2 m (outs m)) (others_same m) (Tk (sentOf (opsOf m))) Tk' (Xk (sentOf (opsOf m))) Tk'
    (hopen (sentOf (opsOf m))) (enter m) (leave m) (fun c => fupd_intro)
    (fun _ => 0) ⟨fun c w s => mem_LL c _ (by decide), fun c w s => le_refl 0, cut m⟩ (fun _ => iprop(emp)) (arr_start m) (arr_end m)

end Cert.KernelIdeal.My

end
-- ==== Proof.My.Whole.lean ====
/- The whole program on the sixteen devices. -/
module

public import proofs.«01_k».proof.Proof.My.Region

@[expose] public section

set_option maxRecDepth 10000

noncomputable section

namespace Cert.KernelIdeal.My

open Idealize.ShloMosaic Idealize.SL Idealize.SL.RA Idealize.SL.BI Idealize.SL.Sem Idealize.SL.ProofMode Cert.KernelIdeal Cert.KernelIdeal.Gen
open Idealize.ShloMosaic.TcCoe
open Idealize.ShloMosaic.Rounds Idealize.ShloMosaic.Release
open scoped Idealize.SL.BI
open Idealize.SL.BI.BIBase Idealize.SL.BI.Laws

variable {F : FTy → Type} [FloatOps F]
variable (m : (ℓ : Loc nD τ sig) → Buf (Elt F) ℓ) (ρ : Dev nD → PrngReg)

/-- What a device holds beside its buffers, before and after the kernel. -/
def E : Fin 2 → Dev nD → sProp (MM F)
  | 0 => E0 (sentOf (opsOf m))
  | 1 => fun c => iprop(Tk' c ∗ owe c 0)

theorem arr_sub : Pipeline.arrRefs spec0 ⊆ Pipeline.ucRefs τ sig := by decide

theorem to_region (c : Dev nD) : iprop(StableHlo.held (c : Thread nD τ) (Pipeline.ucRefs τ sig) (V1 m c) ∗ E m 0 c) ⊢ (region m).pre c := by
  show _ ⊢ iprop(StableHlo.held (c : Thread nD τ) (Pipeline.arrRefs spec0) (V1 m c) ∗ (∃ r, prngReg c r)
    ∗ (StableHlo.held (c : Thread nD τ) others (V1 m c) ∗ emp) ∗ Tk (sentOf (opsOf m)) c ∗ ∃ Wd, owes (c : Thread nD τ) ((0 : OO) + O₀ c) Wd)
  rw [StableHlo.held_sub_split (c : Thread nD τ) arr_sub (V1 m c), zero_add]
  show iprop(_ ∗ E0 (sentOf (opsOf m)) c) ⊢ _
  unfold E0
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem from_region (c : Dev nD) : (region m).post c ⊢ iprop(StableHlo.held (c : Thread nD τ) (Pipeline.ucRefs τ sig) (V2 m (outs m) c) ∗ E m 1 c) := by
  show iprop(StableHlo.held (c : Thread nD τ) (Pipeline.arrRefs spec0) (V2 m (outs m) c) ∗ (∃ r, prngReg c r)
    ∗ (StableHlo.held (c : Thread nD τ) others (V2 m (outs m) c) ∗ emp) ∗ Tk' c ∗ ∃ Wd, owes (c : Thread nD τ) (0 : OO) Wd) ⊢ _
  rw [StableHlo.held_sub_split (c : Thread nD τ) arr_sub (V2 m (outs m) c)]
  show _ ⊢ iprop(_ ∗ Tk' c ∗ owe c 0)
  unfold owe
  iintro ⟨Ha, -, ⟨Hr, -⟩, HT, HO⟩
  isplitl [Ha Hr]
  · isplitl [Ha] <;> iassumption
  isplitl [HT] <;> iassumption

/-- The ghost state of the launch. -/
def u₀ : UU := (initOf (Pipeline.cells (Pipeline.pin (pcfgs (F := F)) adm) cellOf_inj) (Pipeline.launchToks (Pipeline.pin (pcfgs (F := F)) adm) cellOf_inj), uT)

theorem unscoped_one : ∀ sm : SemLoc sig, sm.isScoped .tc = false → sm = .reg barS.sem := by decide

/-- What is read at the end of a device's memory. -/
def Reads (c : Dev nD) (s : MemSt nD τ sig (Elt F)) : Prop :=
  ((s.mem ((c.tc : Thread nD τ).loc main_v21) = V3 m (outs m) c main_v21)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))

theorem start_all : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)) ∗ levAts LL lvv)
    ⊢ (|={Set.univ}=> bigSep Finset.univ fun c : Dev nD => iprop(StableHlo.held (c : Thread nD τ) (Pipeline.ucRefs τ sig) (V0 m c) ∗ E m 0 c) : sProp (MM F)) := by
  have hs : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (bigSep Finset.univ fun c : Dev nD => iprop(StableHlo.held (c : Thread nD τ) (Pipeline.ucRefs τ sig) (V0 m c)
        ∗ (unscopedSems0 c ∗ owes (c : Thread nD τ) (O₀ c) ∅ ∗ Pipeline.launchCred O₀ c ∗ prngReg c (ρ c) ∗ G c)) : sProp (MM F)) :=
    bigSep_mono fun c _ => by
      rw [← Pipeline.unscopedBufs_held (Ix := ℕ) (Name := ℕ) (U := UU) (Lvl := ℕ) c (V0 m c)]; exact BI.Entails.refl _
  iintro ⟨H, Hl⟩
  ihave H := hs $$ H
  ihave H := (partSep (fun c : Dev nD => StableHlo.held (c : Thread nD τ) (Pipeline.ucRefs τ sig) (V0 m c))
    fun c => iprop(unscopedSems0 c ∗ owes (c : Thread nD τ) (O₀ c) ∅ ∗ Pipeline.launchCred O₀ c ∗ prngReg c (ρ c) ∗ G c)) $$ H
  icases H with ⟨Hh, Hr⟩
  imod (launch_E0 (sentOf (opsOf m)) ρ) $$ [Hr Hl] with HE
  · isplitl [Hr]; · iexact Hr
    iexact Hl
  imodintro
  iapply joinSep
  isplitl [Hh]; · iexact Hh
  iexact HE

set_option backward.isDefEq.respectTransparency.types false in
/-- Every run ends, with the arguments as they were, the result as computed, and no counter left. -/
theorem run_all : θ_run defs (onTc (τ := τ) (main (F := F))) ⟨m, fun _ => 0, ρ⟩ (fun r => (∀ c : Dev nD, Reads m c r.2) ∧ r.2.sem = fun _ => 0) :=
  Pipeline.θ_run_regions_kit_dev_sems (pcfgs (F := F)) adm (pdats m) 0 cellOf_inj (EP F) defs₀ 𝒱₀ LL lvv m ρ main
    (segs m (outs m) 𝒱₀ LL lvv (E m) 0 (pdats m) (region m))
    (fun c Q => by
      rewrite [main_chain c, Pipeline.Seg.run_eq_chain,
        show (segs m (outs m) 𝒱₀ LL lvv (E m) 0 (pdats m) (region m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ LL_of_ne G u₀
    (by
      unfold u₀ G
      iintro Hu
      ihave H := (ownU_pair _ _) $$ Hu
      icases H with ⟨HP, HX⟩
      imodintro
      isplitl [HP]; · iexact HP
      rw [bigSep_park]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ Tk' c))
    (hch := fun c => ⟨.rfl, to_region m c, from_region m c, (by
      show iprop(StableHlo.held (c : Thread nD τ) (Pipeline.ucRefs τ sig) (V3 m (outs m) c) ∗ (Tk' c ∗ owe c 0)) ⊢ _
      unfold owe
      iintro ⟨Hh, HT, HO⟩
      isplitr [HO]
      · isplitl [Hh] <;> iassumption
      iexact HO)⟩)
    (hinit := start_all m ρ)
    (QY := fun c s => Reads m c s ∧ s.sem (barCell c) = 0)
    (hfin := fun c s' => by
      unfold StableHlo.held Tk'
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        have hr (r : Ref sig .tc) (hu : Proc.devRef (τ := τ) .tc r ∈ Pipeline.ucRefs τ sig) := h (Proc.devRef .tc r) hu
        exact ⟨⟨hr main_v21 (Finset.mem_filter.mpr ⟨StableHlo.devRef_mem_tcRefs main_v21, by decide⟩),
          (hr main_arg0 (Finset.mem_filter.mpr ⟨StableHlo.devRef_mem_tcRefs main_arg0, by decide⟩)).trans (V3_main_arg0 m (outs m) c),
          (hr main_arg1 (Finset.mem_filter.mpr ⟨StableHlo.devRef_mem_tcRefs main_arg1, by decide⟩)).trans (V3_main_arg1 m (outs m) c),
          (hr main_arg2 (Finset.mem_filter.mpr ⟨StableHlo.devRef_mem_tcRefs main_arg2, by decide⟩)).trans (V3_main_arg2 m (outs m) c),
          (hr main_arg3 (Finset.mem_filter.mpr ⟨StableHlo.devRef_mem_tcRefs main_arg3, by decide⟩)).trans (V3_main_arg3 m (outs m) c),
          (hr main_arg4 (Finset.mem_filter.mpr ⟨StableHlo.devRef_mem_tcRefs main_arg4, by decide⟩)).trans (V3_main_arg4 m (outs m) c)⟩,
          by simpa using hb⟩
      iexact HSI)
    (hQ := fun s h hs => ⟨fun c => (h c).1, sem_eq_zero hs fun c sm hsm => by
      obtain rfl := unscoped_one sm hsm
      exact (h c).2⟩)

end Cert.KernelIdeal.My

end
-- ==== Proof.My.RefRun.lean ====
/- The reference's run: its operations in order, and what its memory holds at the end. -/
module

public import proofs.«01_k».proof.Proof.Gen.ReferenceIdeal
public import Idealize.ShloMosaic.Lib.StableHlo.Run

@[expose] public section

noncomputable section

namespace Cert.ReferenceIdeal.My

open Cert.ReferenceIdeal Cert.ReferenceIdeal.Gen
open Idealize.ShloMosaic Idealize.ShloMosaic.TcCoe Idealize.ShloMosaic.StableHlo Idealize.SL.Sem

variable {F : FTy → Type} [FloatOps F]

/-- The operations up to the mask, the queries and the widened arguments. -/
def opsA : List (HloOp τ sig (Elt F)) :=
  [ unary main_arg0 main_v0 ((extf .f32 · bitsLt_bf16_f32) : (⟨S1x2048x1024, .bf16⟩ : BufTy).Contents (Elt F) → (⟨S1x2048x1024, .f32⟩ : BufTy).Contents (Elt F)),
    unary main_arg1 main_v1 ((extf .f32 · bitsLt_bf16_f32) : (⟨S1024x16384, .bf16⟩ : BufTy).Contents (Elt F) → (⟨S1024x16384, .f32⟩ : BufTy).Contents (Elt F)),
    unary main_arg2 main_v2 ((extf .f32 · bitsLt_bf16_f32) : (⟨S1x2048x128x128, .bf16⟩ : BufTy).Contents (Elt F) → (⟨S1x2048x128x128, .f32⟩ : BufTy).Contents (Elt F)),
    unary main_arg3 main_v3 ((extf .f32 · bitsLt_bf16_f32) : (⟨S1x2048x128x128, .bf16⟩ : BufTy).Contents (Elt F) → (⟨S1x2048x128x128, .f32⟩ : BufTy).Contents (Elt F)),
    unary main_arg4 main_v4 ((extf .f32 · bitsLt_bf16_f32) : (⟨S16384x1024, .bf16⟩ : BufTy).Contents (Elt F) → (⟨S16384x1024, .f32⟩ : BufTy).Contents (Elt F)),
    binary main_v0 main_v1 main_v5 ((fun l r => Host.dotGeneral dot_S1x2048x1024_S1024x16384_S1x2048x16384_2_0_01_1_n_n none l r) : (⟨S1x2048x1024, .f32⟩ : BufTy).Contents (Elt F) → (⟨S1024x16384, .f32⟩ : BufTy).Contents (Elt F) → (⟨S1x2048x16384, .f32⟩ : BufTy).Contents (Elt F)),
    reshape main_v5 main_v6 (rfl : (.f32 : EltTy) = .f32) shapeCasts_S1x2048x16384_S1x2048x128x128,
    nullary main_v7 (iotaInDim S2048 32 0),
    nullary main_c (constantI S_ 32 64#32),
    TRef.unary (.of main_c) main_call0.v0 id,
    TRef.unary main_call0.v0 main_call0.v1 (broadcastInDim S2048 ![] bcast_S_S2048),
    TRef.binary (.of main_v7) main_call0.v1 main_call0.v2 Host.divsi,
    TRef.unary (.of main_v7) main_call0.v3 signi,
    TRef.unary main_call0.v0 main_call0.v4 signi,
    TRef.unary main_call0.v4 main_call0.v5 (broadcastInDim S2048 ![] bcast_S_S2048),
    TRef.binary main_call0.v3 main_call0.v5 main_call0.v6 (cmpi .ne),
    TRef.unary main_call0.v0 main_call0.v7 (broadcastInDim S2048 ![] bcast_S_S2048),
    TRef.binary (.of main_v7) main_call0.v7 main_call0.v8 Host.remsi,
    TRef.nullary main_call0.c (constantI S_ 32 0#32),
    TRef.unary main_call0.c main_call0.v9 (broadcastInDim S2048 ![] bcast_S_S2048),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S2048 ![] bcast_S_S2048),
    TRef.binary main_call0.v2 main_call0.v12 main_call0.v13 subi,
    TRef.ternary main_call0.v11 main_call0.v13 main_call0.v2 main_call0.call0.v0 select,
    unary main_v8 main_v9 (broadcastInDim S2048x1 ![0] bcast_S2048_S2048x1_0 : (⟨S2048, .i32⟩ : BufTy).Contents (Elt F) → (⟨S2048x1, .i32⟩ : BufTy).Contents (Elt F)),
    nullary main_v10 (iotaInDim S2048 32 0),
    nullary main_c_0 (constantI S_ 32 64#32),
    TRef.unary (.of main_c_0) main_call1.v0 id,
    TRef.unary main_call1.v0 main_call1.v1 (broadcastInDim S2048 ![] bcast_S_S2048),
    TRef.binary (.of main_v10) main_call1.v1 main_call1.v2 Host.divsi,
    TRef.unary (.of main_v10) main_call1.v3 signi,
    TRef.unary main_call1.v0 main_call1.v4 signi,
    TRef.unary main_call1.v4 main_call1.v5 (broadcastInDim S2048 ![] bcast_S_S2048),
    TRef.binary main_call1.v3 main_call1.v5 main_call1.v6 (cmpi .ne),
    TRef.unary main_call1.v0 main_call1.v7 (broadcastInDim S2048 ![] bcast_S_S2048),
    TRef.binary (.of main_v10) main_call1.v7 main_call1.v8 Host.remsi,
    TRef.nullary main_call1.c (constantI S_ 32 0#32),
    TRef.unary main_call1.c main_call1.v9 (broadcastInDim S2048 ![] bcast_S_S2048),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S2048 ![] bcast_S_S2048),
    TRef.binary main_call1.v2 main_call1.v12 main_call1.v13 subi,
    TRef.ternary main_call1.v11 main_call1.v13 main_call1.v2 main_call1.call0.v0 select,
    unary main_v11 main_v12 (broadcastInDim S1x2048 ![1] bcast_S2048_S1x2048_1 : (⟨S2048, .i32⟩ : BufTy).Contents (Elt F) → (⟨S1x2048, .i32⟩ : BufTy).Contents (Elt F)),
    unary main_v9 main_v13 (broadcastInDim S2048x2048 ![0, 1] bcast_S2048x1_S2048x2048_0_1 : (⟨S2048x1, .i32⟩ : BufTy).Contents (Elt F) → (⟨S2048x2048, .i32⟩ : BufTy).Contents (Elt F)),
    unary main_v12 main_v14 (broadcastInDim S2048x2048 ![0, 1] bcast_S1x2048_S2048x2048_0_1 : (⟨S1x2048, .i32⟩ : BufTy).Contents (Elt F) → (⟨S2048x2048, .i32⟩ : BufTy).Contents (Elt F)),
    binary main_v13 main_v14 main_v15 (cmpi .eq : (⟨S2048x2048, .i32⟩ : BufTy).Contents (Elt F) → (⟨S2048x2048, .i32⟩ : BufTy).Contents (Elt F) → (⟨S2048x2048, .i1⟩ : BufTy).Contents (Elt F)),
    nullary main_c_1 (constantI S_ 32 0#32),
    unary main_c_1 main_v16 (broadcastInDim S1x2048 ![] bcast_S_S1x2048 : (⟨S_, .i32⟩ : BufTy).Contents (Elt F) → (⟨S1x2048, .i32⟩ : BufTy).Contents (Elt F)),
    binary main_v12 main_v16 main_v17 (cmpi .eq : (⟨S1x2048, .i32⟩ : BufTy).Contents (Elt F) → (⟨S1x2048, .i32⟩ : BufTy).Contents (Elt F) → (⟨S1x2048, .i1⟩ : BufTy).Contents (Elt F)),
    unary main_v17 main_v18 (broadcastInDim S2048x2048 ![0, 1] bcast_S1x2048_S2048x2048_0_1 : (⟨S1x2048, .i1⟩ : BufTy).Contents (Elt F) → (⟨S2048x2048, .i1⟩ : BufTy).Contents (Elt F)),
    binary main_v15 main_v18 main_v19 (ori : (⟨S2048x2048, .i1⟩ : BufTy).Contents (Elt F) → (⟨S2048x2048, .i1⟩ : BufTy).Contents (Elt F) → (⟨S2048x2048, .i1⟩ : BufTy).Contents (Elt F)),
    unary main_v9 main_v20 (broadcastInDim S2048x2048 ![0, 1] bcast_S2048x1_S2048x2048_0_1 : (⟨S2048x1, .i32⟩ : BufTy).Contents (Elt F) → (⟨S2048x2048, .i32⟩ : BufTy).Contents (Elt F)),
    unary main_v12 main_v21 (broadcastInDim S2048x2048 ![0, 1] bcast_S1x2048_S2048x2048_0_1 : (⟨S1x2048, .i32⟩ : BufTy).Contents (Elt F) → (⟨S2048x2048, .i32⟩ : BufTy).Contents (Elt F)),
    binary main_v20 main_v21 main_v22 (addi : (⟨S2048x2048, .i32⟩ : BufTy).Contents (Elt F) → (⟨S2048x2048, .i32⟩ : BufTy).Contents (Elt F) → (⟨S2048x2048, .i32⟩ : BufTy).Contents (Elt F)),
    nullary main_c_2 (constantI S_ 32 3#32),
    TRef.unary (.of main_c_2) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S2048x2048 ![] bcast_S_S2048x2048),
    TRef.binary (.of main_v22) main_call2.v3 main_call2.v4 Host.remsi,
    TRef.nullary main_call2.c_1 (constantI S_ 32 0#32),
    TRef.unary main_call2.c_1 main_call2.v5 (broadcastInDim S2048x2048 ![] bcast_S_S2048x2048),
    TRef.binary main_call2.v4 main_call2.v5 main_call2.v6 (cmpi .ne),
    TRef.nullary main_call2.c_2 (constantI S_ 32 0#32),
    TRef.unary main_call2.c_2 main_call2.v7 (broadcastInDim S2048x2048 ![] bcast_S_S2048x2048),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S2048x2048 ![] bcast_S_S2048x2048),
    TRef.binary main_call2.v8 main_call2.v10 main_call2.v11 (cmpi .ne),
    TRef.binary main_call2.v11 main_call2.v6 main_call2.v12 andi,
    TRef.unary main_call2.call0.v0 main_call2.v13 (broadcastInDim S2048x2048 ![] bcast_S_S2048x2048),
    TRef.binary main_call2.v4 main_call2.v13 main_call2.v14 addi,
    TRef.ternary main_call2.v12 main_call2.v14 main_call2.v4 main_call2.v15 select,
    nullary main_c_3 (constantI S_ 32 0#32),
    unary main_c_3 main_v24 (broadcastInDim S2048x2048 ![] bcast_S_S2048x2048 : (⟨S_, .i32⟩ : BufTy).Contents (Elt F) → (⟨S2048x2048, .i32⟩ : BufTy).Contents (Elt F)),
    binary main_v23 main_v24 main_v25 (cmpi .eq : (⟨S2048x2048, .i32⟩ : BufTy).Contents (Elt F) → (⟨S2048x2048, .i32⟩ : BufTy).Contents (Elt F) → (⟨S2048x2048, .i1⟩ : BufTy).Contents (Elt F)),
    binary main_v19 main_v25 main_v26 (ori : (⟨S2048x2048, .i1⟩ : BufTy).Contents (Elt F) → (⟨S2048x2048, .i1⟩ : BufTy).Contents (Elt F) → (⟨S2048x2048, .i1⟩ : BufTy).Contents (Elt F)) ]

/-- The operations from the scores to the result. -/
def opsB : List (HloOp τ sig (Elt F)) :=
  [ binary main_v6 main_v2 main_v27 ((fun l r => Host.dotGeneral dot_S1x2048x128x128_S1x2048x128x128_S1x128x2048x2048_3_3_1_1_02_02 none l r) : (⟨S1x2048x128x128, .f32⟩ : BufTy).Contents (Elt F) → (⟨S1x2048x128x128, .f32⟩ : BufTy).Contents (Elt F) → (⟨S1x128x2048x2048, .f32⟩ : BufTy).Contents (Elt F)),
    nullary main_cst (constant S_ .f32 0x3DB504F3#32),
    unary main_cst main_v28 (broadcastInDim S1x128x2048x2048 ![] bcast_S_S1x128x2048x2048 : (⟨S_, .f32⟩ : BufTy).Contents (Elt F) → (⟨S1x128x2048x2048, .f32⟩ : BufTy).Contents (Elt F)),
    binary main_v27 main_v28 main_v29 (mulf : (⟨S1x128x2048x2048, .f32⟩ : BufTy).Contents (Elt F) → (⟨S1x128x2048x2048, .f32⟩ : BufTy).Contents (Elt F) → (⟨S1x128x2048x2048, .f32⟩ : BufTy).Contents (Elt F)),
    unary main_v26 main_v30 (broadcastInDim S1x1x2048x2048 ![2, 3] bcast_S2048x2048_S1x1x2048x2048_2_3 : (⟨S2048x2048, .i1⟩ : BufTy).Contents (Elt F) → (⟨S1x1x2048x2048, .i1⟩ : BufTy).Contents (Elt F)),
    nullary main_cst_4 (constant S_ .f32 0xFF800000#32),
    TRef.unary (.of main_cst_4) main_call3.v0 id,
    TRef.unary (.of main_v30 : TRef sig ⟨S1x1x2048x2048, .i1⟩) main_call3.v1 (broadcastInDim S1x128x2048x2048 ![0, 1, 2, 3] bcast_S1x1x2048x2048_S1x128x2048x2048_0_1_2_3),
    TRef.unary main_call3.v0 main_call3.v2 (broadcastInDim S1x128x2048x2048 ![] bcast_S_S1x128x2048x2048),
    TRef.ternary main_call3.v1 (.of main_v29) main_call3.v2 main_call3.v3 select,
    nullary main_cst_5 (constant S_ .f32 0xFF800000#32),
    binary main_v31 main_cst_5 main_v32 ((fun x v => Host.reduce FloatOps.maximumf x v reducesTo_S1x128x2048x2048_S1x128x2048_d3 h_S_) : (⟨S1x128x2048x2048, .f32⟩ : BufTy).Contents (Elt F) → (⟨S_, .f32⟩ : BufTy).Contents (Elt F) → (⟨S1x128x2048, .f32⟩ : BufTy).Contents (Elt F)),
    unary main_v32 main_v33 (broadcastInDim S1x128x2048x1 ![0, 1, 2] bcast_S1x128x2048_S1x128x2048x1_0_1_2 : (⟨S1x128x2048, .f32⟩ : BufTy).Contents (Elt F) → (⟨S1x128x2048x1, .f32⟩ : BufTy).Contents (Elt F)),
    unary main_v33 main_v34 (broadcastInDim S1x128x2048x2048 ![0, 1, 2, 3] bcast_S1x128x2048x1_S1x128x2048x2048_0_1_2_3 : (⟨S1x128x2048x1, .f32⟩ : BufTy).Contents (Elt F) → (⟨S1x128x2048x2048, .f32⟩ : BufTy).Contents (Elt F)),
    binary main_v31 main_v34 main_v35 (subf : (⟨S1x128x2048x2048, .f32⟩ : BufTy).Contents (Elt F) → (⟨S1x128x2048x2048, .f32⟩ : BufTy).Contents (Elt F) → (⟨S1x128x2048x2048, .f32⟩ : BufTy).Contents (Elt F)),
    unary main_v35 main_v36 (Host.exp : (⟨S1x128x2048x2048, .f32⟩ : BufTy).Contents (Elt F) → (⟨S1x128x2048x2048, .f32⟩ : BufTy).Contents (Elt F)),
    nullary main_c_6 (constantI S_ 1 0#1),
    binary main_v26 main_c_6 main_v37 ((fun x v => Host.reduce IntOp.ori x v reducesTo_S2048x2048_S2048_d1 h_S_) : (⟨S2048x2048, .i1⟩ : BufTy).Contents (Elt F) → (⟨S_, .i1⟩ : BufTy).Contents (Elt F) → (⟨S2048, .i1⟩ : BufTy).Contents (Elt F)),
    unary main_v37 main_v38 (broadcastInDim S1x1x2048x1 ![2] bcast_S2048_S1x1x2048x1_2 : (⟨S2048, .i1⟩ : BufTy).Contents (Elt F) → (⟨S1x1x2048x1, .i1⟩ : BufTy).Contents (Elt F)),
    nullary main_cst_7 (constant S_ .f32 0x00000000#32),
    binary main_v36 main_cst_7 main_v39 ((fun x v => Host.reduceAdd x v reducesTo_S1x128x2048x2048_S1x128x2048_d3 h_S_) : (⟨S1x128x2048x2048, .f32⟩ : BufTy).Contents (Elt F) → (⟨S_, .f32⟩ : BufTy).Contents (Elt F) → (⟨S1x128x2048, .f32⟩ : BufTy).Contents (Elt F)),
    unary main_v39 main_v40 (broadcastInDim S1x128x2048x1 ![0, 1, 2] bcast_S1x128x2048_S1x128x2048x1_0_1_2 : (⟨S1x128x2048, .f32⟩ : BufTy).Contents (Elt F) → (⟨S1x128x2048x1, .f32⟩ : BufTy).Contents (Elt F)),
    nullary main_cst_8 (constant S_ .f32 0x3F800000#32),
    TRef.unary (.of main_cst_8) main_call4.v0 id,
    TRef.unary (.of main_v38 : TRef sig ⟨S1x1x2048x1, .i1⟩) main_call4.v1 (broadcastInDim S1x128x2048x1 ![0, 1, 2, 3] bcast_S1x1x2048x1_S1x128x2048x1_0_1_2_3),
    TRef.unary main_call4.v0 main_call4.v2 (broadcastInDim S1x128x2048x1 ![] bcast_S_S1x128x2048x1),
    TRef.ternary main_call4.v1 (.of main_v40) main_call4.v2 main_call4.v3 select,
    unary main_v41 main_v42 (broadcastInDim S1x128x2048x2048 ![0, 1, 2, 3] bcast_S1x128x2048x1_S1x128x2048x2048_0_1_2_3 : (⟨S1x128x2048x1, .f32⟩ : BufTy).Contents (Elt F) → (⟨S1x128x2048x2048, .f32⟩ : BufTy).Contents (Elt F)),
    binary main_v36 main_v42 main_v43 (Host.divf : (⟨S1x128x2048x2048, .f32⟩ : BufTy).Contents (Elt F) → (⟨S1x128x2048x2048, .f32⟩ : BufTy).Contents (Elt F) → (⟨S1x128x2048x2048, .f32⟩ : BufTy).Contents (Elt F)),
    unary main_v37 main_v44 (broadcastInDim S1x1x2048x1 ![2] bcast_S2048_S1x1x2048x1_2 : (⟨S2048, .i1⟩ : BufTy).Contents (Elt F) → (⟨S1x1x2048x1, .i1⟩ : BufTy).Contents (Elt F)),
    nullary main_cst_9 (constant S_ .f32 0x00000000#32),
    TRef.unary (.of main_cst_9) main_call5.v0 id,
    TRef.unary (.of main_v44 : TRef sig ⟨S1x1x2048x1, .i1⟩) main_call5.v1 (broadcastInDim S1x128x2048x2048 ![0, 1, 2, 3] bcast_S1x1x2048x1_S1x128x2048x2048_0_1_2_3),
    TRef.unary main_call5.v0 main_call5.v2 (broadcastInDim S1x128x2048x2048 ![] bcast_S_S1x128x2048x2048),
    TRef.ternary main_call5.v1 (.of main_v43) main_call5.v2 main_call5.v3 select,
    binary main_v3 main_v45 main_v46 ((fun l r => Host.dotGeneral dot_S1x2048x128x128_S1x128x2048x2048_S1x128x128x2048_1_3_3_2_02_01 none l r) : (⟨S1x2048x128x128, .f32⟩ : BufTy).Contents (Elt F) → (⟨S1x128x2048x2048, .f32⟩ : BufTy).Contents (Elt F) → (⟨S1x128x128x2048, .f32⟩ : BufTy).Contents (Elt F)),
    unary main_v46 main_v47 ((transpose S1x2048x128x128 [0, 3, 1, 2] · transposes_S1x128x128x2048_S1x2048x128x128_0_3_1_2) : (⟨S1x128x128x2048, .f32⟩ : BufTy).Contents (Elt F) → (⟨S1x2048x128x128, .f32⟩ : BufTy).Contents (Elt F)),
    reshape main_v47 main_v48 (rfl : (.f32 : EltTy) = .f32) shapeCasts_S1x2048x128x128_S1x2048x16384,
    binary main_v48 main_v4 main_v49 ((fun l r => Host.dotGeneral dot_S1x2048x16384_S16384x1024_S1x2048x1024_2_0_01_1_n_n none l r) : (⟨S1x2048x16384, .f32⟩ : BufTy).Contents (Elt F) → (⟨S16384x1024, .f32⟩ : BufTy).Contents (Elt F) → (⟨S1x2048x1024, .f32⟩ : BufTy).Contents (Elt F)) ]

set_option maxRecDepth 10000 in
set_option maxHeartbeats 4000000 in
theorem main_eq (c : Dev nD) : main (F := F) c = seq (opsA ++ opsB) := by
  simp only [main, main_part0, main_part1, opsA, opsB, fn_floor_divide.body, fn_remainder.body, fn_where.body, fn_where_0.body, fn_where_1.body,
    fn_where_2.body, fn_where_3.body, List.cons_append, List.nil_append, seq, bind_assoc, pure_bind]

theorem after_append (l₁ l₂ : List (HloOp τ sig (Elt F))) (V : Valuation τ sig (Elt F)) : after (l₁ ++ l₂) V = after l₂ (after l₁ V) := by
  induction l₁ generalizing V with
  | nil => rfl
  | cons a l ih => exact ih _

theorem scopedRefs_eq : (Finset.univ.filter fun b : Ref sig .tc => b.isScoped) = ∅ := by decide
theorem scopedSems_eq : (Finset.univ.filter fun sm : SemLoc sig => sm.isScoped .tc) = ∅ := by decide

theorem subA : (opsA : List (HloOp τ sig (Elt F))).Forall fun op => op.bufs ⊆ tcRefs τ sig :=
  ⟨unary_bufs_sub .., unary_bufs_sub .., unary_bufs_sub .., unary_bufs_sub .., unary_bufs_sub .., binary_bufs_sub ..,
    reshape_bufs_sub .., nullary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., unary_bufs_sub .., nullary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., unary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., nullary_bufs_sub .., unary_bufs_sub ..,
    nullary_bufs_sub .., binary_bufs_sub .., nullary_bufs_sub .., ternary_bufs_sub .., unary_bufs_sub .., binary_bufs_sub
    .., nullary_bufs_sub .., unary_bufs_sub .., binary_bufs_sub .., nullary_bufs_sub .., unary_bufs_sub .., binary_bufs_sub
    .., nullary_bufs_sub .., binary_bufs_sub .., unary_bufs_sub .., binary_bufs_sub .., binary_bufs_sub .., unary_bufs_sub
    .., binary_bufs_sub .., ternary_bufs_sub .., nullary_bufs_sub .., unary_bufs_sub .., binary_bufs_sub .., binary_bufs_sub
    ..⟩

theorem subB : (opsB : List (HloOp τ sig (Elt F))).Forall fun op => op.bufs ⊆ tcRefs τ sig :=
  ⟨binary_bufs_sub .., nullary_bufs_sub .., unary_bufs_sub .., binary_bufs_sub .., unary_bufs_sub .., nullary_bufs_sub ..,
    unary_bufs_sub .., unary_bufs_sub .., unary_bufs_sub .., ternary_bufs_sub .., nullary_bufs_sub .., binary_bufs_sub ..,
    unary_bufs_sub .., unary_bufs_sub .., binary_bufs_sub .., unary_bufs_sub .., nullary_bufs_sub .., binary_bufs_sub ..,
    unary_bufs_sub .., nullary_bufs_sub .., binary_bufs_sub .., unary_bufs_sub .., nullary_bufs_sub .., unary_bufs_sub ..,
    unary_bufs_sub .., unary_bufs_sub .., ternary_bufs_sub .., unary_bufs_sub .., binary_bufs_sub .., unary_bufs_sub ..,
    nullary_bufs_sub .., unary_bufs_sub .., unary_bufs_sub .., unary_bufs_sub .., ternary_bufs_sub .., binary_bufs_sub ..,
    unary_bufs_sub .., reshape_bufs_sub .., binary_bufs_sub ..⟩

theorem sub_all : (opsA ++ opsB : List (HloOp τ sig (Elt F))).Forall fun op => op.bufs ⊆ tcRefs τ sig :=
  List.forall_append.mpr ⟨subA, subB⟩

/-- Every run of the reference ends with each buffer at what its operations, in order, leave in it. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after opsB (after opsA (launchContents m c)) (b : DevRef τ sig) :=
  (θ_run defs _ _).mono (fun _ h c b => (h c b).trans (by rw [after_append]))
    (run_seq scopedRefs_eq scopedSems_eq defs main (fun _ => opsA ++ opsB) main_eq (fun _ => sub_all) m ρ)

theorem arg0_eq (V : Valuation τ sig (Elt F)) : after opsB (after opsA V) (main_arg0 : DevRef τ sig) = V (main_arg0 : DevRef τ sig) := by
  unfold opsA opsB; after_results_simp
theorem arg1_eq (V : Valuation τ sig (Elt F)) : after opsB (after opsA V) (main_arg1 : DevRef τ sig) = V (main_arg1 : DevRef τ sig) := by
  unfold opsA opsB; after_results_simp
theorem arg2_eq (V : Valuation τ sig (Elt F)) : after opsB (after opsA V) (main_arg2 : DevRef τ sig) = V (main_arg2 : DevRef τ sig) := by
  unfold opsA opsB; after_results_simp
theorem arg3_eq (V : Valuation τ sig (Elt F)) : after opsB (after opsA V) (main_arg3 : DevRef τ sig) = V (main_arg3 : DevRef τ sig) := by
  unfold opsA opsB; after_results_simp
theorem arg4_eq (V : Valuation τ sig (Elt F)) : after opsB (after opsA V) (main_arg4 : DevRef τ sig) = V (main_arg4 : DevRef τ sig) := by
  unfold opsA opsB; after_results_simp

end Cert.ReferenceIdeal.My

end
-- ==== Proof.My.Spec.lean ====
/- The mathematics of one head: masked softmax by plain exponentials and with the row's maximum taken off. -/
module

public import Idealize.ShloMosaic.Lib.Pointwise

@[expose] public section

noncomputable section

namespace Cert.Spec

open Idealize.ShloMosaic
open scoped BigOperators

/-- Whether key position `j` is seen from query position `i`. -/
def keep (i j : ℕ) : Bool := decide (i / 64 = j / 64) || decide (j / 64 = 0) || decide ((i / 64 + j / 64) % 3 = 0)

theorem keep_zero (i : ℕ) : keep i 0 = true := by simp [keep]

/-- The factor of the scores. -/
def scale : EReal := Ideal.ofBits .f32 0x3DB504F3#32

theorem scale_real : ∃ r : ℝ, 0 ≤ r ∧ scale = (r : EReal) := by
  have e1 : ((0x3DB504F3#32).extractLsb' 23 8).toNat = 123 := by decide
  have e2 : ((0x3DB504F3#32).extractLsb' 0 23).toNat = 3474675 := by decide
  have e3 : ((0x3DB504F3#32).extractLsb' (8 + 23) 1 == 1#1) = false := by decide
  unfold scale
  simp only [Ideal.ofBits, Ideal.ieee, e1, e2, e3, Bool.false_eq_true, ↓reduceIte]
  rw [if_neg (by decide), if_neg (by decide)]
  exact ⟨_, by positivity, rfl⟩

/-- A factor that is a nonnegative real goes into a finite sum. -/
theorem sum_mul_real {ι : Type*} (t : Finset ι) (f : ι → EReal) (r : ℝ) (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, EReal.right_distrib_of_nonneg_of_ne_top (EReal.coe_nonneg.2 hr) (EReal.coe_ne_top r), ih]

/-- A finite sum of reals, read among the extended reals. -/
theorem sum_real {ι : Type*} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- Sums of products of finite entries are finite. -/
theorem dot_real {ι : Type*} [Fintype ι] (a b : ι → EReal) (ha : ∀ i, ∃ r : ℝ, a i = r) (hb : ∀ i, ∃ r : ℝ, b i = r) :
    ∃ r : ℝ, ∑ i, a i * b i = (r : EReal) := by
  choose f hf using ha
  choose g hg using hb
  refine ⟨∑ i, f i * g i, ?_⟩
  rw [← sum_real]
  exact Finset.sum_congr rfl fun i _ => by rw [hf, hg, EReal.coe_mul]

section softmax

variable {n : ℕ} (k : Fin n → Bool) (s : Fin n → EReal) (v : Fin n → EReal)

/-- A key's weight without the maximum. -/
def wt (j : Fin n) : EReal := if k j then Ideal.exp (s j) else 0
/-- A masked score. -/
def ms (j : Fin n) : EReal := if k j then s j else ⊥
/-- The row's maximum. -/
def top : EReal := Finset.univ.fold max ⊥ (ms k s)
/-- A key's weight relative to the maximum. -/
def rw' (j : Fin n) : EReal := Ideal.exp (ms k s j - top k s)

theorem top_real (hs : ∀ j, ∃ r : ℝ, s j = r) (j₀ : Fin n) (h₀ : k j₀ = true) : ∃ r : ℝ, top k s = r := by
  have e : top k s = Finset.univ.sup (ms k s) := rfl
  have h1 : top k s ≠ ⊤ := by
    rw [e]
    refine ne_of_lt ((Finset.sup_lt_iff (bot_lt_top)).2 fun j _ => ?_)
    obtain ⟨r, hr⟩ := hs j
    unfold ms
    split
    · rw [hr]; exact EReal.coe_lt_top r
    · exact bot_lt_top
  have h2 : top k s ≠ ⊥ := by
    obtain ⟨r, hr⟩ := hs j₀
    have : ms k s j₀ ≤ top k s := by rw [e]; exact Finset.le_sup (Finset.mem_univ j₀)
    intro hb
    rw [hb, ms, if_pos h₀, hr] at this
    exact absurd (le_bot_iff.1 this) (EReal.coe_ne_bot r)
  lift top k s to ℝ using ⟨h1, h2⟩ with t
  exact ⟨t, rfl⟩

/-- Taking the row's maximum off the scores and dividing each weight before the sum changes nothing. -/
theorem softmax_eq (hs : ∀ j, ∃ r : ℝ, s j = r) (j₀ : Fin n) (h₀ : k j₀ = true) :
    Ideal.div (∑ j, wt k s j * v j) (∑ j, wt k s j) = ∑ j, v j * Ideal.div (rw' k s j) (∑ j, rw' k s j) := by
  obtain ⟨M, hM⟩ := top_real k s hs j₀ h₀
  choose f hf using hs
  let w : Fin n → ℝ := fun j => if k j then Real.exp (f j) else 0
  have hw : ∀ j, wt k s j = (w j : EReal) := fun j => by
    simp only [wt, w, hf]; split <;> simp
  have hr : ∀ j, rw' k s j = ((w j * Real.exp (-M) : ℝ) : EReal) := fun j => by
    simp only [rw', ms, hM, hf, w]
    split
    · rw [← EReal.coe_sub, Ideal.exp_coe, sub_eq_add_neg, Real.exp_add]
    · simp
  have w0 : ∀ j, 0 ≤ w j := fun j => by simp only [w]; split; exacts [(Real.exp_pos _).le, le_rfl]
  have hD : 0 < ∑ j, w j := Finset.sum_pos' (fun j _ => w0 j) ⟨j₀, Finset.mem_univ _, by simp only [w, if_pos h₀]; exact Real.exp_pos _⟩
  simp only [hw, hr, sum_real, ← Finset.sum_mul]
  have hE := Real.exp_pos (-M)
  simp only [Ideal.div_coe hD.ne', Ideal.div_coe (mul_pos hD hE).ne']
  rw [sum_mul_real _ _ _ (by positivity)]
  refine Finset.sum_congr rfl fun j _ => ?_
  rw [mul_comm (w j : EReal), mul_assoc, ← EReal.coe_mul, ← EReal.coe_mul]
  congr 2
  field_simp

end softmax

end Cert.Spec

end
-- ==== Proof.My.Mask.lean ====
/- The two programs' masks, at a pair of positions. -/
module

public import proofs.«01_k».proof.Proof.My.Ops
public import proofs.«01_k».proof.Proof.My.Spec

@[expose] public section

set_option maxRecDepth 16384

noncomputable section

namespace Cert.KernelIdeal.My

open Idealize.ShloMosaic Cert.KernelIdeal Cert.KernelIdeal.Gen
open Cert.Spec

/-- A position's block by the kernel's floor division. -/
def fd (w : BitVec 32) : BitVec 32 :=
  Scalar.select (IntOp.andi
      (IntOp.cmpi .ne ((IntOp.cmpi .sgt w 0#32).setWidth 32 - (IntOp.cmpi .slt w 0#32).setWidth 32) 1#32)
      (IntOp.cmpi .ne (IntOp.remsi .vector w 64#32) 0#32))
    (IntOp.divsi .vector w 64#32 - 1#32) (IntOp.divsi .vector w 64#32)

theorem fd_ofNat : ∀ i : Fin 2048, fd (BitVec.ofNat 32 i.val) = BitVec.ofNat 32 (i.val / 64) := by decide +kernel

/-- Whether a key block is seen from a query block, by the kernel's words. -/
def seen (a b : BitVec 32) : BitVec 1 :=
  IntOp.ori (IntOp.ori (IntOp.cmpi .eq a b) (IntOp.cmpi .eq b 0#32)) (IntOp.cmpi .eq (IntOp.remsi .vector (a + b) 3#32) 0#32)

theorem seen_ofNat : ∀ a b : Fin 32, seen (BitVec.ofNat 32 a.val) (BitVec.ofNat 32 b.val)
    = BitVec.ofBool (decide (a.val = b.val) || decide (b.val = 0) || decide ((a.val + b.val) % 3 = 0)) := by decide +kernel

theorem seen_keep (i j : ℕ) (hi : i < 2048) (hj : j < 2048) : seen (BitVec.ofNat 32 (i / 64)) (BitVec.ofNat 32 (j / 64)) = BitVec.ofBool (keep i j) :=
  seen_ofNat ⟨i / 64, by omega⟩ ⟨j / 64, by omega⟩

theorem one_word : Scalar.subi (Scalar.extui (Scalar.cmpi .sgt 64#32 0#32)) (Scalar.extui (Scalar.cmpi .slt 64#32 0#32)) = 1#32 := by decide

theorem colBlk_apply (a : Fin 128) (j : Fin 2048) : colBlk (ix2 a j) = BitVec.ofNat 32 (j.val / 64) := by
  rw [← fd_ofNat j]
  pointwise [colBlk, k0_pay2, k0_pay3, k0_pay4, fd]
  rw [one_word]
  rfl

theorem rowBlk_apply (r : ℕ) (hr : r < 16) (a : Fin 128) (j : Fin 2048) :
    k0_pay5 (BitVec.ofNat 32 r) (ix2 a j) = BitVec.ofNat 32 ((128 * r + a.val) / 64) := by
  rw [← fd_ofNat ⟨128 * r + a.val, by omega⟩]
  have e : BitVec.ofNat 32 (128 * r + a.val) = BitVec.ofNat 32 a.val + BitVec.ofNat 32 r * 128#32 := by
    rw [BitVec.ofNat_add, BitVec.ofNat_mul, BitVec.mul_comm, BitVec.add_comm]
  rw [e]
  pointwise [k0_pay5, fd]
  rw [one_word]
  rfl

end Cert.KernelIdeal.My

end
-- ==== Proof.My.Vals.lean ====
/- The kernel's values over the extended reals, at an index. -/
module

public import proofs.«01_k».proof.Proof.My.Mask
public import proofs.«01_k».proof.Proof.My.Run

@[expose] public section

set_option maxRecDepth 16384

noncomputable section

namespace Cert.KernelIdeal.My

open Idealize.ShloMosaic Cert.KernelIdeal Cert.KernelIdeal.Gen
open Cert.Spec
open scoped BigOperators

theorem proj_q (x : Vec Ideal S2048x1024 .bf16) (wq : Vec Ideal S1024x1024 .bf16) (i : Fin 2048) (j : Fin 1024) :
    k0_pay1 x wq (ix2 i j) = (∑ k : Fin 1024, x (ix2 i k) * wq (ix2 k j)) * scale := by
  pointwise [k0_pay1, scale]

theorem projOf_apply (x : Vec Ideal S128x1024 .bf16) (wo : Vec Ideal S1024x1024 .bf16) (a : Fin 128) (e : Fin 1024) :
    projOf x wo (ix3 0 a e) = ∑ k : Fin 1024, x (ix2 a k) * wo (ix2 k e) := by
  pointwise [projOf, k0_pay7]

theorem narrow_apply (x : Vec Ideal S1x128x1024 .f32) : (narrow x : S1x128x1024.Idx → EReal) = x := by
  funext j
  idx_vars j
  obtain rfl : j0 = 0 := Subsingleton.elim _ _
  pointwise [narrow, k0_pay8, k0_pay9]

theorem widen_apply (x : Vec Ideal S1x128x1024 .bf16) : (widen x : S1x128x1024.Idx → EReal) = x := by
  funext j
  idx_vars j
  obtain rfl : j0 = 0 := Subsingleton.elim _ _
  pointwise [widen, k0_pay126]

theorem passOn_apply (x : Vec Ideal S1x128x1024 .bf16) : passOn x = x := by
  funext j
  idx_vars j
  obtain rfl : j0 = 0 := Subsingleton.elim _ _
  pointwise [passOn, k0_pay127]

theorem addOf_apply (x : Vec Ideal S1x128x1024 .f32) (y : Vec Ideal S1x128x1024 .bf16) (j : S1x128x1024.Idx) :
    (addOf x y j : EReal) = (x j : EReal) + (y j : EReal) := by
  idx_vars j
  obtain rfl : j0 = 0 := Subsingleton.elim _ _
  pointwise [addOf, k0_pay14]

theorem headOf_apply (r : ℕ) (hr : r < 16) (q : Vec Ideal S128x128 .bf16) (k v : Vec Ideal S1x2048x128 .bf16) (a d : Fin 128) :
    headOf (BitVec.ofNat 32 r) q k v (ix2 a d)
      = Ideal.div (∑ j : Fin 2048, wt (fun j => keep (128 * r + a.val) j.val) (fun j => ∑ e : Fin 128, q (ix2 a e) * k (ix3 0 j e)) j * v (ix3 0 j d))
          (∑ j : Fin 2048, wt (fun j => keep (128 * r + a.val) j.val) (fun j => ∑ e : Fin 128, q (ix2 a e) * k (ix3 0 j e)) j) := by
  have e : ∀ j : Fin 2048, (Scalar.select (seen (k0_pay5 (BitVec.ofNat 32 r) (ix2 a j)) (colBlk (ix2 a j)))
      (Ideal.exp (∑ e : Fin 128, q (ix2 a e) * k (ix3 0 j e))) 0 : EReal)
      = wt (fun j => keep (128 * r + a.val) j.val) (fun j => ∑ e : Fin 128, q (ix2 a e) * k (ix3 0 j e)) j := fun j => by
    rw [rowBlk_apply r hr, colBlk_apply, seen_keep _ _ (by omega) j.isLt, wt]
    cases keep (128 * r + a.val) j.val <;> rfl
  simp only [← e]
  unfold headOf
  generalize colBlk = C
  generalize k0_pay5 (BitVec.ofNat 32 r) = R
  pointwise [k0_pay6, seen]
  rfl

end Cert.KernelIdeal.My

end
-- ==== Proof.My.RingSum.lean ====
/- The ring's sums: every device ends with the sum of all devices' parts. -/
module

public import proofs.«01_k».proof.Proof.My.Vals

@[expose] public section

set_option maxRecDepth 16384

noncomputable section

namespace Cert.KernelIdeal.My

open Idealize.ShloMosaic Cert.KernelIdeal Cert.KernelIdeal.Gen
open Cert.Spec
open scoped BigOperators

variable (I : Dev nD → Ins Ideal)

theorem lfN_val (c : Dev nD) (t : ℕ) (ht : t ≤ 16) : (lfN c t).val = (c.val + 16 - t) % 16 := by
  have hc : c.val < 16 := c.isLt
  induction t with
  | zero => show c.val = _; omega
  | succ t ih =>
    have e : lfN c (t + 1) = lf (lfN c t) := Function.iterate_succ_apply' lf t c
    rw [e]
    show ((lfN c t).val + 15) % 16 = _
    rw [ih (by omega)]
    omega

theorem rtN_val (c : Dev nD) (t : ℕ) : (rtN c t).val = (c.val + t) % 16 := by
  have hc : c.val < 16 := c.isLt
  induction t with
  | zero => show c.val = _; omega
  | succ t ih =>
    have e : rtN c (t + 1) = rt (rtN c t) := Function.iterate_succ_apply' rt t c
    rw [e]
    show ((rtN c t).val + 1) % 16 = _
    rw [ih]
    omega

theorem passOn_iter (n : ℕ) (x : Vec Ideal S1x128x1024 .bf16) : (passOn^[n]) x = x := by
  induction n generalizing x with
  | zero => rfl
  | succ n ih => rw [Function.iterate_succ_apply, passOn_apply, ih]

/-- What is added up after `s` steps is the sum over the last devices on the left. -/
theorem accOf_apply (c : Dev nD) (s : ℕ) (hs : s ≤ 15) (j : S1x128x1024.Idx) :
    (accOf I c s j : EReal) = ∑ t ∈ Finset.range (s + 1), (cvOf I (lfN c t) ((c.val + 32 - s) % 16) j : EReal) := by
  have hc : c.val < 16 := c.isLt
  induction s generalizing c with
  | zero =>
    rw [Finset.sum_range_one]
    show _ = (cvOf I c _ j : EReal)
    rw [show (c.val + 32 - 0) % 16 = c.val by omega]
    rfl
  | succ s ih =>
    have hl : (lf c).val = (c.val + 15) % 16 := rfl
    rw [Finset.sum_range_succ']
    show (addOf (cvOf I c ((c.val + 31 - s) % 16)) (narrow (accOf I (lf c) s)) j : EReal) = _
    rw [addOf_apply, congrFun (narrow_apply _) j, ih (lf c) (by omega) (lf c).isLt, add_comm, hl,
      show ((c.val + 15) % 16 + 32 - s) % 16 = (c.val + 32 - (s + 1)) % 16 by omega,
      show (c.val + 31 - s) % 16 = (c.val + 32 - (s + 1)) % 16 by omega]
    rfl

/-- Going round the whole ring reaches each device once. -/
theorem sum_ring (c : Dev nD) (f : Dev nD → EReal) : ∑ t ∈ Finset.range 16, f (lfN c t) = ∑ d : Dev nD, f d := by
  rw [Finset.sum_range]
  refine Function.Bijective.sum_comp (e := fun t : Fin 16 => lfN c t.val) ?_ f
  rw [Fintype.bijective_iff_injective_and_card]
  refine ⟨fun a b h => ?_, rfl⟩
  have := congrArg Fin.val h
  simp only at this
  rw [lfN_val c _ (by omega), lfN_val c _ (by omega)] at this
  have hc : c.val < 16 := c.isLt
  ext
  omega

theorem acc_all (c : Dev nD) (k : ℕ) (hk : k = (c.val + 1) % 16) (j : S1x128x1024.Idx) :
    (accOf I c 15 j : EReal) = ∑ d : Dev nD, (cvOf I d k j : EReal) := by
  rw [accOf_apply I c 15 le_rfl, ← sum_ring c fun d => (cvOf I d k j : EReal), show (c.val + 32 - 15) % 16 = k by omega]

/-- Every part of the result on every device is the sum of all devices' parts. -/
theorem finOf_apply (c : Dev nD) (k : ℕ) (hk : k < 16) (j : S1x128x1024.Idx) :
    (finOf I c k j : EReal) = ∑ d : Dev nD, (cvOf I d k j : EReal) := by
  have hc : c.val < 16 := c.isLt
  have hl : (lf c).val = (c.val + 15) % 16 := rfl
  have hr : (rt c).val = (c.val + 1) % 16 := rfl
  unfold finOf
  split_ifs with h1 h2
  · exact acc_all I c k (by omega) j
  · rw [congrFun (widen_apply _) j]
    simp only [sentOf]
    rw [if_neg (by omega), passOn_iter, congrFun (narrow_apply _) j]
    refine acc_all I _ k ?_ j
    rw [lfN_val _ _ (by omega), hl]
    omega
  · rw [congrFun (widen_apply _) j]
    simp only [sentOf]
    rw [passOn_iter, congrFun (narrow_apply _) j]
    refine acc_all I _ k ?_ j
    rw [rtN_val, hr]
    omega

/-! ## One device's part -/

variable (x : S2048x1024.Idx → EReal) (wq wo : S1024x1024.Idx → EReal) (k v : S8x2048x128.Idx → EReal)

/-- A score. -/
def scoreK (i : Fin 2048) (t : Fin 8) (j : Fin 2048) : EReal :=
  ∑ e : Fin 128, (∑ l : Fin 1024, x (ix2 i l) * wq (ix2 l ⟨128 * t.val + e.val, by omega⟩)) * scale * k (ix3 t j e)
/-- An entry of a head. -/
def attK (i : Fin 2048) (t : Fin 8) (d : Fin 128) : EReal :=
  Ideal.div (∑ j : Fin 2048, wt (fun j : Fin 2048 => keep i.val j.val) (scoreK x wq k i t) j * v (ix3 t j d))
    (∑ j : Fin 2048, wt (fun j : Fin 2048 => keep i.val j.val) (scoreK x wq k i t) j)

theorem hdOf_apply (c : Dev nD) (r : ℕ) (hr : r < 16) (t : Fin 8) (a d : Fin 128) :
    (hdOf I c r t.val (ix2 a d) : EReal) = attK (I c).x (I c).wq (I c).k (I c).v ⟨128 * r + a.val, by omega⟩ t d := by
  unfold hdOf
  rw [headOf_apply r hr]
  have es : (fun j : Fin 2048 => ∑ e : Fin 128, (qBlk (qOf I c) r t.val (ix2 a e) : EReal) * (kBlk (I c).k t.val (ix3 0 j e) : EReal))
      = scoreK (I c).x (I c).wq (I c).k ⟨128 * r + a.val, by omega⟩ t := by
    funext j
    refine Finset.sum_congr rfl fun e _ => ?_
    have eq : (qBlk (qOf I c) r t.val (ix2 a e) : EReal)
        = (∑ l : Fin 1024, (I c).x (ix2 ⟨128 * r + a.val, by omega⟩ l) * (I c).wq (ix2 l ⟨128 * t.val + e.val, by omega⟩)) * scale := by
      rw [← proj_q, ix2_eq_valueIdx]
      show k0_pay1 (I c).x (I c).wq _ = _
      congr 2
      · refine Fin.ext ?_
        show (128 * r + a.val) % 2048 = _
        rw [Nat.mod_eq_of_lt (by omega)]
      · refine Fin.ext ?_
        show (128 * t.val + e.val) % 1024 = _
        rw [Nat.mod_eq_of_lt (by omega)]
    have ek : (kBlk (I c).k t.val (ix3 0 j e) : EReal) = (I c).k (ix3 t j e) := by
      rw [ix3_eq_valueIdx t]
      show (I c).k _ = _
      congr 2
      exact Fin.ext (Nat.mod_eq_of_lt t.isLt)
    rw [eq, ek]
  have ev : ∀ j : Fin 2048, (kBlk (I c).v t.val (ix3 0 j d) : EReal) = (I c).v (ix3 t j d) := fun j => by
    rw [ix3_eq_valueIdx t]
    show (I c).v _ = _
    congr 2
    exact Fin.ext (Nat.mod_eq_of_lt t.isLt)
  rw [es]
  simp only [ev]
  rfl

theorem cvOf_apply (c : Dev nD) (r : ℕ) (hr : r < 16) (a : Fin 128) (e : Fin 1024) :
    (cvOf I c r (ix3 0 a e) : EReal)
      = ∑ n : Fin 1024, attK (I c).x (I c).wq (I c).k (I c).v ⟨128 * r + a.val, by omega⟩ ⟨n.val / 128, by omega⟩ ⟨n.val % 128, by omega⟩
          * (I c).wo (ix2 n e) := by
  unfold cvOf
  rw [projOf_apply]
  refine Finset.sum_congr rfl fun n _ => ?_
  rw [← hdOf_apply I c r hr, ix2_eq_valueIdx ⟨_, _⟩]
  rfl

end Cert.KernelIdeal.My

end
-- ==== Proof.My.Host.lean ====
/- What the operations before and after the kernel leave. -/
module

public import proofs.«01_k».proof.Proof.My.RingSum
public import proofs.«01_k».proof.Proof.My.Whole

@[expose] public section

set_option maxRecDepth 16384

noncomputable section

namespace Cert.KernelIdeal.My

open Idealize.ShloMosaic Idealize.SL Cert.KernelIdeal Cert.KernelIdeal.Gen
open Idealize.ShloMosaic.TcCoe
open Cert.Spec
open scoped BigOperators

variable (m : (ℓ : Loc nD τ sig) → Buf (Elt Ideal) ℓ)

/-- The first head of a device, as the program computes it. -/
def startW (w : BitVec 32) : BitVec 32 :=
  Scalar.select (IntOp.cmpi .slt (IntOp.muli (IntOp.remui .host (IntOp.divui .host w 1#32) 16#32) 8#32) 0#32)
    (IntOp.addi (IntOp.muli (IntOp.remui .host (IntOp.divui .host w 1#32) 16#32) 8#32) 128#32)
    (IntOp.muli (IntOp.remui .host (IntOp.divui .host w 1#32) 16#32) 8#32)

theorem startW_toInt : ∀ c : Dev nD, (startW (Dev.word c)).toInt = 8 * (c.val : ℤ) := by decide +kernel

theorem v19_at (c : Dev nD) (i : Fin 2048) (l : Fin 1024) :
    (V1 m c main_v19 : S2048x1024.Idx → EReal) (ix2 i l) = (m ((c.tc : Thread nD τ).loc main_arg0) : S1x2048x1024.Idx → EReal) (ix3 0 i l) := by
  unfold V1 hostOps0
  after_results_simp
  pointwise

/-- Eight heads cut from an array of 128, with the heads put first. -/
theorem heads_at (X : S1x2048x128x128.Idx → EReal) (c : Dev nD) (st : Fin 3 → ℤ) (hst : st = ![0, 8 * (c.val : ℤ), 0]) (t : Fin 8) (j : Fin 2048) (e : Fin 128) :
    transpose S8x2048x128 [1, 0, 2] (Host.dynamicSlice S2048x8x128 (shapeCast S2048x128x128 X shapeCasts_S1x2048x128x128_S2048x128x128) st
      sliceFits_S2048x128x128_S2048x8x128) transposes_S2048x8x128_S8x2048x128_1_0_2 (ix3 t j e)
      = X (ix4 0 j ⟨8 * c.val + t.val, by have : c.val < 16 := c.isLt; omega⟩ e) := by
  have hc : c.val < 16 := c.isLt
  have e0 : Host.clampedStart S2048x128x128 S2048x8x128 sliceFits_S2048x128x128_S2048x8x128.1 st 0 = 0 := by
    rw [hst]; rfl
  have e1 : Host.clampedStart S2048x128x128 S2048x8x128 sliceFits_S2048x128x128_S2048x8x128.1 st 1 = 8 * c.val := by
    rw [hst]
    show (min (max (8 * (c.val : ℤ)) 0) ((128 - 8 : ℕ) : ℤ)).toNat = 8 * c.val
    omega
  have e2 : Host.clampedStart S2048x128x128 S2048x8x128 sliceFits_S2048x128x128_S2048x8x128.1 st 2 = 0 := by
    rw [hst]; rfl
  pointwise
  simp only [e0, e1, e2, Nat.zero_add]

theorem v17_at (c : Dev nD) (t : Fin 8) (j : Fin 2048) (e : Fin 128) :
    (V1 m c main_v17 : S8x2048x128.Idx → EReal) (ix3 t j e)
      = (m ((c.tc : Thread nD τ).loc main_arg2) : S1x2048x128x128.Idx → EReal) (ix4 0 j ⟨8 * c.val + t.val, by have : c.val < 16 := c.isLt; omega⟩ e) := by
  unfold V1 hostOps0
  after_results_simp
  refine heads_at _ c _ ?_ t j e
  funext k
  fin_cases k
  · show BitVec.toInt _ = _
    after_results_simp
    rfl
  · show BitVec.toInt _ = _
    after_results_simp
    exact startW_toInt c
  · show BitVec.toInt _ = _
    after_results_simp
    rfl

theorem v18_at (c : Dev nD) (t : Fin 8) (j : Fin 2048) (e : Fin 128) :
    (V1 m c main_v18 : S8x2048x128.Idx → EReal) (ix3 t j e)
      = (m ((c.tc : Thread nD τ).loc main_arg3) : S1x2048x128x128.Idx → EReal) (ix4 0 j ⟨8 * c.val + t.val, by have : c.val < 16 := c.isLt; omega⟩ e) := by
  unfold V1 hostOps0
  after_results_simp
  refine heads_at _ c _ ?_ t j e
  funext k
  fin_cases k
  · show BitVec.toInt _ = _
    after_results_simp
    rfl
  · show BitVec.toInt _ = _
    after_results_simp
    exact startW_toInt c
  · show BitVec.toInt _ = _
    after_results_simp
    rfl

theorem v21_at (c : Dev nD) (i : Fin 2048) (e : Fin 1024) :
    (V3 m (outs m) c main_v21 : S1x2048x1024.Idx → EReal) (ix3 0 i e)
      = ∑ d : Dev nD, (cvOf (opsOf m) d (i.val / 128) (ix3 0 ⟨i.val % 128, Nat.mod_lt _ (by decide)⟩ e) : EReal) := by
  rw [← finOf_apply (opsOf m) c _ (by omega)]
  have h : ∀ X : S16x128x1024.Idx → EReal, V2 m (outs m) c main_v20 = X →
      (V3 m (outs m) c main_v21 : S1x2048x1024.Idx → EReal) (ix3 0 i e) = X (ix3 ⟨i.val / 128, by omega⟩ ⟨i.val % 128, Nat.mod_lt _ (by decide)⟩ e) := by
    intro X hX
    unfold V3 hostOps1
    after_results_simp
    rw [hX]
    pointwise
  rw [h _ (v20_at m c)]
  rw [ix3_eq_valueIdx (0 : Fin 1)]
  rfl

end Cert.KernelIdeal.My

end
-- ==== Proof.My.RefMask.lean ====
/- The reference's mask, at a pair of positions. -/
module

public import proofs.«01_k».proof.Proof.My.RefRun
public import proofs.«01_k».proof.Proof.My.Spec
public import Idealize.ShloMosaic.Lib.Tactic
public import Idealize.ShloMosaic.Lib.StableHlo.ReadAt

@[expose] public section

set_option maxRecDepth 16384

noncomputable section

namespace Cert.ReferenceIdeal.My

open Cert.ReferenceIdeal Cert.ReferenceIdeal.Gen
open Idealize.ShloMosaic Idealize.ShloMosaic.TcCoe Idealize.ShloMosaic.StableHlo
open Cert.Spec
open scoped BigOperators

variable (V : Valuation τ sig (Elt Ideal))

/-- The sign of a word. -/
def sg (w : BitVec 32) : BitVec 32 := if w = 0 then 0 else if w.msb = true then -1 else 1

/-- A position's block by the reference's floor division. -/
def fdH (w : BitVec 32) : BitVec 32 :=
  Scalar.select (IntOp.andi (IntOp.cmpi .ne (sg w) (sg 64#32)) (IntOp.cmpi .ne (IntOp.remsi .host w 64#32) 0#32))
    (IntOp.subi (IntOp.divsi .host w 64#32) 1#32) (IntOp.divsi .host w 64#32)

theorem fdH_ofNat : ∀ i : Fin 2048, fdH (BitVec.ofNat 32 i.val) = BitVec.ofNat 32 (i.val / 64) := by decide +kernel

/-- The divisor of the reference's remainder. -/
def three : BitVec 32 := Scalar.select (IntOp.cmpi .eq 3#32 0#32) (1#32) (3#32)

/-- The reference's remainder by three. -/
def rem3 (w : BitVec 32) : BitVec 32 :=
  Scalar.select (IntOp.andi (IntOp.cmpi .ne (IntOp.cmpi .slt (IntOp.remsi .host w three) 0#32) (IntOp.cmpi .slt three 0#32))
      (IntOp.cmpi .ne (IntOp.remsi .host w three) 0#32))
    (IntOp.addi (IntOp.remsi .host w three) three) (IntOp.remsi .host w three)

/-- Whether a key block is seen from a query block, by the reference's words. -/
def seenH (a b : BitVec 32) : BitVec 1 :=
  IntOp.ori (IntOp.ori (IntOp.cmpi .eq a b) (IntOp.cmpi .eq b 0#32)) (IntOp.cmpi .eq (rem3 (IntOp.addi a b)) 0#32)

theorem seenH_ofNat : ∀ a b : Fin 32, seenH (BitVec.ofNat 32 a.val) (BitVec.ofNat 32 b.val)
    = BitVec.ofBool (decide (a.val = b.val) || decide (b.val = 0) || decide ((a.val + b.val) % 3 = 0)) := by decide +kernel

theorem v26_at (i j : Fin 2048) : (after opsA V main_v26 : S2048x2048.Idx → BitVec 1) (ix2 i j) = BitVec.ofBool (keep i.val j.val) := by
  unfold opsA
  after_results_simp
  simp -implicitDefEqProofs only [TRef.toBuf, TRef.ofBuf, cast_cast, cast_eq]
  pointwise
  have h : seenH (fdH (BitVec.ofNat 32 i.val)) (fdH (BitVec.ofNat 32 j.val)) = BitVec.ofBool (keep i.val j.val) := by
    rw [fdH_ofNat, fdH_ofNat]
    exact seenH_ofNat ⟨i.val / 64, by omega⟩ ⟨j.val / 64, by omega⟩
  exact h

end Cert.ReferenceIdeal.My

end
-- ==== Proof.My.RefVals.lean ====
/- The reference's values over the extended reals, at an index. -/
module

public import proofs.«01_k».proof.Proof.My.RefRun
public import proofs.«01_k».proof.Proof.My.RefMask
public import Idealize.ShloMosaic.Lib.Tactic
public import Idealize.ShloMosaic.Lib.StableHlo.ReadAt

@[expose] public section

set_option maxRecDepth 16384

noncomputable section

namespace Cert.ReferenceIdeal.My

open Cert.ReferenceIdeal Cert.ReferenceIdeal.Gen
open Idealize.ShloMosaic Idealize.ShloMosaic.TcCoe Idealize.ShloMosaic.StableHlo
open Cert.Spec
open scoped BigOperators

variable (V : Valuation τ sig (Elt Ideal))

/-- The argument arrays. -/
def aX : S1x2048x1024.Idx → EReal := V main_arg0
def aQ : S1024x16384.Idx → EReal := V main_arg1
def aK : S1x2048x128x128.Idx → EReal := V main_arg2
def aV : S1x2048x128x128.Idx → EReal := V main_arg3
def aO : S16384x1024.Idx → EReal := V main_arg4

theorem v6_at (i : Fin 2048) (h e : Fin 128) : (after opsA V main_v6 : S1x2048x128x128.Idx → EReal) (ix4 0 i h e)
    = ∑ l : Fin 1024, aX V (ix3 0 i l) * aQ V (ix2 l ⟨h.val * 128 + e.val, by omega⟩) := by
  unfold opsA
  after_results_simp
  pointwise
  rfl

theorem v2_at (j : Fin 2048) (h e : Fin 128) : (after opsA V main_v2 : S1x2048x128x128.Idx → EReal) (ix4 0 j h e)
    = aK V (ix4 0 j h e) := by
  unfold opsA
  after_results_simp
  pointwise
  rfl

theorem v3_at (j : Fin 2048) (h e : Fin 128) : (after opsA V main_v3 : S1x2048x128x128.Idx → EReal) (ix4 0 j h e)
    = aV V (ix4 0 j h e) := by
  unfold opsA
  after_results_simp
  pointwise
  rfl

theorem v4_at (n : Fin 16384) (e : Fin 1024) : (after opsA V main_v4 : S16384x1024.Idx → EReal) (ix2 n e)
    = aO V (ix2 n e) := by
  unfold opsA
  after_results_simp
  pointwise
  rfl

/-! ## From the scores to the result -/

theorem neg_inf : Ideal.ofBits .f32 0xFF800000#32 = ⊥ := by
  have e1 : ((0xFF800000#32).extractLsb' 23 8).toNat = 255 := by decide
  have e2 : ((0xFF800000#32).extractLsb' 0 23).toNat = 0 := by decide
  have e3 : ((0xFF800000#32).extractLsb' (8 + 23) 1 == 1#1) = true := by decide
  simp only [Ideal.ofBits, Ideal.ieee, e1, e2, e3, ↓reduceIte]
  norm_num

end Cert.ReferenceIdeal.My

end
-- ==== Proof.My.RefOut.lean ====
/- The reference's result over the extended reals, at an index. -/
module

public import proofs.«01_k».proof.Proof.My.RefVals
public import Idealize.ShloMosaic.Lib.Routing.OpsOrder

@[expose] public section

set_option maxRecDepth 16384

noncomputable section

namespace Cert.ReferenceIdeal.My

open Cert.ReferenceIdeal Cert.ReferenceIdeal.Gen
open Idealize.ShloMosaic Idealize.ShloMosaic.TcCoe Idealize.ShloMosaic.StableHlo
open Cert.Spec
open scoped BigOperators

/-- A score. -/
def scoreR (q k : S1x2048x128x128.Idx → EReal) (i : Fin 2048) (h : Fin 128) (j : Fin 2048) : EReal :=
  (∑ e : Fin 128, q (ix4 0 i h e) * k (ix4 0 j h e)) * scale

/-- An entry of a head. -/
def attR (q k v : S1x2048x128x128.Idx → EReal) (i : Fin 2048) (h d : Fin 128) : EReal :=
  ∑ j : Fin 2048, v (ix4 0 j h d) * Ideal.div (rw' (fun j : Fin 2048 => keep i.val j.val) (scoreR q k i h) j)
    (∑ j : Fin 2048, rw' (fun j : Fin 2048 => keep i.val j.val) (scoreR q k i h) j)

theorem select_ofBool (b : Bool) (x y : EReal) : Scalar.select (BitVec.ofBool b) x y = if b then x else y := by
  cases b <;> rfl

theorem row_seen (M : S2048x2048.Idx → BitVec 1) (i : Fin 2048) (hM : ∀ j, M (ix2 i j) = BitVec.ofBool (keep i.val j.val)) :
    Finset.fold IntOp.ori (0#1) (fun j => M (ix2 i j)) (Finset.univ : Finset (Fin 2048)) = BitVec.ofBool true := by
  refine (Routing.fold_ori _ _).2 ⟨⟨0, by decide⟩, Finset.mem_univ _, ?_⟩
  rw [hM, keep_zero]
  rfl

/-! ## The result's operations as functions of the mask, the queries and the arguments -/

/-- The masked scores. -/
def tS (M : IVec S2048x2048 1) (q k : FVec Ideal S1x2048x128x128 .f32) : FVec Ideal S1x128x2048x2048 .f32 :=
  select (broadcastInDim S1x128x2048x2048 ![0, 1, 2, 3] bcast_S1x1x2048x2048_S1x128x2048x2048_0_1_2_3
      (broadcastInDim S1x1x2048x2048 ![2, 3] bcast_S2048x2048_S1x1x2048x2048_2_3 M))
    (mulf (Host.dotGeneral dot_S1x2048x128x128_S1x2048x128x128_S1x128x2048x2048_3_3_1_1_02_02 none q k)
      (broadcastInDim S1x128x2048x2048 ![] bcast_S_S1x128x2048x2048 (constant S_ .f32 0x3DB504F3#32)))
    (broadcastInDim S1x128x2048x2048 ![] bcast_S_S1x128x2048x2048 (constant S_ .f32 0xFF800000#32))

/-- The exponentials of the scores less their row's maximum. -/
def tE (s : FVec Ideal S1x128x2048x2048 .f32) : FVec Ideal S1x128x2048x2048 .f32 :=
  Host.exp (subf s (broadcastInDim S1x128x2048x2048 ![0, 1, 2, 3] bcast_S1x128x2048x1_S1x128x2048x2048_0_1_2_3
    (broadcastInDim S1x128x2048x1 ![0, 1, 2] bcast_S1x128x2048_S1x128x2048x1_0_1_2
      (Host.reduce FloatOps.maximumf s (constant S_ .f32 0xFF800000#32) reducesTo_S1x128x2048x2048_S1x128x2048_d3 h_S_))))

/-- Whether a row sees any position. -/
def tR (M : IVec S2048x2048 1) : IVec S1x1x2048x1 1 :=
  broadcastInDim S1x1x2048x1 ![2] bcast_S2048_S1x1x2048x1_2 (Host.reduce IntOp.ori M (constantI S_ 1 0#1) reducesTo_S2048x2048_S2048_d1 h_S_)

/-- The weights. -/
def tP (R : IVec S1x1x2048x1 1) (x : FVec Ideal S1x128x2048x2048 .f32) : FVec Ideal S1x128x2048x2048 .f32 :=
  select (broadcastInDim S1x128x2048x2048 ![0, 1, 2, 3] bcast_S1x1x2048x1_S1x128x2048x2048_0_1_2_3 R)
    (Host.divf x (broadcastInDim S1x128x2048x2048 ![0, 1, 2, 3] bcast_S1x128x2048x1_S1x128x2048x2048_0_1_2_3
      (select (broadcastInDim S1x128x2048x1 ![0, 1, 2, 3] bcast_S1x1x2048x1_S1x128x2048x1_0_1_2_3 R)
        (broadcastInDim S1x128x2048x1 ![0, 1, 2] bcast_S1x128x2048_S1x128x2048x1_0_1_2
          (Host.reduceAdd x (constant S_ .f32 0x00000000#32) reducesTo_S1x128x2048x2048_S1x128x2048_d3 h_S_))
        (broadcastInDim S1x128x2048x1 ![] bcast_S_S1x128x2048x1 (constant S_ .f32 0x3F800000#32)))))
    (broadcastInDim S1x128x2048x2048 ![] bcast_S_S1x128x2048x2048 (constant S_ .f32 0x00000000#32))

/-- The result. -/
def tO (p : FVec Ideal S1x128x2048x2048 .f32) (v : FVec Ideal S1x2048x128x128 .f32) (o : FVec Ideal S16384x1024 .f32) : FVec Ideal S1x2048x1024 .f32 :=
  Host.dotGeneral dot_S1x2048x16384_S16384x1024_S1x2048x1024_2_0_01_1_n_n none
    (shapeCast S1x2048x16384 (transpose S1x2048x128x128 [0, 3, 1, 2]
      (Host.dotGeneral dot_S1x2048x128x128_S1x128x2048x2048_S1x128x128x2048_1_3_3_2_02_01 none v p) transposes_S1x128x128x2048_S1x2048x128x128_0_3_1_2)
      shapeCasts_S1x2048x128x128_S1x2048x16384) o

theorem tS_at (M : IVec S2048x2048 1) (q k : FVec Ideal S1x2048x128x128 .f32) (h : Fin 128) (i j : Fin 2048)
    (hM : ∀ j, M (ix2 i j) = BitVec.ofBool (keep i.val j.val)) :
    tS M q k (ix4 0 h i j) = ms (fun j : Fin 2048 => keep i.val j.val) (scoreR q k i h) j := by
  pointwise [tS]
  rw [hM, neg_inf]
  exact select_ofBool _ _ _

theorem tE_at (s : FVec Ideal S1x128x2048x2048 .f32) (h : Fin 128) (i j : Fin 2048) :
    tE s (ix4 0 h i j) = Ideal.exp (s (ix4 0 h i j) - Finset.univ.fold max ⊥ fun l : Fin 2048 => s (ix4 0 h i l)) := by
  rw [← neg_inf]
  pointwise [tE]

theorem tR_at (M : IVec S2048x2048 1) (i : Fin 2048) (hM : ∀ j, M (ix2 i j) = BitVec.ofBool (keep i.val j.val)) :
    tR M (ix4 0 0 i 0) = BitVec.ofBool true := by
  rw [← row_seen M i hM]
  pointwise [tR]

theorem tP_at (R : IVec S1x1x2048x1 1) (x : FVec Ideal S1x128x2048x2048 .f32) (h : Fin 128) (i j : Fin 2048)
    (hR : R (ix4 0 0 i 0) = BitVec.ofBool true) :
    tP R x (ix4 0 h i j) = Ideal.div (x (ix4 0 h i j)) (∑ l : Fin 2048, x (ix4 0 h i l)) := by
  pointwise [tP]
  rw [hR]
  rfl

theorem tO_at (p : FVec Ideal S1x128x2048x2048 .f32) (v : FVec Ideal S1x2048x128x128 .f32) (o : FVec Ideal S16384x1024 .f32) (i : Fin 2048) (e : Fin 1024) :
    tO p v o (ix3 0 i e) = ∑ n : Fin 16384, (∑ j : Fin 2048, v (ix4 0 j ⟨n.val / 128, by omega⟩ ⟨n.val % 128, by omega⟩)
      * p (ix4 0 ⟨n.val / 128, by omega⟩ i j)) * o (ix2 n e) := by
  pointwise [tO]

end Cert.ReferenceIdeal.My

end
-- ==== Proof.My.RefComp.lean ====
/- The reference's operations composed. -/
module

public import proofs.«01_k».proof.Proof.My.RefOut

@[expose] public section

set_option maxRecDepth 16384

noncomputable section

namespace Cert.ReferenceIdeal.My

open Cert.ReferenceIdeal Cert.ReferenceIdeal.Gen
open Idealize.ShloMosaic Idealize.ShloMosaic.TcCoe Idealize.ShloMosaic.StableHlo
open Cert.Spec
open scoped BigOperators

variable (W : Valuation τ sig (Elt Ideal))

theorem v49_eq (M : IVec S2048x2048 1) (q k v : FVec Ideal S1x2048x128x128 .f32) (o : FVec Ideal S16384x1024 .f32)
    (eM : W main_v26 = M) (eq : W main_v6 = q) (ek : W main_v2 = k) (ev : W main_v3 = v) (eo : W main_v4 = o) :
    after opsB W main_v49 = tO (tP (tR M) (tE (tS M q k))) v o := by
  unfold opsB
  after_results_simp
  rw [eM, eq, ek, ev, eo]
  simp -implicitDefEqProofs only [TRef.toBuf, TRef.ofBuf, cast_cast, cast_eq]
  rfl

end Cert.ReferenceIdeal.My

end
-- ==== Proof.My.RefAt.lean ====
/- The reference's result, entry by entry. -/
module

public import proofs.«01_k».proof.Proof.My.RefComp
public import proofs.«01_k».proof.Proof.My.RefMask

@[expose] public section

set_option maxRecDepth 16384

noncomputable section

namespace Cert.ReferenceIdeal.My

open Cert.ReferenceIdeal Cert.ReferenceIdeal.Gen
open Idealize.ShloMosaic Idealize.ShloMosaic.TcCoe Idealize.ShloMosaic.StableHlo
open Cert.Spec
open scoped BigOperators

theorem comp_at (M : IVec S2048x2048 1) (q k v : FVec Ideal S1x2048x128x128 .f32) (o : FVec Ideal S16384x1024 .f32)
    (i : Fin 2048) (e : Fin 1024) (hM : ∀ j, M (ix2 i j) = BitVec.ofBool (keep i.val j.val)) :
    tO (tP (tR M) (tE (tS M q k))) v o (ix3 0 i e)
      = ∑ n : Fin 16384, attR q k v i ⟨n.val / 128, by omega⟩ ⟨n.val % 128, by omega⟩ * o (ix2 n e) := by
  rw [tO_at]
  have hx : ∀ (h : Fin 128) (j : Fin 2048), tE (tS M q k) (ix4 0 h i j)
      = rw' (fun j : Fin 2048 => keep i.val j.val) (scoreR q k i h) j := fun h j => by
    rw [tE_at]
    have := fun l => tS_at M q k h i l hM
    rw [this j, funext this]
    rfl
  refine Finset.sum_congr rfl fun n _ => ?_
  refine congrArg (fun z : EReal => z * o (ix2 n e)) ?_
  refine Finset.sum_congr rfl fun j _ => ?_
  rw [tP_at _ _ _ _ _ (tR_at M i hM), hx, Finset.sum_congr rfl fun l _ => hx _ l]

variable (V : Valuation τ sig (Elt Ideal))

/-- The queries of the arguments. -/
def qry (x : S1x2048x1024.Idx → EReal) (w : S1024x16384.Idx → EReal) (j : S1x2048x128x128.Idx) : EReal :=
  ∑ l : Fin 1024, x (ix3 0 (j 1) l) * w (ix2 l ⟨(j 2).val * 128 + (j 3).val, by have := (j 2).isLt; have := (j 3).isLt; simp at *; omega⟩)

theorem qry_at (x : S1x2048x1024.Idx → EReal) (w : S1024x16384.Idx → EReal) (i : Fin 2048) (h e : Fin 128) :
    qry x w (ix4 0 i h e) = ∑ l : Fin 1024, x (ix3 0 i l) * w (ix2 l ⟨h.val * 128 + e.val, by omega⟩) := rfl

/-- An entry of the result. -/
def entry (x : S1x2048x1024.Idx → EReal) (w : S1024x16384.Idx → EReal) (k v : S1x2048x128x128.Idx → EReal) (o : S16384x1024.Idx → EReal)
    (i : Fin 2048) (e : Fin 1024) : EReal :=
  ∑ n : Fin 16384, attR (qry x w) k v i ⟨n.val / 128, by omega⟩ ⟨n.val % 128, by omega⟩ * o (ix2 n e)

theorem ref_at (i : Fin 2048) (e : Fin 1024) : (after opsB (after opsA V) main_v49 : S1x2048x1024.Idx → EReal) (ix3 0 i e)
    = entry (aX V) (aQ V) (aK V) (aV V) (aO V) i e := by
  have eq : (after opsA V main_v6 : S1x2048x128x128.Idx → EReal) = qry (aX V) (aQ V) := by
    funext j; idx_vars j; obtain rfl : j0 = 0 := Subsingleton.elim _ _; exact v6_at V _ _ _
  have ek : (after opsA V main_v2 : S1x2048x128x128.Idx → EReal) = aK V := by
    funext j; idx_vars j; obtain rfl : j0 = 0 := Subsingleton.elim _ _; exact v2_at V _ _ _
  have ev : (after opsA V main_v3 : S1x2048x128x128.Idx → EReal) = aV V := by
    funext j; idx_vars j; obtain rfl : j0 = 0 := Subsingleton.elim _ _; exact v3_at V _ _ _
  have eo : (after opsA V main_v4 : S16384x1024.Idx → EReal) = aO V := by
    funext j; idx_vars j; exact v4_at V _ _
  rw [v49_eq (after opsA V) _ _ _ _ _ rfl eq ek ev eo]
  exact comp_at _ _ _ _ _ i e fun j => v26_at V i j

end Cert.ReferenceIdeal.My

end
-- ==== Proof.My.Equation.lean ====
/- The kernel's value and the reference's are one. -/
module

public import proofs.«01_k».proof.Proof.My.Host
public import proofs.«01_k».proof.Proof.My.RefAt
public import Idealize.ShloMosaic.Lib.LayoutAt
public import Idealize.ShloMosaic.Lib.Pipeline.ValueKit.Acc

@[expose] public section

set_option maxRecDepth 16384

noncomputable section

namespace Cert.Proof

open Idealize.ShloMosaic Idealize.ShloMosaic.TcCoe
open Cert.Spec
open scoped BigOperators
open Cert.KernelIdeal.My (scoreK attK)
open Cert.ReferenceIdeal.My (scoreR attR qry qry_at entry)

/-! ## One head -/

section Head

variable (X : Cert.ReferenceIdeal.S1x2048x1024.Idx → EReal) (Q : Cert.ReferenceIdeal.S1024x16384.Idx → EReal)
  (K W : Cert.ReferenceIdeal.S1x2048x128x128.Idx → EReal)
  (x : Cert.KernelIdeal.S2048x1024.Idx → EReal) (wq : Cert.KernelIdeal.S1024x1024.Idx → EReal) (k v : Cert.KernelIdeal.S8x2048x128.Idx → EReal)
  (d : Fin 16)
  (hx : ∀ i l, x (ix2 i l) = X (ix3 0 i l))
  (hq : ∀ l (n : Fin 1024), wq (ix2 l n) = Q (ix2 l ⟨d.val * 1024 + n.val, by omega⟩))
  (hk : ∀ (t : Fin 8) j e, k (ix3 t j e) = K (ix4 0 j ⟨8 * d.val + t.val, by omega⟩ e))
  (hv : ∀ (t : Fin 8) j e, v (ix3 t j e) = W (ix4 0 j ⟨8 * d.val + t.val, by omega⟩ e))
  (rX : ∀ j, ∃ r : ℝ, X j = r) (rQ : ∀ j, ∃ r : ℝ, Q j = r) (rK : ∀ j, ∃ r : ℝ, K j = r)

include hx hq hk in
/-- The scale may be applied to the queries or to the scores. -/
theorem score_eq (i : Fin 2048) (t : Fin 8) (j : Fin 2048) :
    scoreK x wq k i t j = scoreR (qry X Q) K i ⟨8 * d.val + t.val, by omega⟩ j := by
  obtain ⟨s, hs0, hs⟩ := scale_real
  unfold scoreK scoreR
  rw [hs, sum_mul_real _ _ _ hs0]
  refine Finset.sum_congr rfl fun e _ => ?_
  rw [qry_at, hk, mul_right_comm]
  congr 2
  refine Finset.sum_congr rfl fun l _ => ?_
  rw [hx, hq]
  congr 3
  exact Fin.ext (by show d.val * 1024 + (128 * t.val + e.val) = (8 * d.val + t.val) * 128 + e.val; ring)

include rX rQ rK in
theorem score_real (i : Fin 2048) (h : Fin 128) (j : Fin 2048) : ∃ r : ℝ, scoreR (qry X Q) K i h j = r := by
  obtain ⟨s, _, hs⟩ := scale_real
  obtain ⟨r, hr⟩ := dot_real (fun e : Fin 128 => qry X Q (ix4 0 i h e)) (fun e => K (ix4 0 j h e))
    (fun e => dot_real (fun l : Fin 1024 => X (ix3 0 i l)) (fun l => Q (ix2 l ⟨h.val * 128 + e.val, by omega⟩)) (fun l => rX _) fun l => rQ _) fun e => rK _
  refine ⟨r * s, ?_⟩
  unfold scoreR
  rw [hr, hs, EReal.coe_mul]

include hx hq hk hv rX rQ rK in
theorem att_eq (i : Fin 2048) (t : Fin 8) (e : Fin 128) :
    attK x wq k v i t e = attR (qry X Q) K W i ⟨8 * d.val + t.val, by omega⟩ e := by
  have es : scoreK x wq k i t = scoreR (qry X Q) K i ⟨8 * d.val + t.val, by omega⟩ :=
    funext fun j => score_eq X Q K x wq k d hx hq hk i t j
  unfold attK attR
  rw [es]
  simp only [hv]
  exact softmax_eq _ _ _ (fun j => score_real X Q K rX rQ rK i _ j) ⟨0, by decide⟩ (keep_zero i.val)

end Head

/-! ## All heads -/

theorem tiles_q : Layout.Tiles ⟨2, ![1024, 1024]⟩ ⟨2, ![1024, 16384]⟩ 1 16 := by decide
theorem tiles_o : Layout.Tiles ⟨2, ![1024, 1024]⟩ ⟨2, ![16384, 1024]⟩ 0 16 := by decide

section Whole

open Cert.KernelIdeal (nD τ sig main_arg0 main_arg1 main_arg2 main_arg3 main_arg4 main_v17 main_v18 main_v19 main_v21)
open Cert.KernelIdeal.My Cert.KernelIdeal.Gen

variable (m : (ℓ : Loc nD τ sig) → Buf (Elt Ideal) ℓ)
  (X : Cert.ReferenceIdeal.S1x2048x1024.Idx → EReal) (Q : Cert.ReferenceIdeal.S1024x16384.Idx → EReal)
  (K W : Cert.ReferenceIdeal.S1x2048x128x128.Idx → EReal) (O : Cert.ReferenceIdeal.S16384x1024.Idx → EReal)
  (h0 : ∀ c : Dev nD, (m ((c.tc : Thread nD τ).loc main_arg0) : Cert.KernelIdeal.S1x2048x1024.Idx → EReal) = X)
  (h1 : ∀ c : Dev nD, (m ((c.tc : Thread nD τ).loc main_arg1) : Cert.KernelIdeal.S1024x1024.Idx → EReal) = Layout.block ⟨2, ![1024, 1024]⟩ ⟨2, ![1024, 16384]⟩ 1 16 c Q tiles_q)
  (h2 : ∀ c : Dev nD, (m ((c.tc : Thread nD τ).loc main_arg2) : Cert.KernelIdeal.S1x2048x128x128.Idx → EReal) = K)
  (h3 : ∀ c : Dev nD, (m ((c.tc : Thread nD τ).loc main_arg3) : Cert.KernelIdeal.S1x2048x128x128.Idx → EReal) = W)
  (h4 : ∀ c : Dev nD, (m ((c.tc : Thread nD τ).loc main_arg4) : Cert.KernelIdeal.S1024x1024.Idx → EReal) = Layout.block ⟨2, ![1024, 1024]⟩ ⟨2, ![16384, 1024]⟩ 0 16 c O tiles_o)
  (rX : ∀ j, ∃ r : ℝ, X j = r) (rQ : ∀ j, ∃ r : ℝ, Q j = r) (rK : ∀ j, ∃ r : ℝ, K j = r)

theorem blockQ_at (c : Fin 16) (l n : Fin 1024) : (Layout.block ⟨2, ![1024, 1024]⟩ ⟨2, ![1024, 16384]⟩ 1 16 c Q tiles_q) (ix2 l n)
    = Q (ix2 l ⟨c.val * 1024 + n.val, by omega⟩) := by
  rw [Layout.block_apply]
  shard_ext

theorem blockO_at (c : Fin 16) (n e : Fin 1024) : (Layout.block ⟨2, ![1024, 1024]⟩ ⟨2, ![16384, 1024]⟩ 0 16 c O tiles_o) (ix2 n e)
    = O (ix2 ⟨c.val * 1024 + n.val, by omega⟩ e) := by
  rw [Layout.block_apply]
  shard_ext

/-- Every entry of the query weights lies on some device. -/
theorem weights_real (A : Fin 16 → Cert.KernelIdeal.S1024x1024.Idx → EReal) (hA : ∀ c, A c = Layout.block ⟨2, ![1024, 1024]⟩ ⟨2, ![1024, 16384]⟩ 1 16 c Q tiles_q)
    (h : ∀ c j, ∃ r : ℝ, A c j = r) :
    ∀ j, ∃ r : ℝ, Q j = r := fun j => by
  idx_vars j
  obtain ⟨r, hr⟩ := h (⟨j1.val / 1024, by omega⟩ : Fin 16) (ix2 j0 ⟨j1.val % 1024, by omega⟩)
  rw [hA, blockQ_at] at hr
  refine ⟨r, hr ▸ congrArg (fun z => Q (ix2 j0 z)) (Fin.ext ?_)⟩
  show j1.val = j1.val / 1024 * 1024 + j1.val % 1024
  omega

include h0 h1 h2 h3 h4 rX rQ rK in
theorem kernel_at (c : Dev nD) (i : Fin 2048) (e : Fin 1024) :
    (V3 m (outs m) c main_v21 : Cert.KernelIdeal.S1x2048x1024.Idx → EReal) (ix3 0 i e)
      = entry X Q K W O i e := by
  refine (v21_at m c i e).trans ?_
  have hc : ∀ d : Dev nD, (cvOf (opsOf m) d (i.val / 128) (ix3 0 ⟨i.val % 128, Nat.mod_lt _ (by decide)⟩ e) : EReal)
      = ∑ n : Fin 1024, attK (opsOf m d).x (opsOf m d).wq (opsOf m d).k (opsOf m d).v ⟨128 * (i.val / 128) + i.val % 128, by omega⟩ ⟨n.val / 128, by omega⟩ ⟨n.val % 128, by omega⟩
          * ((opsOf m d).wo : Cert.KernelIdeal.S1024x1024.Idx → EReal) (ix2 n e) := fun d => cvOf_apply (opsOf m) d _ (by omega) _ e
  refine (Finset.sum_congr rfl fun d _ => hc d).trans ?_
  refine Fin.sum_mul_add_congr (M := EReal) (S := 16) (n := 1024) fun d n hl => ?_
  have ha : ∀ (t : Fin 8) (u : Fin 128), attK (opsOf m d).x (opsOf m d).wq (opsOf m d).k (opsOf m d).v i t u
      = attR (qry X Q) K W i ⟨8 * d.val + t.val, by omega⟩ u :=
    att_eq X Q K W _ _ _ _ d
      (fun i l => (v19_at m d i l).trans (congrFun (h0 d) _))
      (fun l n => (congrFun ((V1_of m d main_arg1 (by decide)).trans (h1 d)) _).trans (blockQ_at Q d l n))
      (fun t j e => (v17_at m d t j e).trans (congrFun (h2 d) _))
      (fun t j e => (v18_at m d t j e).trans (congrFun (h3 d) _)) rX rQ rK i
  have hi : (⟨128 * (i.val / 128) + i.val % 128, by omega⟩ : Fin 2048) = i := Fin.ext (by show 128 * (i.val / 128) + i.val % 128 = i.val; omega)
  have ho : ((opsOf m d).wo : Cert.KernelIdeal.S1024x1024.Idx → EReal) (ix2 n e) = O (ix2 ⟨d.val * 1024 + n.val, hl⟩ e) :=
    (congrFun ((V1_of m d main_arg4 (by decide)).trans (h4 d)) _).trans (blockO_at O d n e)
  rw [ho]
  refine congrArg (fun z : EReal => z * O (ix2 ⟨d.val * 1024 + n.val, hl⟩ e)) ?_
  refine (congrArg (fun z => attK (opsOf m d).x (opsOf m d).wq (opsOf m d).k (opsOf m d).v z _ _) hi).trans ((ha _ _).trans ?_)
  congr 1
  · exact Fin.ext (by show 8 * d.val + n.val / 128 = (d.val * 1024 + n.val) / 128; omega)
  · exact Fin.ext (by show n.val % 128 = (d.val * 1024 + n.val) % 128; omega)

end Whole

end Cert.Proof

end
-- ==== Proof.My.Finite.lean ====
/- What the precondition says: the arrays it reads hold real numbers. -/
module

public import proofs.«01_k».proof.Defs
public import Idealize.ShloMosaic.Lib.ReduceAll
public import Idealize.ShloMosaic.Lib.Pointwise

@[expose] public section

set_option maxRecDepth 16384

noncomputable section

namespace Cert.Proof

open Idealize.ShloMosaic

instance facts_pre : Cert.Pre_finite_scores_KernelIdeal.Facts := ⟨by decide, by decide, by decide, by decide, by decide, by decide, by decide⟩
instance facts_pre' : Cert.Pre_finite_scores_ReferenceIdeal.Facts := ⟨by decide, by decide, by decide, by decide, by decide, by decide, by decide⟩

theorem pos_inf : Ideal.ofBits .bf16 0x7F80#16 = ⊤ := by
  have e1 : ((0x7F80#16).extractLsb' 7 8).toNat = 255 := by decide
  have e2 : ((0x7F80#16).extractLsb' 0 7).toNat = 0 := by decide
  have e3 : ((0x7F80#16).extractLsb' (8 + 7) 1 == 1#1) = false := by decide
  simp only [Ideal.ofBits, Ideal.ieee, e1, e2, e3, ↓reduceIte]
  norm_num

/-- A value whose magnitude is below infinity is a real number. -/
theorem real_of_lt (a : EReal) (h : max a (-a) < ⊤) : ∃ r : ℝ, a = r := by
  induction a with
  | bot => simp at h
  | coe r => exact ⟨r, rfl⟩
  | top => simp at h

theorem real_of_all {s : Shape} {axes : List (Fin s.rank)} (x : s.Idx → EReal) (b : Cert.Pre_finite_scores_KernelIdeal.S_.BroadcastsInDim s (![] : Fin 0 → Fin s.rank))
    (h : s.ReducesTo axes Cert.Pre_finite_scores_KernelIdeal.S_) (hu : 0 < Cert.Pre_finite_scores_KernelIdeal.S_.numel) (j : Cert.Pre_finite_scores_KernelIdeal.S_.Idx)
    (e : Host.reduce IntOp.andi (cmpf .olt (Host.absf (F := Ideal) (φ := .bf16) x) (broadcastInDim s ![] b (constant Cert.Pre_finite_scores_KernelIdeal.S_ .bf16 0x7F80#16)))
      (constantI Cert.Pre_finite_scores_KernelIdeal.S_ 1 1#1) h hu j = 1#1) (i : s.Idx) : ∃ r : ℝ, x i = r := by
  haveI : Subsingleton Cert.Pre_finite_scores_KernelIdeal.S_.Idx := ⟨fun a b => funext fun k => k.elim0⟩
  have := Host.reduce_andi_all _ _ _ _ j e i
  refine real_of_lt _ ?_
  rw [← pos_inf]
  have h2 : BitVec.ofBool (decide (max (x i) (-(x i)) < Ideal.ofBits .bf16 0x7F80#16)) = 1#1 := this
  by_contra hn
  rw [decide_eq_false hn] at h2
  exact absurd h2 (by decide)

theorem real_args (a0 : FVec Ideal Cert.Pre_finite_scores_KernelIdeal.S1x2048x1024 .bf16) (a1 : FVec Ideal Cert.Pre_finite_scores_KernelIdeal.S1024x1024 .bf16)
    (a2 a3 : FVec Ideal Cert.Pre_finite_scores_KernelIdeal.S1x2048x128x128 .bf16) (a4 : FVec Ideal Cert.Pre_finite_scores_KernelIdeal.S1024x1024 .bf16)
    (h : Cert.Pre_finite_scores_KernelIdeal.fn (F := Ideal) a0 a1 a2 a3 a4 = fun _ => 1#1) :
    (∀ i, ∃ r : ℝ, (a0 i : EReal) = r) ∧ (∀ i, ∃ r : ℝ, (a1 i : EReal) = r) ∧ ∀ i, ∃ r : ℝ, (a2 i : EReal) = r := by
  have e := congrFun h (fun k => k.elim0)
  unfold Cert.Pre_finite_scores_KernelIdeal.fn at e
  obtain ⟨e01, e2⟩ := IntOp.andi_eq_one.1 e
  obtain ⟨e0, e1⟩ := IntOp.andi_eq_one.1 e01
  exact ⟨real_of_all _ _ _ _ _ e0, real_of_all _ _ _ _ _ e1, real_of_all _ _ _ _ _ e2⟩

end Cert.Proof

end
-- ==== Proof.lean ====
/- The proof of the claims of Defs.lean: every program runs and ends quiet with its arguments unchanged,
   and on finite scores the kernel's result is the reference's. -/
module

public import proofs.«01_k».proof.Defs
public import proofs.«01_k».proof.Proof.My.Whole
public import proofs.«01_k».proof.Proof.MyK.Whole
public import proofs.«01_k».proof.Proof.My.RefRun
public import proofs.«01_k».proof.Proof.My.Equation
public import proofs.«01_k».proof.Proof.My.Finite
public import Idealize.ShloMosaic.Lib.Quiescent

@[expose] public section

noncomputable section

namespace Cert.Proof

open Idealize.ShloMosaic Idealize.ShloMosaic.TcCoe Idealize.SL.Sem

theorem frame_kernel : Cert.quiescent_Kernel := fun m g _ =>
  (θ_run Cert.Kernel.defs _ _).mono (fun r h => ⟨fun c => (h.1 c).2, h.2⟩) (Cert.Kernel.My.run_all (F := Bits) m g)

theorem frame_ideal : Cert.quiescent_KernelIdeal := fun m g _ =>
  (θ_run Cert.KernelIdeal.defs _ _).mono (fun r h => ⟨fun c => (h.1 c).2, h.2⟩) (Cert.KernelIdeal.My.run_all (F := Ideal) m g)

theorem frame_reference : Cert.quiescent_ReferenceIdeal := fun m g _ =>
  (θ_run Cert.ReferenceIdeal.defs _ _).mono
    (fun r h => ⟨fun c => ⟨(h c Cert.ReferenceIdeal.main_arg0).trans (Cert.ReferenceIdeal.My.arg0_eq _), (h c Cert.ReferenceIdeal.main_arg1).trans (Cert.ReferenceIdeal.My.arg1_eq _),
      (h c Cert.ReferenceIdeal.main_arg2).trans (Cert.ReferenceIdeal.My.arg2_eq _), (h c Cert.ReferenceIdeal.main_arg3).trans (Cert.ReferenceIdeal.My.arg3_eq _),
      (h c Cert.ReferenceIdeal.main_arg4).trans (Cert.ReferenceIdeal.My.arg4_eq _)⟩, sem_eq_zero_of_no_sems (by decide) r.2⟩)
    (Cert.ReferenceIdeal.My.run_all (F := Ideal) m g)

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Pre_KernelIdeal_finite_scores_KernelIdeal m)
    (h : ∀ c : Dev Cert.KernelIdeal.nD,
      m ((c.tc : Thread Cert.KernelIdeal.nD Cert.KernelIdeal.τ).loc Cert.KernelIdeal.main_arg0) = StableHlo.launchContents m' 0 Cert.ReferenceIdeal.main_arg0
      ∧ m ((c.tc : Thread Cert.KernelIdeal.nD Cert.KernelIdeal.τ).loc Cert.KernelIdeal.main_arg1) = Layout.block ⟨2, ![1024, 1024]⟩ ⟨2, ![1024, 16384]⟩ 1 16 c (StableHlo.launchContents m' 0 Cert.ReferenceIdeal.main_arg1)
      ∧ m ((c.tc : Thread Cert.KernelIdeal.nD Cert.KernelIdeal.τ).loc Cert.KernelIdeal.main_arg2) = StableHlo.launchContents m' 0 Cert.ReferenceIdeal.main_arg2
      ∧ m ((c.tc : Thread Cert.KernelIdeal.nD Cert.KernelIdeal.τ).loc Cert.KernelIdeal.main_arg3) = StableHlo.launchContents m' 0 Cert.ReferenceIdeal.main_arg3
      ∧ m ((c.tc : Thread Cert.KernelIdeal.nD Cert.KernelIdeal.τ).loc Cert.KernelIdeal.main_arg4) = Layout.block ⟨2, ![1024, 1024]⟩ ⟨2, ![16384, 1024]⟩ 0 16 c (StableHlo.launchContents m' 0 Cert.ReferenceIdeal.main_arg4))
    (c : Dev Cert.KernelIdeal.nD) :
    (Cert.KernelIdeal.Gen.V3 m (Cert.KernelIdeal.My.outs m) c (Cert.KernelIdeal.main_v21 : DevRef Cert.KernelIdeal.τ Cert.KernelIdeal.sig) : Cert.KernelIdeal.S1x2048x1024.Idx → EReal)
      = (StableHlo.after Cert.ReferenceIdeal.My.opsB (StableHlo.after Cert.ReferenceIdeal.My.opsA (StableHlo.launchContents m' 0)) Cert.ReferenceIdeal.main_v49) := by
  have hr := fun c => real_args _ _ _ _ _ (hp c)
  funext j
  idx_vars j
  obtain rfl : j0 = 0 := Subsingleton.elim _ _
  refine (kernel_at m _ _ _ _ _ (fun c => (h c).1) (fun c => (h c).2.1) (fun c => (h c).2.2.1) (fun c => (h c).2.2.2.1) (fun c => (h c).2.2.2.2)
    ?_ ?_ ?_ c j1 j2).trans (Cert.ReferenceIdeal.My.ref_at (StableHlo.launchContents m' 0) j1 j2).symm
  · exact fun j => (h 0).1 ▸ (hr 0).1 j
  · exact weights_real _ (fun c : Dev Cert.KernelIdeal.nD => m ((c.tc : Thread Cert.KernelIdeal.nD Cert.KernelIdeal.τ).loc Cert.KernelIdeal.main_arg1)) (fun c => (h c).2.1) fun c => (hr c).2.1
  · exact fun j => (h 0).2.2.1 ▸ (hr 0).2.2 j

theorem algebraic : Cert.algebraic_KernelIdeal_ReferenceIdeal_pre_finite_scores_KernelIdeal := fun m g m' g' hp h =>
  ⟨StableHlo.after Cert.ReferenceIdeal.My.opsB (StableHlo.after Cert.ReferenceIdeal.My.opsA (StableHlo.launchContents m' 0)) Cert.ReferenceIdeal.main_v49,
    (θ_run Cert.KernelIdeal.defs _ _).mono (fun r hr c => ⟨(hr.1 c).1.trans (result_eq m m' hp h c), (hr.1 c).2⟩) (Cert.KernelIdeal.My.run_all (F := Ideal) m g),
    (θ_run Cert.ReferenceIdeal.defs _ _).mono
      (fun r hr => ⟨hr 0 Cert.ReferenceIdeal.main_v49, (hr 0 Cert.ReferenceIdeal.main_arg0).trans (Cert.ReferenceIdeal.My.arg0_eq _),
        (hr 0 Cert.ReferenceIdeal.main_arg1).trans (Cert.ReferenceIdeal.My.arg1_eq _), (hr 0 Cert.ReferenceIdeal.main_arg2).trans (Cert.ReferenceIdeal.My.arg2_eq _),
        (hr 0 Cert.ReferenceIdeal.main_arg3).trans (Cert.ReferenceIdeal.My.arg3_eq _), (hr 0 Cert.ReferenceIdeal.main_arg4).trans (Cert.ReferenceIdeal.My.arg4_eq _)⟩)
      (Cert.ReferenceIdeal.My.run_all (F := Ideal) m' g')⟩

theorem claim : Cert.Claim :=
  ⟨Cert.Kernel.Gen.facts, Cert.KernelIdeal.Gen.facts, Cert.ReferenceIdeal.Gen.facts, facts_pre, facts_pre', frame_kernel, frame_ideal,
    fun m g _ => frame_ideal m g trivial, frame_reference, fun m g _ => frame_reference m g trivial, trivial, algebraic⟩

end Cert.Proof

end
